-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_codebooks [hPre_finite_codebooks : Cert.Pre_finite_codebooks.Facts] (m : (ℓ : Loc Cert.KernelIdeal.nD Cert.KernelIdeal.τ Cert.KernelIdeal.sig) → Buf (Elt Ideal) ℓ) : Prop :=
  ∀ c : Dev Cert.KernelIdeal.nD,
    (Cert.Pre_finite_codebooks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_codebooks [hPre_finite_codebooks : Cert.Pre_finite_codebooks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_codebooks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_codebooks [hKernelIdeal : Cert.KernelIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_codebooks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_codebooks [hReferenceIdeal : Cert.ReferenceIdeal.Facts] [hPre_finite_codebooks : Cert.Pre_finite_codebooks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_codebooks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "loss_scale" .f32 0x35A05028#32 ((5 / 4186112 : ℝ) : EReal)

def algebraic_KernelIdeal_ReferenceIdeal_pre_finite_codebooks [hKernelIdeal : Cert.KernelIdeal.Facts] [hReferenceIdeal : Cert.ReferenceIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_codebooks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_codebooks : Cert.Pre_finite_codebooks.Facts),
    quiescent_Kernel (hKernel := hKernel)
    ∧ quiescent_KernelIdeal (hKernelIdeal := hKernelIdeal)
    ∧ quiescent_KernelIdeal_pre_finite_codebooks (hKernelIdeal := hKernelIdeal) (hPre_finite_codebooks := hPre_finite_codebooks)
    ∧ quiescent_ReferenceIdeal (hReferenceIdeal := hReferenceIdeal)
    ∧ quiescent_ReferenceIdeal_pre_finite_codebooks (hReferenceIdeal := hReferenceIdeal) (hPre_finite_codebooks := hPre_finite_codebooks)
    ∧ preserves_Kernel_KernelIdeal
    ∧ algebraic_KernelIdeal_ReferenceIdeal_pre_finite_codebooks (hKernelIdeal := hKernelIdeal) (hReferenceIdeal := hReferenceIdeal) (hPre_finite_codebooks := hPre_finite_codebooks)
-- ==== Pre_finite_codebooks.lean ====
abbrev S16x64x4096 : Shape := ⟨3, ![16, 64, 4096]⟩
abbrev S8x1024x64 : Shape := ⟨3, ![8, 1024, 64]⟩
abbrev S128x64x1 : Shape := ⟨3, ![128, 64, 1]⟩
abbrev S128 : Shape := ⟨1, ![128]⟩
abbrev S256x128x4 : Shape := ⟨3, ![256, 128, 4]⟩
abbrev S256 : Shape := ⟨1, ![256]⟩
abbrev S512x256x4 : Shape := ⟨3, ![512, 256, 4]⟩
abbrev S512 : Shape := ⟨1, ![512]⟩
abbrev S64x512x1 : Shape := ⟨3, ![64, 512, 1]⟩
abbrev S64 : Shape := ⟨1, ![64]⟩
abbrev S_ : Shape := ⟨0, ![]⟩

class Facts : Prop where
  bcast_S_S8x1024x64 : S_.BroadcastsInDim S8x1024x64 (![] : Fin 0 → Fin S8x1024x64.rank)

variable [Facts]

def fn {F : FTy → Type} [FloatOps F] (main_arg0 : FVec F S16x64x4096 .f32) (main_arg1 : FVec F S8x1024x64 .f32) (main_arg2 : FVec F S128x64x1 .f32) (main_arg3 : FVec F S128 .f32) (main_arg4 : FVec F S256x128x4 .f32) (main_arg5 : FVec F S256 .f32) (main_arg6 : FVec F S512x256x4 .f32) (main_arg7 : FVec F S512 .f32) (main_arg8 : FVec F S64x512x1 .f32) (main_arg9 : FVec F S64 .f32) (main_arg10 : FVec F S64x512x1 .f32) (main_arg11 : FVec F S512 .f32) (main_arg12 : FVec F S512x256x4 .f32) (main_arg13 : FVec F S256 .f32) (main_arg14 : FVec F S256x128x4 .f32) (main_arg15 : FVec F S128 .f32) (main_arg16 : FVec F S128x64x1 .f32) (main_arg17 : FVec F S64 .f32) : IVec S8x1024x64 1 :=
  let main_v0 : FVec F S8x1024x64 .f32 := Host.absf main_arg1
  let main_cst : FVec F S_ .f32 := constant S_ .f32 0x7F800000#32
  let main_v1 : FVec F S8x1024x64 .f32 := broadcastInDim S8x1024x64 ![] bcast_S_S8x1024x64 main_cst
  let main_v2 : IVec S8x1024x64 1 := cmpf .olt main_v0 main_v1
  main_v2
-- ==== Kernel.lean ====
abbrev S16x64x4096 : Shape := ⟨3, ![16, 64, 4096]⟩
abbrev S8x1024x64 : Shape := ⟨3, ![8, 1024, 64]⟩
abbrev S128x64x1 : Shape := ⟨3, ![128, 64, 1]⟩
abbrev S128 : Shape := ⟨1, ![128]⟩
abbrev S256x128x4 : Shape := ⟨3, ![256, 128, 4]⟩
abbrev S256 : Shape := ⟨1, ![256]⟩
abbrev S512x256x4 : Shape := ⟨3, ![512, 256, 4]⟩
abbrev S512 : Shape := ⟨1, ![512]⟩
abbrev S64x512x1 : Shape := ⟨3, ![64, 512, 1]⟩
abbrev S64 : Shape := ⟨1, ![64]⟩
abbrev S128x64 : Shape := ⟨2, ![128, 64]⟩
abbrev S64x128 : Shape := ⟨2, ![64, 128]⟩
abbrev S4x128x256 : Shape := ⟨3, ![4, 128, 256]⟩
abbrev S512x256 : Shape := ⟨2, ![512, 256]⟩
abbrev S4x256x512 : Shape := ⟨3, ![4, 256, 512]⟩
abbrev S1024x512 : Shape := ⟨2, ![1024, 512]⟩
abbrev S64x512 : Shape := ⟨2, ![64, 512]⟩
abbrev S512x64 : Shape := ⟨2, ![512, 64]⟩
abbrev S512x256x1 : Shape := ⟨3, ![512, 256, 1]⟩
abbrev S256x128x1 : Shape := ⟨3, ![256, 128, 1]⟩
abbrev S256x128 : Shape := ⟨2, ![256, 128]⟩
abbrev S1x128 : Shape := ⟨2, ![1, 128]⟩
abbrev S1x256 : Shape := ⟨2, ![1, 256]⟩
abbrev S1x512 : Shape := ⟨2, ![1, 512]⟩
abbrev S1x64 : Shape := ⟨2, ![1, 64]⟩
abbrev S16x64x1024 : Shape := ⟨3, ![16, 64, 1024]⟩
abbrev S1x1 : Shape := ⟨2, ![1, 1]⟩
abbrev S1x64x4096 : Shape := ⟨3, ![1, 64, 4096]⟩
abbrev S1x64x1024 : Shape := ⟨3, ![1, 64, 1024]⟩
abbrev S64x4096 : Shape := ⟨2, ![64, 4096]⟩
abbrev S4096x64 : Shape := ⟨2, ![4096, 64]⟩
abbrev S4096x128 : Shape := ⟨2, ![4096, 128]⟩
abbrev S2048x256 : Shape := ⟨2, ![2048, 256]⟩
abbrev S2048x512 : Shape := ⟨2, ![2048, 512]⟩
abbrev S1024x1024 : Shape := ⟨2, ![1024, 1024]⟩
abbrev S1024x64 : Shape := ⟨2, ![1024, 64]⟩
abbrev S8x1024x192 : Shape := ⟨3, ![8, 1024, 192]⟩
abbrev S8x1024 : Shape := ⟨2, ![8, 1024]⟩
abbrev S1024x1 : Shape := ⟨2, ![1024, 1]⟩
abbrev S1x1024x64 : Shape := ⟨3, ![1, 1024, 64]⟩
abbrev S1x1024 : Shape := ⟨2, ![1, 1024]⟩
abbrev S1024 : Shape := ⟨1, ![1024]⟩
abbrev S1x1024x192 : Shape := ⟨3, ![1, 1024, 192]⟩
abbrev S1024x192 : Shape := ⟨2, ![1024, 192]⟩
abbrev S1 : Shape := ⟨1, ![1]⟩
abbrev S1x1x1 : Shape := ⟨3, ![1, 1, 1]⟩
abbrev S1024x256 : Shape := ⟨2, ![1024, 256]⟩
abbrev S1024x128 : Shape := ⟨2, ![1024, 128]⟩
abbrev S64x1024 : Shape := ⟨2, ![64, 1024]⟩
abbrev S16x64x1024x1 : Shape := ⟨4, ![16, 64, 1024, 1]⟩
abbrev S16x64x1024x4 : Shape := ⟨4, ![16, 64, 1024, 4]⟩
abbrev S16x64x4094 : Shape := ⟨3, ![16, 64, 4094]⟩
abbrev S_ : Shape := ⟨0, ![]⟩

abbrev nBuf : Space → Nat
  | .hbm => 79
  | .vmem => 33
  | .smem => 1
  | _ => 0

abbrev bufTy : (tb : Table) → Fin (tcTables nBuf tb) → BufTy
  | .hbm, ⟨0, _⟩ => ⟨S16x64x4096, .f32⟩
  | .hbm, ⟨1, _⟩ => ⟨S8x1024x64, .f32⟩
  | .hbm, ⟨2, _⟩ => ⟨S128x64x1, .f32⟩
  | .hbm, ⟨3, _⟩ => ⟨S128, .f32⟩
  | .hbm, ⟨4, _⟩ => ⟨S256x128x4, .f32⟩
  | .hbm, ⟨5, _⟩ => ⟨S256, .f32⟩
  | .hbm, ⟨6, _⟩ => ⟨S512x256x4, .f32⟩
  | .hbm, ⟨7, _⟩ => ⟨S512, .f32⟩
  | .hbm, ⟨8, _⟩ => ⟨S64x512x1, .f32⟩
  | .hbm, ⟨9, _⟩ => ⟨S64, .f32⟩
  | .hbm, ⟨10, _⟩ => ⟨S64x512x1, .f32⟩
  | .hbm, ⟨11, _⟩ => ⟨S512, .f32⟩
  | .hbm, ⟨12, _⟩ => ⟨S512x256x4, .f32⟩
  | .hbm, ⟨13, _⟩ => ⟨S256, .f32⟩
  | .hbm, ⟨14, _⟩ => ⟨S256x128x4, .f32⟩
  | .hbm, ⟨15, _⟩ => ⟨S128, .f32⟩
  | .hbm, ⟨16, _⟩ => ⟨S128x64x1, .f32⟩
  | .hbm, ⟨17, _⟩ => ⟨S64, .f32⟩
  | .hbm, ⟨18, _⟩ => ⟨S128x64, .f32⟩
  | .hbm, ⟨19, _⟩ => ⟨S64x128, .f32⟩
  | .hbm, ⟨20, _⟩ => ⟨S64x128, .bf16⟩
  | .hbm, ⟨21, _⟩ => ⟨S4x128x256, .f32⟩
  | .hbm, ⟨22, _⟩ => ⟨S512x256, .f32⟩
  | .hbm, ⟨23, _⟩ => ⟨S512x256, .bf16⟩
  | .hbm, ⟨24, _⟩ => ⟨S4x256x512, .f32⟩
  | .hbm, ⟨25, _⟩ => ⟨S1024x512, .f32⟩
  | .hbm, ⟨26, _⟩ => ⟨S1024x512, .bf16⟩
  | .hbm, ⟨27, _⟩ => ⟨S64x512, .f32⟩
  | .hbm, ⟨28, _⟩ => ⟨S512x64, .f32⟩
  | .hbm, ⟨29, _⟩ => ⟨S512x64, .bf16⟩
  | .hbm, ⟨30, _⟩ => ⟨S64x512, .f32⟩
  | .hbm, ⟨31, _⟩ => ⟨S64x512, .bf16⟩
  | .hbm, ⟨32, _⟩ => ⟨S512x256x1, .f32⟩
  | .hbm, ⟨33, _⟩ => ⟨S512x256, .f32⟩
  | .hbm, ⟨34, _⟩ => ⟨S512x256, .bf16⟩
  | .hbm, ⟨35, _⟩ => ⟨S512x256x1, .f32⟩
  | .hbm, ⟨36, _⟩ => ⟨S512x256, .f32⟩
  | .hbm, ⟨37, _⟩ => ⟨S512x256, .bf16⟩
  | .hbm, ⟨38, _⟩ => ⟨S512x256x1, .f32⟩
  | .hbm, ⟨39, _⟩ => ⟨S512x256, .f32⟩
  | .hbm, ⟨40, _⟩ => ⟨S512x256, .bf16⟩
  | .hbm, ⟨41, _⟩ => ⟨S512x256x1, .f32⟩
  | .hbm, ⟨42, _⟩ => ⟨S512x256, .f32⟩
  | .hbm, ⟨43, _⟩ => ⟨S512x256, .bf16⟩
  | .hbm, ⟨44, _⟩ => ⟨S256x128x1, .f32⟩
  | .hbm, ⟨45, _⟩ => ⟨S256x128, .f32⟩
  | .hbm, ⟨46, _⟩ => ⟨S256x128, .bf16⟩
  | .hbm, ⟨47, _⟩ => ⟨S256x128x1, .f32⟩
  | .hbm, ⟨48, _⟩ => ⟨S256x128, .f32⟩
  | .hbm, ⟨49, _⟩ => ⟨S256x128, .bf16⟩
  | .hbm, ⟨50, _⟩ => ⟨S256x128x1, .f32⟩
  | .hbm, ⟨51, _⟩ => ⟨S256x128, .f32⟩
  | .hbm, ⟨52, _⟩ => ⟨S256x128, .bf16⟩
  | .hbm, ⟨53, _⟩ => ⟨S256x128x1, .f32⟩
  | .hbm, ⟨54, _⟩ => ⟨S256x128, .f32⟩
  | .hbm, ⟨55, _⟩ => ⟨S256x128, .bf16⟩
  | .hbm, ⟨56, _⟩ => ⟨S128x64, .f32⟩
  | .hbm, ⟨57, _⟩ => ⟨S128x64, .bf16⟩
  | .hbm, ⟨58, _⟩ => ⟨S1x128, .f32⟩
  | .hbm, ⟨59, _⟩ => ⟨S1x256, .f32⟩
  | .hbm, ⟨60, _⟩ => ⟨S1x512, .f32⟩
  | .hbm, ⟨61, _⟩ => ⟨S1x64, .f32⟩
  | .hbm, ⟨62, _⟩ => ⟨S1x512, .f32⟩
  | .hbm, ⟨63, _⟩ => ⟨S1x256, .f32⟩
  | .hbm, ⟨64, _⟩ => ⟨S1x128, .f32⟩
  | .hbm, ⟨65, _⟩ => ⟨S1x64, .f32⟩
  | .hbm, ⟨66, _⟩ => ⟨S16x64x1024, .f32⟩
  | .hbm, ⟨67, _⟩ => ⟨S16x64x1024, .f32⟩
  | .hbm, ⟨68, _⟩ => ⟨S16x64x1024, .f32⟩
  | .hbm, ⟨69, _⟩ => ⟨S16x64x1024, .f32⟩
  | .hbm, ⟨70, _⟩ => ⟨S1x1, .f32⟩
  | .hbm, ⟨71, _⟩ => ⟨S16x64x1024x1, .f32⟩
  | .hbm, ⟨72, _⟩ => ⟨S16x64x1024x1, .f32⟩
  | .hbm, ⟨73, _⟩ => ⟨S16x64x1024x1, .f32⟩
  | .hbm, ⟨74, _⟩ => ⟨S16x64x1024x1, .f32⟩
  | .hbm, ⟨75, _⟩ => ⟨S16x64x1024x4, .f32⟩
  | .hbm, ⟨76, _⟩ => ⟨S16x64x4096, .f32⟩
  | .hbm, ⟨77, _⟩ => ⟨S16x64x4094, .f32⟩
  | .hbm, ⟨78, _⟩ => ⟨S_, .f32⟩
  | .local _ .vmem, ⟨0, _⟩ => ⟨S1x64x4096, .f32⟩
  | .local _ .vmem, ⟨1, _⟩ => ⟨S1x64x4096, .f32⟩
  | .local _ .vmem, ⟨2, _⟩ => ⟨S64x128, .bf16⟩
  | .local _ .vmem, ⟨3, _⟩ => ⟨S1x128, .f32⟩
  | .local _ .vmem, ⟨4, _⟩ => ⟨S512x256, .bf16⟩
  | .local _ .vmem, ⟨5, _⟩ => ⟨S1x256, .f32⟩
  | .local _ .vmem, ⟨6, _⟩ => ⟨S1024x512, .bf16⟩
  | .local _ .vmem, ⟨7, _⟩ => ⟨S1x512, .f32⟩
  | .local _ .vmem, ⟨8, _⟩ => ⟨S512x64, .bf16⟩
  | .local _ .vmem, ⟨9, _⟩ => ⟨S1x64, .f32⟩
  | .local _ .vmem, ⟨10, _⟩ => ⟨S8x1024x64, .f32⟩
  | .local _ .vmem, ⟨11, _⟩ => ⟨S64x512, .bf16⟩
  | .local _ .vmem, ⟨12, _⟩ => ⟨S1x512, .f32⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S1x256, .f32⟩
  | .local _ .vmem, ⟨18, _⟩ => ⟨S256x128, .bf16⟩
  | .local _ .vmem, ⟨19, _⟩ => ⟨S256x128, .bf16⟩
  | .local _ .vmem, ⟨20, _⟩ => ⟨S256x128, .bf16⟩
  | .local _ .vmem, ⟨21, _⟩ => ⟨S256x128, .bf16⟩
  | .local _ .vmem, ⟨22, _⟩ => ⟨S1x128, .f32⟩
  | .local _ .vmem, ⟨23, _⟩ => ⟨S128x64, .bf16⟩
  | .local _ .vmem, ⟨24, _⟩ => ⟨S1x64, .f32⟩
  | .local _ .vmem, ⟨25, _⟩ => ⟨S1x64x1024, .f32⟩
  | .local _ .vmem, ⟨26, _⟩ => ⟨S1x64x1024, .f32⟩
  | .local _ .vmem, ⟨27, _⟩ => ⟨S1x64x1024, .f32⟩
  | .local _ .vmem, ⟨28, _⟩ => ⟨S1x64x1024, .f32⟩
  | .local _ .vmem, ⟨29, _⟩ => ⟨S1x64x1024, .f32⟩
  | .local _ .vmem, ⟨30, _⟩ => ⟨S1x64x1024, .f32⟩
  | .local _ .vmem, ⟨31, _⟩ => ⟨S1x64x1024, .f32⟩
  | .local _ .vmem, ⟨32, _⟩ => ⟨S1x64x1024, .f32⟩
  | .local _ .smem, ⟨0, _⟩ => ⟨S1x1, .f32⟩
  | _, _ => ⟨S16x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48_0 : Ref sig .tc := ⟨.hbm, 66, rfl⟩
abbrev main_v48_1 : Ref sig .tc := ⟨.hbm, 67, rfl⟩
abbrev main_v48_2 : Ref sig .tc := ⟨.hbm, 68, rfl⟩
abbrev main_v48_3 : Ref sig .tc := ⟨.hbm, 69, rfl⟩
abbrev main_v48_4 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg24_1 : Ref sig .tc := ⟨.vmem, 26, rfl⟩
abbrev cc0_stg25_0 : Ref sig .tc := ⟨.vmem, 27, rfl⟩
abbrev cc0_stg25_1 : Ref sig .tc := ⟨.vmem, 28, rfl⟩
abbrev cc0_stg26_0 : Ref sig .tc := ⟨.vmem, 29, rfl⟩
abbrev cc0_stg26_1 : Ref sig .tc := ⟨.vmem, 30, rfl⟩
abbrev cc0_stg27_0 : Ref sig .tc := ⟨.vmem, 31, rfl⟩
abbrev cc0_stg27_1 : Ref sig .tc := ⟨.vmem, 32, rfl⟩
abbrev cc0_stg28_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem24_1 : DmaSem sig := 26
abbrev cc0_sem25_0 : DmaSem sig := 27
abbrev cc0_sem25_1 : DmaSem sig := 28
abbrev cc0_sem26_0 : DmaSem sig := 29
abbrev cc0_sem26_1 : DmaSem sig := 30
abbrev cc0_sem27_0 : DmaSem sig := 31
abbrev cc0_sem27_1 : DmaSem sig := 32
abbrev cc0_sem28_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x64 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S1x64x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x64x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x64x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x64x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 1 → Memref sig .tc .smem S1x1 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== KernelIdeal.lean ====
variable {F : FTy → Type} [FloatOps F] [Named F]
def κ : String → Option EReal := fun
  | "loss_scale" => some ((5 / 4186112 : ℝ) : EReal)
  | _ => none
-- ==== ReferenceIdeal.lean ====
abbrev S16x64x4096 : Shape := ⟨3, ![16, 64, 4096]⟩
abbrev S8x1024x64 : Shape := ⟨3, ![8, 1024, 64]⟩
abbrev S128x64x1 : Shape := ⟨3, ![128, 64, 1]⟩
abbrev S128 : Shape := ⟨1, ![128]⟩
abbrev S256x128x4 : Shape := ⟨3, ![256, 128, 4]⟩
abbrev S256 : Shape := ⟨1, ![256]⟩
abbrev S512x256x4 : Shape := ⟨3, ![512, 256, 4]⟩
abbrev S512 : Shape := ⟨1, ![512]⟩
abbrev S64x512x1 : Shape := ⟨3, ![64, 512, 1]⟩
abbrev S64 : Shape := ⟨1, ![64]⟩
abbrev S128x64 : Shape := ⟨2, ![128, 64]⟩
abbrev S128x16x4096 : Shape := ⟨3, ![128, 16, 4096]⟩
abbrev S16x128x4096 : Shape := ⟨3, ![16, 128, 4096]⟩
abbrev S_ : Shape := ⟨0, ![]⟩
abbrev S1x128x1 : Shape := ⟨3, ![1, 128, 1]⟩
abbrev S16x128x2047 : Shape := ⟨3, ![16, 128, 2047]⟩
abbrev S256x128x1 : Shape := ⟨3, ![256, 128, 1]⟩
abbrev S256x128 : Shape := ⟨2, ![256, 128]⟩
abbrev S256x16x2047 : Shape := ⟨3, ![256, 16, 2047]⟩
abbrev S16x256x2047 : Shape := ⟨3, ![16, 256, 2047]⟩
abbrev S1x256x1 : Shape := ⟨3, ![1, 256, 1]⟩
abbrev S16x256x1022 : Shape := ⟨3, ![16, 256, 1022]⟩
abbrev S512x256x1 : Shape := ⟨3, ![512, 256, 1]⟩
abbrev S512x256 : Shape := ⟨2, ![512, 256]⟩
abbrev S512x16x1022 : Shape := ⟨3, ![512, 16, 1022]⟩
abbrev S16x512x1022 : Shape := ⟨3, ![16, 512, 1022]⟩
abbrev S1x512x1 : Shape := ⟨3, ![1, 512, 1]⟩
abbrev S64x512 : Shape := ⟨2, ![64, 512]⟩
abbrev S64x16x1022 : Shape := ⟨3, ![64, 16, 1022]⟩
abbrev S16x64x1022 : Shape := ⟨3, ![16, 64, 1022]⟩
abbrev S1x64x1 : Shape := ⟨3, ![1, 64, 1]⟩
abbrev S16x1022x64 : Shape := ⟨3, ![16, 1022, 64]⟩
abbrev S1x1024x64 : Shape := ⟨3, ![1, 1024, 64]⟩
abbrev S1024x64 : Shape := ⟨2, ![1024, 64]⟩
abbrev S16x1022 : Shape := ⟨2, ![16, 1022]⟩
abbrev S16x1022x1 : Shape := ⟨3, ![16, 1022, 1]⟩
abbrev S16x1022x1024 : Shape := ⟨3, ![16, 1022, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩
abbrev S512x64x1 : Shape := ⟨3, ![512, 64, 1]⟩
abbrev S512x64 : Shape := ⟨2, ![512, 64]⟩
abbrev S256x512x4 : Shape := ⟨3, ![256, 512, 4]⟩
abbrev S16x512x2049 : Shape := ⟨3, ![16, 512, 2049]⟩
abbrev S16x512x2046 : Shape := ⟨3, ![16, 512, 2046]⟩
abbrev S256x512x1 : Shape := ⟨3, ![256, 512, 1]⟩
abbrev S256x512 : Shape := ⟨2, ![256, 512]⟩
abbrev S256x16x2046 : Shape := ⟨3, ![256, 16, 2046]⟩
abbrev S16x256x2046 : Shape := ⟨3, ![16, 256, 2046]⟩
abbrev S128x256x4 : Shape := ⟨3, ![128, 256, 4]⟩
abbrev S16x256x4097 : Shape := ⟨3, ![16, 256, 4097]⟩
abbrev S16x256x4094 : Shape := ⟨3, ![16, 256, 4094]⟩
abbrev S128x256x1 : Shape := ⟨3, ![128, 256, 1]⟩
abbrev S128x256 : Shape := ⟨2, ![128, 256]⟩
abbrev S128x16x4094 : Shape := ⟨3, ![128, 16, 4094]⟩
abbrev S16x128x4094 : Shape := ⟨3, ![16, 128, 4094]⟩
abbrev S64x128x1 : Shape := ⟨3, ![64, 128, 1]⟩
abbrev S64x128 : Shape := ⟨2, ![64, 128]⟩
abbrev S64x16x4094 : Shape := ⟨3, ![64, 16, 4094]⟩
abbrev S16x64x4094 : Shape := ⟨3, ![16, 64, 4094]⟩

abbrev nBuf : Space → Nat
  | .hbm => 737
  | .vmem => 0
  | .smem => 0
  | _ => 0

abbrev hbmTy0_0 (i : Nat) : BufTy := match i % 128 with
  | 0 => ⟨S16x64x4096, .f32⟩
  | 1 => ⟨S8x1024x64, .f32⟩
  | 2 => ⟨S128x64x1, .f32⟩
  | 3 => ⟨S128, .f32⟩
  | 4 => ⟨S256x128x4, .f32⟩
  | 5 => ⟨S256, .f32⟩
  | 6 => ⟨S512x256x4, .f32⟩
  | 7 => ⟨S512, .f32⟩
  | 8 => ⟨S64x512x1, .f32⟩
  | 9 => ⟨S64, .f32⟩
  | 10 => ⟨S64x512x1, .f32⟩
  | 11 => ⟨S512, .f32⟩
  | 12 => ⟨S512x256x4, .f32⟩
  | 13 => ⟨S256, .f32⟩
  | 14 => ⟨S256x128x4, .f32⟩
  | 15 => ⟨S128, .f32⟩
  | 16 => ⟨S128x64x1, .f32⟩
  | 17 => ⟨S64, .f32⟩
  | 18 => ⟨S128x64, .f32⟩
  | 19 => ⟨S128x16x4096, .f32⟩
  | 20 => ⟨S16x128x4096, .f32⟩
  | 21 => ⟨S_, .f32⟩
  | 22 => ⟨S16x128x4096, .f32⟩
  | 23 => ⟨S16x128x4096, .f32⟩
  | 24 => ⟨S1x128x1, .f32⟩
  | 25 => ⟨S16x128x4096, .f32⟩
  | 26 => ⟨S16x128x4096, .f32⟩
  | 27 => ⟨S_, .f32⟩
  | 28 => ⟨S16x128x4096, .f32⟩
  | 29 => ⟨S16x128x4096, .f32⟩
  | 30 => ⟨S16x128x2047, .f32⟩
  | 31 => ⟨S256x128x1, .f32⟩
  | 32 => ⟨S256x128, .f32⟩
  | 33 => ⟨S256x16x2047, .f32⟩
  | 34 => ⟨S16x256x2047, .f32⟩
  | 35 => ⟨S_, .f32⟩
  | 36 => ⟨S16x256x2047, .f32⟩
  | 37 => ⟨S16x256x2047, .f32⟩
  | 38 => ⟨S16x128x2047, .f32⟩
  | 39 => ⟨S256x128x1, .f32⟩
  | 40 => ⟨S256x128, .f32⟩
  | 41 => ⟨S256x16x2047, .f32⟩
  | 42 => ⟨S16x256x2047, .f32⟩
  | 43 => ⟨S16x256x2047, .f32⟩
  | 44 => ⟨S16x128x2047, .f32⟩
  | 45 => ⟨S256x128x1, .f32⟩
  | 46 => ⟨S256x128, .f32⟩
  | 47 => ⟨S256x16x2047, .f32⟩
  | 48 => ⟨S16x256x2047, .f32⟩
  | 49 => ⟨S16x256x2047, .f32⟩
  | 50 => ⟨S16x128x2047, .f32⟩
  | 51 => ⟨S256x128x1, .f32⟩
  | 52 => ⟨S256x128, .f32⟩
  | 53 => ⟨S256x16x2047, .f32⟩
  | 54 => ⟨S16x256x2047, .f32⟩
  | 55 => ⟨S16x256x2047, .f32⟩
  | 56 => ⟨S1x256x1, .f32⟩
  | 57 => ⟨S16x256x2047, .f32⟩
  | 58 => ⟨S16x256x2047, .f32⟩
  | 59 => ⟨S_, .f32⟩
  | 60 => ⟨S16x256x2047, .f32⟩
  | 61 => ⟨S16x256x2047, .f32⟩
  | 62 => ⟨S16x256x1022, .f32⟩
  | 63 => ⟨S512x256x1, .f32⟩
  | 64 => ⟨S512x256, .f32⟩
  | 65 => ⟨S512x16x1022, .f32⟩
  | 66 => ⟨S16x512x1022, .f32⟩
  | 67 => ⟨S_, .f32⟩
  | 68 => ⟨S16x512x1022, .f32⟩
  | 69 => ⟨S16x512x1022, .f32⟩
  | 70 => ⟨S16x256x1022, .f32⟩
  | 71 => ⟨S512x256x1, .f32⟩
  | 72 => ⟨S512x256, .f32⟩
  | 73 => ⟨S512x16x1022, .f32⟩
  | 74 => ⟨S16x512x1022, .f32⟩
  | 75 => ⟨S16x512x1022, .f32⟩
  | 76 => ⟨S16x256x1022, .f32⟩
  | 77 => ⟨S512x256x1, .f32⟩
  | 78 => ⟨S512x256, .f32⟩
  | 79 => ⟨S512x16x1022, .f32⟩
  | 80 => ⟨S16x512x1022, .f32⟩
  | 81 => ⟨S16x512x1022, .f32⟩
  | 82 => ⟨S16x256x1022, .f32⟩
  | 83 => ⟨S512x256x1, .f32⟩
  | 84 => ⟨S512x256, .f32⟩
  | 85 => ⟨S512x16x1022, .f32⟩
  | 86 => ⟨S16x512x1022, .f32⟩
  | 87 => ⟨S16x512x1022, .f32⟩
  | 88 => ⟨S1x512x1, .f32⟩
  | 89 => ⟨S16x512x1022, .f32⟩
  | 90 => ⟨S16x512x1022, .f32⟩
  | 91 => ⟨S_, .f32⟩
  | 92 => ⟨S16x512x1022, .f32⟩
  | 93 => ⟨S16x512x1022, .f32⟩
  | 94 => ⟨S64x512, .f32⟩
  | 95 => ⟨S64x16x1022, .f32⟩
  | 96 => ⟨S16x64x1022, .f32⟩
  | 97 => ⟨S_, .f32⟩
  | 98 => ⟨S16x64x1022, .f32⟩
  | 99 => ⟨S16x64x1022, .f32⟩
  | 100 => ⟨S1x64x1, .f32⟩
  | 101 => ⟨S16x64x1022, .f32⟩
  | 102 => ⟨S16x64x1022, .f32⟩
  | 103 => ⟨S16x1022x64, .f32⟩
  | 104 => ⟨S_, .f32⟩
  | 105 => ⟨S16x1022x64, .f32⟩
  | 106 => ⟨S1x1024x64, .f32⟩
  | 107 => ⟨S1024x64, .f32⟩
  | 108 => ⟨S16x1022x64, .f32⟩
  | 109 => ⟨S_, .f32⟩
  | 110 => ⟨S16x1022, .f32⟩
  | 111 => ⟨S16x1022x1, .f32⟩
  | 112 => ⟨S16x1022x1024, .f32⟩
  | 113 => ⟨S_, .f32⟩
  | 114 => ⟨S16x1022x1024, .f32⟩
  | 115 => ⟨S16x1022x1024, .f32⟩
  | 116 => ⟨S16x1022x1024, .f32⟩
  | 117 => ⟨S16x1022x1024, .f32⟩
  | 118 => ⟨S1024x64, .f32⟩
  | 119 => ⟨S_, .f32⟩
  | 120 => ⟨S1024, .f32⟩
  | 121 => ⟨S1x1x1024, .f32⟩
  | 122 => ⟨S16x1022x1024, .f32⟩
  | 123 => ⟨S16x1022x1024, .f32⟩
  | 124 => ⟨S16x1022x1024, .i32⟩
  | 125 => ⟨S_, .f32⟩
  | 126 => ⟨S_, .i32⟩
  | 127 => ⟨S16x1022, .f32⟩
  | _ => ⟨S16x64x4096, .f32⟩

abbrev hbmTy0_1 (i : Nat) : BufTy := match i % 128 with
  | 0 => ⟨S16x1022, .i32⟩
  | 1 => ⟨S_, .i32⟩
  | 2 => ⟨S16x1022, .i32⟩
  | 3 => ⟨S16x1022, .i1⟩
  | 4 => ⟨S_, .i32⟩
  | 5 => ⟨S16x1022, .i32⟩
  | 6 => ⟨S16x1022, .i32⟩
  | 7 => ⟨S16x1022, .i32⟩
  | 8 => ⟨S16x1022x1, .i32⟩
  | 9 => ⟨S1, .i32⟩
  | 10 => ⟨S_, .i32⟩
  | 11 => ⟨S16x1022x1, .i32⟩
  | 12 => ⟨S16x1022x1, .i1⟩
  | 13 => ⟨S1x1x1, .i32⟩
  | 14 => ⟨S16x1022x1, .i32⟩
  | 15 => ⟨S16x1022x1, .i1⟩
  | 16 => ⟨S16x1022x1, .i1⟩
  | 17 => ⟨S_, .i1⟩
  | 18 => ⟨S16x1022, .i1⟩
  | 19 => ⟨S16x1022x64, .f32⟩
  | 20 => ⟨S16x1022x64, .i1⟩
  | 21 => ⟨S_, .f32⟩
  | 22 => ⟨S16x1022x64, .f32⟩
  | 23 => ⟨S16x1022x64, .f32⟩
  | 24 => ⟨S16x1022x64, .f32⟩
  | 25 => ⟨S16x1022x64, .f32⟩
  | 26 => ⟨S_, .f32⟩
  | 27 => ⟨S_, .f32⟩
  | 28 => ⟨S_, .f32⟩
  | 29 => ⟨S_, .f32⟩
  | 30 => ⟨S16x1022x64, .f32⟩
  | 31 => ⟨S16x1022x64, .f32⟩
  | 32 => ⟨S_, .f32⟩
  | 33 => ⟨S_, .f32⟩
  | 34 => ⟨S_, .f32⟩
  | 35 => ⟨S_, .f32⟩
  | 36 => ⟨S16x1022x64, .f32⟩
  | 37 => ⟨S16x1022x64, .f32⟩
  | 38 => ⟨S16x1022x64, .f32⟩
  | 39 => ⟨S_, .f32⟩
  | 40 => ⟨S_, .f32⟩
  | 41 => ⟨S_, .f32⟩
  | 42 => ⟨S_, .f32⟩
  | 43 => ⟨S_, .f32⟩
  | 44 => ⟨S16x1022x64, .f32⟩
  | 45 => ⟨S1x1024x64, .f32⟩
  | 46 => ⟨S1024x64, .f32⟩
  | 47 => ⟨S16x1022x64, .f32⟩
  | 48 => ⟨S_, .f32⟩
  | 49 => ⟨S16x1022, .f32⟩
  | 50 => ⟨S16x1022x1, .f32⟩
  | 51 => ⟨S16x1022x1024, .f32⟩
  | 52 => ⟨S_, .f32⟩
  | 53 => ⟨S16x1022x1024, .f32⟩
  | 54 => ⟨S16x1022x1024, .f32⟩
  | 55 => ⟨S16x1022x1024, .f32⟩
  | 56 => ⟨S16x1022x1024, .f32⟩
  | 57 => ⟨S1024x64, .f32⟩
  | 58 => ⟨S_, .f32⟩
  | 59 => ⟨S1024, .f32⟩
  | 60 => ⟨S1x1x1024, .f32⟩
  | 61 => ⟨S16x1022x1024, .f32⟩
  | 62 => ⟨S16x1022x1024, .f32⟩
  | 63 => ⟨S16x1022x1024, .i32⟩
  | 64 => ⟨S_, .f32⟩
  | 65 => ⟨S_, .i32⟩
  | 66 => ⟨S16x1022, .f32⟩
  | 67 => ⟨S16x1022, .i32⟩
  | 68 => ⟨S_, .i32⟩
  | 69 => ⟨S16x1022, .i32⟩
  | 70 => ⟨S16x1022, .i1⟩
  | 71 => ⟨S_, .i32⟩
  | 72 => ⟨S16x1022, .i32⟩
  | 73 => ⟨S16x1022, .i32⟩
  | 74 => ⟨S16x1022, .i32⟩
  | 75 => ⟨S16x1022x1, .i32⟩
  | 76 => ⟨S1, .i32⟩
  | 77 => ⟨S_, .i32⟩
  | 78 => ⟨S16x1022x1, .i32⟩
  | 79 => ⟨S16x1022x1, .i1⟩
  | 80 => ⟨S1x1x1, .i32⟩
  | 81 => ⟨S16x1022x1, .i32⟩
  | 82 => ⟨S16x1022x1, .i1⟩
  | 83 => ⟨S16x1022x1, .i1⟩
  | 84 => ⟨S_, .i1⟩
  | 85 => ⟨S16x1022, .i1⟩
  | 86 => ⟨S16x1022x64, .f32⟩
  | 87 => ⟨S16x1022x64, .i1⟩
  | 88 => ⟨S_, .f32⟩
  | 89 => ⟨S16x1022x64, .f32⟩
  | 90 => ⟨S16x1022x64, .f32⟩
  | 91 => ⟨S16x1022x64, .f32⟩
  | 92 => ⟨S16x1022x64, .f32⟩
  | 93 => ⟨S_, .f32⟩
  | 94 => ⟨S_, .f32⟩
  | 95 => ⟨S_, .f32⟩
  | 96 => ⟨S_, .f32⟩
  | 97 => ⟨S16x1022x64, .f32⟩
  | 98 => ⟨S16x1022x64, .f32⟩
  | 99 => ⟨S_, .f32⟩
  | 100 => ⟨S_, .f32⟩
  | 101 => ⟨S_, .f32⟩
  | 102 => ⟨S_, .f32⟩
  | 103 => ⟨S16x1022x64, .f32⟩
  | 104 => ⟨S16x1022x64, .f32⟩
  | 105 => ⟨S16x1022x64, .f32⟩
  | 106 => ⟨S_, .f32⟩
  | 107 => ⟨S_, .f32⟩
  | 108 => ⟨S_, .f32⟩
  | 109 => ⟨S_, .f32⟩
  | 110 => ⟨S16x1022x64, .f32⟩
  | 111 => ⟨S1x1024x64, .f32⟩
  | 112 => ⟨S1024x64, .f32⟩
  | 113 => ⟨S16x1022x64, .f32⟩
  | 114 => ⟨S_, .f32⟩
  | 115 => ⟨S16x1022, .f32⟩
  | 116 => ⟨S16x1022x1, .f32⟩
  | 117 => ⟨S16x1022x1024, .f32⟩
  | 118 => ⟨S_, .f32⟩
  | 119 => ⟨S16x1022x1024, .f32⟩
  | 120 => ⟨S16x1022x1024, .f32⟩
  | 121 => ⟨S16x1022x1024, .f32⟩
  | 122 => ⟨S16x1022x1024, .f32⟩
  | 123 => ⟨S1024x64, .f32⟩
  | 124 => ⟨S_, .f32⟩
  | 125 => ⟨S1024, .f32⟩
  | 126 => ⟨S1x1x1024, .f32⟩
  | 127 => ⟨S16x1022x1024, .f32⟩
  | _ => ⟨S16x64x4096, .f32⟩

abbrev hbmTy0_2 (i : Nat) : BufTy := match i % 128 with
  | 0 => ⟨S16x1022x1024, .f32⟩
  | 1 => ⟨S16x1022x1024, .i32⟩
  | 2 => ⟨S_, .f32⟩
  | 3 => ⟨S_, .i32⟩
  | 4 => ⟨S16x1022, .f32⟩
  | 5 => ⟨S16x1022, .i32⟩
  | 6 => ⟨S_, .i32⟩
  | 7 => ⟨S16x1022, .i32⟩
  | 8 => ⟨S16x1022, .i1⟩
  | 9 => ⟨S_, .i32⟩
  | 10 => ⟨S16x1022, .i32⟩
  | 11 => ⟨S16x1022, .i32⟩
  | 12 => ⟨S16x1022, .i32⟩
  | 13 => ⟨S16x1022x1, .i32⟩
  | 14 => ⟨S1, .i32⟩
  | 15 => ⟨S_, .i32⟩
  | 16 => ⟨S16x1022x1, .i32⟩
  | 17 => ⟨S16x1022x1, .i1⟩
  | 18 => ⟨S1x1x1, .i32⟩
  | 19 => ⟨S16x1022x1, .i32⟩
  | 20 => ⟨S16x1022x1, .i1⟩
  | 21 => ⟨S16x1022x1, .i1⟩
  | 22 => ⟨S_, .i1⟩
  | 23 => ⟨S16x1022, .i1⟩
  | 24 => ⟨S16x1022x64, .f32⟩
  | 25 => ⟨S16x1022x64, .i1⟩
  | 26 => ⟨S_, .f32⟩
  | 27 => ⟨S16x1022x64, .f32⟩
  | 28 => ⟨S16x1022x64, .f32⟩
  | 29 => ⟨S16x1022x64, .f32⟩
  | 30 => ⟨S16x1022x64, .f32⟩
  | 31 => ⟨S_, .f32⟩
  | 32 => ⟨S_, .f32⟩
  | 33 => ⟨S_, .f32⟩
  | 34 => ⟨S_, .f32⟩
  | 35 => ⟨S16x1022x64, .f32⟩
  | 36 => ⟨S16x1022x64, .f32⟩
  | 37 => ⟨S_, .f32⟩
  | 38 => ⟨S_, .f32⟩
  | 39 => ⟨S_, .f32⟩
  | 40 => ⟨S_, .f32⟩
  | 41 => ⟨S16x1022x64, .f32⟩
  | 42 => ⟨S16x1022x64, .f32⟩
  | 43 => ⟨S16x1022x64, .f32⟩
  | 44 => ⟨S_, .f32⟩
  | 45 => ⟨S_, .f32⟩
  | 46 => ⟨S_, .f32⟩
  | 47 => ⟨S_, .f32⟩
  | 48 => ⟨S16x1022x64, .f32⟩
  | 49 => ⟨S1x1024x64, .f32⟩
  | 50 => ⟨S1024x64, .f32⟩
  | 51 => ⟨S16x1022x64, .f32⟩
  | 52 => ⟨S_, .f32⟩
  | 53 => ⟨S16x1022, .f32⟩
  | 54 => ⟨S16x1022x1, .f32⟩
  | 55 => ⟨S16x1022x1024, .f32⟩
  | 56 => ⟨S_, .f32⟩
  | 57 => ⟨S16x1022x1024, .f32⟩
  | 58 => ⟨S16x1022x1024, .f32⟩
  | 59 => ⟨S16x1022x1024, .f32⟩
  | 60 => ⟨S16x1022x1024, .f32⟩
  | 61 => ⟨S1024x64, .f32⟩
  | 62 => ⟨S_, .f32⟩
  | 63 => ⟨S1024, .f32⟩
  | 64 => ⟨S1x1x1024, .f32⟩
  | 65 => ⟨S16x1022x1024, .f32⟩
  | 66 => ⟨S16x1022x1024, .f32⟩
  | 67 => ⟨S16x1022x1024, .i32⟩
  | 68 => ⟨S_, .f32⟩
  | 69 => ⟨S_, .i32⟩
  | 70 => ⟨S16x1022, .f32⟩
  | 71 => ⟨S16x1022, .i32⟩
  | 72 => ⟨S_, .i32⟩
  | 73 => ⟨S16x1022, .i32⟩
  | 74 => ⟨S16x1022, .i1⟩
  | 75 => ⟨S_, .i32⟩
  | 76 => ⟨S16x1022, .i32⟩
  | 77 => ⟨S16x1022, .i32⟩
  | 78 => ⟨S16x1022, .i32⟩
  | 79 => ⟨S16x1022x1, .i32⟩
  | 80 => ⟨S1, .i32⟩
  | 81 => ⟨S_, .i32⟩
  | 82 => ⟨S16x1022x1, .i32⟩
  | 83 => ⟨S16x1022x1, .i1⟩
  | 84 => ⟨S1x1x1, .i32⟩
  | 85 => ⟨S16x1022x1, .i32⟩
  | 86 => ⟨S16x1022x1, .i1⟩
  | 87 => ⟨S16x1022x1, .i1⟩
  | 88 => ⟨S_, .i1⟩
  | 89 => ⟨S16x1022, .i1⟩
  | 90 => ⟨S16x1022x64, .f32⟩
  | 91 => ⟨S16x1022x64, .i1⟩
  | 92 => ⟨S_, .f32⟩
  | 93 => ⟨S16x1022x64, .f32⟩
  | 94 => ⟨S16x1022x64, .f32⟩
  | 95 => ⟨S16x1022x64, .f32⟩
  | 96 => ⟨S16x1022x64, .f32⟩
  | 97 => ⟨S_, .f32⟩
  | 98 => ⟨S_, .f32⟩
  | 99 => ⟨S_, .f32⟩
  | 100 => ⟨S_, .f32⟩
  | 101 => ⟨S16x1022x64, .f32⟩
  | 102 => ⟨S16x1022x64, .f32⟩
  | 103 => ⟨S_, .f32⟩
  | 104 => ⟨S_, .f32⟩
  | 105 => ⟨S_, .f32⟩
  | 106 => ⟨S_, .f32⟩
  | 107 => ⟨S16x1022x64, .f32⟩
  | 108 => ⟨S16x1022x64, .f32⟩
  | 109 => ⟨S16x1022x64, .f32⟩
  | 110 => ⟨S_, .f32⟩
  | 111 => ⟨S_, .f32⟩
  | 112 => ⟨S_, .f32⟩
  | 113 => ⟨S_, .f32⟩
  | 114 => ⟨S16x1022x64, .f32⟩
  | 115 => ⟨S1x1024x64, .f32⟩
  | 116 => ⟨S1024x64, .f32⟩
  | 117 => ⟨S16x1022x64, .f32⟩
  | 118 => ⟨S_, .f32⟩
  | 119 => ⟨S16x1022, .f32⟩
  | 120 => ⟨S16x1022x1, .f32⟩
  | 121 => ⟨S16x1022x1024, .f32⟩
  | 122 => ⟨S_, .f32⟩
  | 123 => ⟨S16x1022x1024, .f32⟩
  | 124 => ⟨S16x1022x1024, .f32⟩
  | 125 => ⟨S16x1022x1024, .f32⟩
  | 126 => ⟨S16x1022x1024, .f32⟩
  | 127 => ⟨S1024x64, .f32⟩
  | _ => ⟨S16x64x4096, .f32⟩

abbrev hbmTy0_3 (i : Nat) : BufTy := match i % 128 with
  | 0 => ⟨S_, .f32⟩
  | 1 => ⟨S1024, .f32⟩
  | 2 => ⟨S1x1x1024, .f32⟩
  | 3 => ⟨S16x1022x1024, .f32⟩
  | 4 => ⟨S16x1022x1024, .f32⟩
  | 5 => ⟨S16x1022x1024, .i32⟩
  | 6 => ⟨S_, .f32⟩
  | 7 => ⟨S_, .i32⟩
  | 8 => ⟨S16x1022, .f32⟩
  | 9 => ⟨S16x1022, .i32⟩
  | 10 => ⟨S_, .i32⟩
  | 11 => ⟨S16x1022, .i32⟩
  | 12 => ⟨S16x1022, .i1⟩
  | 13 => ⟨S_, .i32⟩
  | 14 => ⟨S16x1022, .i32⟩
  | 15 => ⟨S16x1022, .i32⟩
  | 16 => ⟨S16x1022, .i32⟩
  | 17 => ⟨S16x1022x1, .i32⟩
  | 18 => ⟨S1, .i32⟩
  | 19 => ⟨S_, .i32⟩
  | 20 => ⟨S16x1022x1, .i32⟩
  | 21 => ⟨S16x1022x1, .i1⟩
  | 22 => ⟨S1x1x1, .i32⟩
  | 23 => ⟨S16x1022x1, .i32⟩
  | 24 => ⟨S16x1022x1, .i1⟩
  | 25 => ⟨S16x1022x1, .i1⟩
  | 26 => ⟨S_, .i1⟩
  | 27 => ⟨S16x1022, .i1⟩
  | 28 => ⟨S16x1022x64, .f32⟩
  | 29 => ⟨S16x1022x64, .i1⟩
  | 30 => ⟨S_, .f32⟩
  | 31 => ⟨S16x1022x64, .f32⟩
  | 32 => ⟨S16x1022x64, .f32⟩
  | 33 => ⟨S16x1022x64, .f32⟩
  | 34 => ⟨S16x1022x64, .f32⟩
  | 35 => ⟨S_, .f32⟩
  | 36 => ⟨S_, .f32⟩
  | 37 => ⟨S_, .f32⟩
  | 38 => ⟨S_, .f32⟩
  | 39 => ⟨S16x1022x64, .f32⟩
  | 40 => ⟨S16x1022x64, .f32⟩
  | 41 => ⟨S_, .f32⟩
  | 42 => ⟨S_, .f32⟩
  | 43 => ⟨S_, .f32⟩
  | 44 => ⟨S_, .f32⟩
  | 45 => ⟨S16x1022x64, .f32⟩
  | 46 => ⟨S16x1022x64, .f32⟩
  | 47 => ⟨S16x1022x64, .f32⟩
  | 48 => ⟨S_, .f32⟩
  | 49 => ⟨S_, .f32⟩
  | 50 => ⟨S_, .f32⟩
  | 51 => ⟨S_, .f32⟩
  | 52 => ⟨S16x1022x64, .f32⟩
  | 53 => ⟨S1x1024x64, .f32⟩
  | 54 => ⟨S1024x64, .f32⟩
  | 55 => ⟨S16x1022x64, .f32⟩
  | 56 => ⟨S_, .f32⟩
  | 57 => ⟨S16x1022, .f32⟩
  | 58 => ⟨S16x1022x1, .f32⟩
  | 59 => ⟨S16x1022x1024, .f32⟩
  | 60 => ⟨S_, .f32⟩
  | 61 => ⟨S16x1022x1024, .f32⟩
  | 62 => ⟨S16x1022x1024, .f32⟩
  | 63 => ⟨S16x1022x1024, .f32⟩
  | 64 => ⟨S16x1022x1024, .f32⟩
  | 65 => ⟨S1024x64, .f32⟩
  | 66 => ⟨S_, .f32⟩
  | 67 => ⟨S1024, .f32⟩
  | 68 => ⟨S1x1x1024, .f32⟩
  | 69 => ⟨S16x1022x1024, .f32⟩
  | 70 => ⟨S16x1022x1024, .f32⟩
  | 71 => ⟨S16x1022x1024, .i32⟩
  | 72 => ⟨S_, .f32⟩
  | 73 => ⟨S_, .i32⟩
  | 74 => ⟨S16x1022, .f32⟩
  | 75 => ⟨S16x1022, .i32⟩
  | 76 => ⟨S_, .i32⟩
  | 77 => ⟨S16x1022, .i32⟩
  | 78 => ⟨S16x1022, .i1⟩
  | 79 => ⟨S_, .i32⟩
  | 80 => ⟨S16x1022, .i32⟩
  | 81 => ⟨S16x1022, .i32⟩
  | 82 => ⟨S16x1022, .i32⟩
  | 83 => ⟨S16x1022x1, .i32⟩
  | 84 => ⟨S1, .i32⟩
  | 85 => ⟨S_, .i32⟩
  | 86 => ⟨S16x1022x1, .i32⟩
  | 87 => ⟨S16x1022x1, .i1⟩
  | 88 => ⟨S1x1x1, .i32⟩
  | 89 => ⟨S16x1022x1, .i32⟩
  | 90 => ⟨S16x1022x1, .i1⟩
  | 91 => ⟨S16x1022x1, .i1⟩
  | 92 => ⟨S_, .i1⟩
  | 93 => ⟨S16x1022, .i1⟩
  | 94 => ⟨S16x1022x64, .f32⟩
  | 95 => ⟨S16x1022x64, .i1⟩
  | 96 => ⟨S_, .f32⟩
  | 97 => ⟨S16x1022x64, .f32⟩
  | 98 => ⟨S16x1022x64, .f32⟩
  | 99 => ⟨S16x1022x64, .f32⟩
  | 100 => ⟨S16x1022x64, .f32⟩
  | 101 => ⟨S_, .f32⟩
  | 102 => ⟨S_, .f32⟩
  | 103 => ⟨S_, .f32⟩
  | 104 => ⟨S_, .f32⟩
  | 105 => ⟨S16x1022x64, .f32⟩
  | 106 => ⟨S16x1022x64, .f32⟩
  | 107 => ⟨S_, .f32⟩
  | 108 => ⟨S_, .f32⟩
  | 109 => ⟨S_, .f32⟩
  | 110 => ⟨S_, .f32⟩
  | 111 => ⟨S16x1022x64, .f32⟩
  | 112 => ⟨S16x1022x64, .f32⟩
  | 113 => ⟨S16x1022x64, .f32⟩
  | 114 => ⟨S_, .f32⟩
  | 115 => ⟨S_, .f32⟩
  | 116 => ⟨S_, .f32⟩
  | 117 => ⟨S_, .f32⟩
  | 118 => ⟨S16x1022x64, .f32⟩
  | 119 => ⟨S1x1024x64, .f32⟩
  | 120 => ⟨S1024x64, .f32⟩
  | 121 => ⟨S16x1022x64, .f32⟩
  | 122 => ⟨S_, .f32⟩
  | 123 => ⟨S16x1022, .f32⟩
  | 124 => ⟨S16x1022x1, .f32⟩
  | 125 => ⟨S16x1022x1024, .f32⟩
  | 126 => ⟨S_, .f32⟩
  | 127 => ⟨S16x1022x1024, .f32⟩
  | _ => ⟨S16x64x4096, .f32⟩

abbrev hbmTy0_4 (i : Nat) : BufTy := match i % 128 with
  | 0 => ⟨S16x1022x1024, .f32⟩
  | 1 => ⟨S16x1022x1024, .f32⟩
  | 2 => ⟨S16x1022x1024, .f32⟩
  | 3 => ⟨S1024x64, .f32⟩
  | 4 => ⟨S_, .f32⟩
  | 5 => ⟨S1024, .f32⟩
  | 6 => ⟨S1x1x1024, .f32⟩
  | 7 => ⟨S16x1022x1024, .f32⟩
  | 8 => ⟨S16x1022x1024, .f32⟩
  | 9 => ⟨S16x1022x1024, .i32⟩
  | 10 => ⟨S_, .f32⟩
  | 11 => ⟨S_, .i32⟩
  | 12 => ⟨S16x1022, .f32⟩
  | 13 => ⟨S16x1022, .i32⟩
  | 14 => ⟨S_, .i32⟩
  | 15 => ⟨S16x1022, .i32⟩
  | 16 => ⟨S16x1022, .i1⟩
  | 17 => ⟨S_, .i32⟩
  | 18 => ⟨S16x1022, .i32⟩
  | 19 => ⟨S16x1022, .i32⟩
  | 20 => ⟨S16x1022, .i32⟩
  | 21 => ⟨S16x1022x1, .i32⟩
  | 22 => ⟨S1, .i32⟩
  | 23 => ⟨S_, .i32⟩
  | 24 => ⟨S16x1022x1, .i32⟩
  | 25 => ⟨S16x1022x1, .i1⟩
  | 26 => ⟨S1x1x1, .i32⟩
  | 27 => ⟨S16x1022x1, .i32⟩
  | 28 => ⟨S16x1022x1, .i1⟩
  | 29 => ⟨S16x1022x1, .i1⟩
  | 30 => ⟨S_, .i1⟩
  | 31 => ⟨S16x1022, .i1⟩
  | 32 => ⟨S16x1022x64, .f32⟩
  | 33 => ⟨S16x1022x64, .i1⟩
  | 34 => ⟨S_, .f32⟩
  | 35 => ⟨S16x1022x64, .f32⟩
  | 36 => ⟨S16x1022x64, .f32⟩
  | 37 => ⟨S16x1022x64, .f32⟩
  | 38 => ⟨S16x1022x64, .f32⟩
  | 39 => ⟨S_, .f32⟩
  | 40 => ⟨S_, .f32⟩
  | 41 => ⟨S_, .f32⟩
  | 42 => ⟨S_, .f32⟩
  | 43 => ⟨S16x1022x64, .f32⟩
  | 44 => ⟨S16x1022x64, .f32⟩
  | 45 => ⟨S_, .f32⟩
  | 46 => ⟨S_, .f32⟩
  | 47 => ⟨S_, .f32⟩
  | 48 => ⟨S_, .f32⟩
  | 49 => ⟨S16x1022x64, .f32⟩
  | 50 => ⟨S16x1022x64, .f32⟩
  | 51 => ⟨S16x1022x64, .f32⟩
  | 52 => ⟨S_, .f32⟩
  | 53 => ⟨S_, .f32⟩
  | 54 => ⟨S_, .f32⟩
  | 55 => ⟨S_, .f32⟩
  | 56 => ⟨S16x1022x64, .f32⟩
  | 57 => ⟨S1x1024x64, .f32⟩
  | 58 => ⟨S1024x64, .f32⟩
  | 59 => ⟨S16x1022x64, .f32⟩
  | 60 => ⟨S_, .f32⟩
  | 61 => ⟨S16x1022, .f32⟩
  | 62 => ⟨S16x1022x1, .f32⟩
  | 63 => ⟨S16x1022x1024, .f32⟩
  | 64 => ⟨S_, .f32⟩
  | 65 => ⟨S16x1022x1024, .f32⟩
  | 66 => ⟨S16x1022x1024, .f32⟩
  | 67 => ⟨S16x1022x1024, .f32⟩
  | 68 => ⟨S16x1022x1024, .f32⟩
  | 69 => ⟨S1024x64, .f32⟩
  | 70 => ⟨S_, .f32⟩
  | 71 => ⟨S1024, .f32⟩
  | 72 => ⟨S1x1x1024, .f32⟩
  | 73 => ⟨S16x1022x1024, .f32⟩
  | 74 => ⟨S16x1022x1024, .f32⟩
  | 75 => ⟨S16x1022x1024, .i32⟩
  | 76 => ⟨S_, .f32⟩
  | 77 => ⟨S_, .i32⟩
  | 78 => ⟨S16x1022, .f32⟩
  | 79 => ⟨S16x1022, .i32⟩
  | 80 => ⟨S_, .i32⟩
  | 81 => ⟨S16x1022, .i32⟩
  | 82 => ⟨S16x1022, .i1⟩
  | 83 => ⟨S_, .i32⟩
  | 84 => ⟨S16x1022, .i32⟩
  | 85 => ⟨S16x1022, .i32⟩
  | 86 => ⟨S16x1022, .i32⟩
  | 87 => ⟨S16x1022x1, .i32⟩
  | 88 => ⟨S1, .i32⟩
  | 89 => ⟨S_, .i32⟩
  | 90 => ⟨S16x1022x1, .i32⟩
  | 91 => ⟨S16x1022x1, .i1⟩
  | 92 => ⟨S1x1x1, .i32⟩
  | 93 => ⟨S16x1022x1, .i32⟩
  | 94 => ⟨S16x1022x1, .i1⟩
  | 95 => ⟨S16x1022x1, .i1⟩
  | 96 => ⟨S_, .i1⟩
  | 97 => ⟨S16x1022, .i1⟩
  | 98 => ⟨S16x1022x64, .f32⟩
  | 99 => ⟨S16x1022x64, .i1⟩
  | 100 => ⟨S_, .f32⟩
  | 101 => ⟨S16x1022x64, .f32⟩
  | 102 => ⟨S16x1022x64, .f32⟩
  | 103 => ⟨S16x1022x64, .f32⟩
  | 104 => ⟨S16x1022x64, .f32⟩
  | 105 => ⟨S_, .f32⟩
  | 106 => ⟨S_, .f32⟩
  | 107 => ⟨S_, .f32⟩
  | 108 => ⟨S_, .f32⟩
  | 109 => ⟨S16x1022x64, .f32⟩
  | 110 => ⟨S16x1022x64, .f32⟩
  | 111 => ⟨S_, .f32⟩
  | 112 => ⟨S_, .f32⟩
  | 113 => ⟨S_, .f32⟩
  | 114 => ⟨S_, .f32⟩
  | 115 => ⟨S16x1022x64, .f32⟩
  | 116 => ⟨S16x1022x64, .f32⟩
  | 117 => ⟨S16x1022x64, .f32⟩
  | 118 => ⟨S_, .f32⟩
  | 119 => ⟨S_, .f32⟩
  | 120 => ⟨S_, .f32⟩
  | 121 => ⟨S_, .f32⟩
  | 122 => ⟨S16x1022x64, .f32⟩
  | 123 => ⟨S16x64x1022, .f32⟩
  | 124 => ⟨S64x512x1, .f32⟩
  | 125 => ⟨S512x64x1, .f32⟩
  | 126 => ⟨S_, .f32⟩
  | 127 => ⟨S16x64x1022, .f32⟩
  | _ => ⟨S16x64x4096, .f32⟩

abbrev hbmTy0_5 (i : Nat) : BufTy := match i % 128 with
  | 0 => ⟨S512x64, .f32⟩
  | 1 => ⟨S512x16x1022, .f32⟩
  | 2 => ⟨S16x512x1022, .f32⟩
  | 3 => ⟨S_, .f32⟩
  | 4 => ⟨S16x512x1022, .f32⟩
  | 5 => ⟨S16x512x1022, .f32⟩
  | 6 => ⟨S1x512x1, .f32⟩
  | 7 => ⟨S16x512x1022, .f32⟩
  | 8 => ⟨S16x512x1022, .f32⟩
  | 9 => ⟨S_, .f32⟩
  | 10 => ⟨S16x512x1022, .f32⟩
  | 11 => ⟨S16x512x1022, .f32⟩
  | 12 => ⟨S512x256x4, .f32⟩
  | 13 => ⟨S256x512x4, .f32⟩
  | 14 => ⟨S_, .f32⟩
  | 15 => ⟨S16x512x2049, .f32⟩
  | 16 => ⟨S16x512x2046, .f32⟩
  | 17 => ⟨S256x512x1, .f32⟩
  | 18 => ⟨S256x512, .f32⟩
  | 19 => ⟨S256x16x2046, .f32⟩
  | 20 => ⟨S16x256x2046, .f32⟩
  | 21 => ⟨S_, .f32⟩
  | 22 => ⟨S16x256x2046, .f32⟩
  | 23 => ⟨S16x256x2046, .f32⟩
  | 24 => ⟨S16x512x2046, .f32⟩
  | 25 => ⟨S256x512x1, .f32⟩
  | 26 => ⟨S256x512, .f32⟩
  | 27 => ⟨S256x16x2046, .f32⟩
  | 28 => ⟨S16x256x2046, .f32⟩
  | 29 => ⟨S16x256x2046, .f32⟩
  | 30 => ⟨S16x512x2046, .f32⟩
  | 31 => ⟨S256x512x1, .f32⟩
  | 32 => ⟨S256x512, .f32⟩
  | 33 => ⟨S256x16x2046, .f32⟩
  | 34 => ⟨S16x256x2046, .f32⟩
  | 35 => ⟨S16x256x2046, .f32⟩
  | 36 => ⟨S16x512x2046, .f32⟩
  | 37 => ⟨S256x512x1, .f32⟩
  | 38 => ⟨S256x512, .f32⟩
  | 39 => ⟨S256x16x2046, .f32⟩
  | 40 => ⟨S16x256x2046, .f32⟩
  | 41 => ⟨S16x256x2046, .f32⟩
  | 42 => ⟨S1x256x1, .f32⟩
  | 43 => ⟨S16x256x2046, .f32⟩
  | 44 => ⟨S16x256x2046, .f32⟩
  | 45 => ⟨S_, .f32⟩
  | 46 => ⟨S16x256x2046, .f32⟩
  | 47 => ⟨S16x256x2046, .f32⟩
  | 48 => ⟨S256x128x4, .f32⟩
  | 49 => ⟨S128x256x4, .f32⟩
  | 50 => ⟨S_, .f32⟩
  | 51 => ⟨S16x256x4097, .f32⟩
  | 52 => ⟨S16x256x4094, .f32⟩
  | 53 => ⟨S128x256x1, .f32⟩
  | 54 => ⟨S128x256, .f32⟩
  | 55 => ⟨S128x16x4094, .f32⟩
  | 56 => ⟨S16x128x4094, .f32⟩
  | 57 => ⟨S_, .f32⟩
  | 58 => ⟨S16x128x4094, .f32⟩
  | 59 => ⟨S16x128x4094, .f32⟩
  | 60 => ⟨S16x256x4094, .f32⟩
  | 61 => ⟨S128x256x1, .f32⟩
  | 62 => ⟨S128x256, .f32⟩
  | 63 => ⟨S128x16x4094, .f32⟩
  | 64 => ⟨S16x128x4094, .f32⟩
  | 65 => ⟨S16x128x4094, .f32⟩
  | 66 => ⟨S16x256x4094, .f32⟩
  | 67 => ⟨S128x256x1, .f32⟩
  | 68 => ⟨S128x256, .f32⟩
  | 69 => ⟨S128x16x4094, .f32⟩
  | 70 => ⟨S16x128x4094, .f32⟩
  | 71 => ⟨S16x128x4094, .f32⟩
  | 72 => ⟨S16x256x4094, .f32⟩
  | 73 => ⟨S128x256x1, .f32⟩
  | 74 => ⟨S128x256, .f32⟩
  | 75 => ⟨S128x16x4094, .f32⟩
  | 76 => ⟨S16x128x4094, .f32⟩
  | 77 => ⟨S16x128x4094, .f32⟩
  | 78 => ⟨S1x128x1, .f32⟩
  | 79 => ⟨S16x128x4094, .f32⟩
  | 80 => ⟨S16x128x4094, .f32⟩
  | 81 => ⟨S_, .f32⟩
  | 82 => ⟨S16x128x4094, .f32⟩
  | 83 => ⟨S16x128x4094, .f32⟩
  | 84 => ⟨S128x64x1, .f32⟩
  | 85 => ⟨S64x128x1, .f32⟩
  | 86 => ⟨S_, .f32⟩
  | 87 => ⟨S16x128x4094, .f32⟩
  | 88 => ⟨S64x128, .f32⟩
  | 89 => ⟨S64x16x4094, .f32⟩
  | 90 => ⟨S16x64x4094, .f32⟩
  | 91 => ⟨S_, .f32⟩
  | 92 => ⟨S16x64x4094, .f32⟩
  | 93 => ⟨S16x64x4094, .f32⟩
  | 94 => ⟨S1x64x1, .f32⟩
  | 95 => ⟨S16x64x4094, .f32⟩
  | 96 => ⟨S16x64x4094, .f32⟩
  | _ => ⟨S16x64x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x64x4096, .f32⟩

abbrev bufTy : (tb : Table) → Fin (tcTables nBuf tb) → BufTy
  | .hbm, ⟨i, _⟩ => hbmTy i
  | _, _ => ⟨S16x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_cst : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_v0 : Ref sig .tc := ⟨.hbm, 26, rfl⟩
abbrev main_call1_cst : Ref sig .tc := ⟨.hbm, 27, rfl⟩
abbrev main_call1_v0 : Ref sig .tc := ⟨.hbm, 28, rfl⟩
abbrev main_v1 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_cst : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_v12 : Ref sig .tc := ⟨.hbm, 43, rfl⟩
abbrev main_call2_v13 : Ref sig .tc := ⟨.hbm, 44, rfl⟩
abbrev main_call2_v14 : Ref sig .tc := ⟨.hbm, 45, rfl⟩
abbrev main_call2_v15 : Ref sig .tc := ⟨.hbm, 46, rfl⟩
abbrev main_call2_v16 : Ref sig .tc := ⟨.hbm, 47, rfl⟩
abbrev main_call2_v17 : Ref sig .tc := ⟨.hbm, 48, rfl⟩
abbrev main_call2_v18 : Ref sig .tc := ⟨.hbm, 49, rfl⟩
abbrev main_call2_v19 : Ref sig .tc := ⟨.hbm, 50, rfl⟩
abbrev main_call2_v20 : Ref sig .tc := ⟨.hbm, 51, rfl⟩
abbrev main_call2_v21 : Ref sig .tc := ⟨.hbm, 52, rfl⟩
abbrev main_call2_v22 : Ref sig .tc := ⟨.hbm, 53, rfl⟩
abbrev main_call2_v23 : Ref sig .tc := ⟨.hbm, 54, rfl⟩
abbrev main_call2_v24 : Ref sig .tc := ⟨.hbm, 55, rfl⟩
abbrev main_call2_v25 : Ref sig .tc := ⟨.hbm, 56, rfl⟩
abbrev main_call2_v26 : Ref sig .tc := ⟨.hbm, 57, rfl⟩
abbrev main_v2 : Ref sig .tc := ⟨.hbm, 58, rfl⟩
abbrev main_call3_cst : Ref sig .tc := ⟨.hbm, 59, rfl⟩
abbrev main_call3_v0 : Ref sig .tc := ⟨.hbm, 60, rfl⟩
abbrev main_v3 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_call4_cst : Ref sig .tc := ⟨.hbm, 67, rfl⟩
abbrev main_call4_v5 : Ref sig .tc := ⟨.hbm, 68, rfl⟩
abbrev main_call4_v6 : Ref sig .tc := ⟨.hbm, 69, rfl⟩
abbrev main_call4_v7 : Ref sig .tc := ⟨.hbm, 70, rfl⟩
abbrev main_call4_v8 : Ref sig .tc := ⟨.hbm, 71, rfl⟩
abbrev main_call4_v9 : Ref sig .tc := ⟨.hbm, 72, rfl⟩
abbrev main_call4_v10 : Ref sig .tc := ⟨.hbm, 73, rfl⟩
abbrev main_call4_v11 : Ref sig .tc := ⟨.hbm, 74, rfl⟩
abbrev main_call4_v12 : Ref sig .tc := ⟨.hbm, 75, rfl⟩
abbrev main_call4_v13 : Ref sig .tc := ⟨.hbm, 76, rfl⟩
abbrev main_call4_v14 : Ref sig .tc := ⟨.hbm, 77, rfl⟩
abbrev main_call4_v15 : Ref sig .tc := ⟨.hbm, 78, rfl⟩
abbrev main_call4_v16 : Ref sig .tc := ⟨.hbm, 79, rfl⟩
abbrev main_call4_v17 : Ref sig .tc := ⟨.hbm, 80, rfl⟩
abbrev main_call4_v18 : Ref sig .tc := ⟨.hbm, 81, rfl⟩
abbrev main_call4_v19 : Ref sig .tc := ⟨.hbm, 82, rfl⟩
abbrev main_call4_v20 : Ref sig .tc := ⟨.hbm, 83, rfl⟩
abbrev main_call4_v21 : Ref sig .tc := ⟨.hbm, 84, rfl⟩
abbrev main_call4_v22 : Ref sig .tc := ⟨.hbm, 85, rfl⟩
abbrev main_call4_v23 : Ref sig .tc := ⟨.hbm, 86, rfl⟩
abbrev main_call4_v24 : Ref sig .tc := ⟨.hbm, 87, rfl⟩
abbrev main_call4_v25 : Ref sig .tc := ⟨.hbm, 88, rfl⟩
abbrev main_call4_v26 : Ref sig .tc := ⟨.hbm, 89, rfl⟩
abbrev main_v4 : Ref sig .tc := ⟨.hbm, 90, rfl⟩
abbrev main_call5_cst : Ref sig .tc := ⟨.hbm, 91, rfl⟩
abbrev main_call5_v0 : Ref sig .tc := ⟨.hbm, 92, rfl⟩
abbrev main_v5 : Ref sig .tc := ⟨.hbm, 93, rfl⟩
abbrev main_call6_v0 : Ref sig .tc := ⟨.hbm, 94, rfl⟩
abbrev main_call6_v1 : Ref sig .tc := ⟨.hbm, 95, rfl⟩
abbrev main_call6_v2 : Ref sig .tc := ⟨.hbm, 96, rfl⟩
abbrev main_call6_cst : Ref sig .tc := ⟨.hbm, 97, rfl⟩
abbrev main_call6_v3 : Ref sig .tc := ⟨.hbm, 98, rfl⟩
abbrev main_call6_v4 : Ref sig .tc := ⟨.hbm, 99, rfl⟩
abbrev main_call6_v5 : Ref sig .tc := ⟨.hbm, 100, rfl⟩
abbrev main_call6_v6 : Ref sig .tc := ⟨.hbm, 101, rfl⟩
abbrev main_v6 : Ref sig .tc := ⟨.hbm, 102, rfl⟩
abbrev main_v7 : Ref sig .tc := ⟨.hbm, 103, rfl⟩
abbrev main_cst : Ref sig .tc := ⟨.hbm, 104, rfl⟩
abbrev main_v8 : Ref sig .tc := ⟨.hbm, 105, rfl⟩
abbrev main_v9 : Ref sig .tc := ⟨.hbm, 106, rfl⟩
abbrev main_v10 : Ref sig .tc := ⟨.hbm, 107, rfl⟩
abbrev main_call7_v0 : Ref sig .tc := ⟨.hbm, 108, rfl⟩
abbrev main_call7_cst : Ref sig .tc := ⟨.hbm, 109, rfl⟩
abbrev main_call7_v1 : Ref sig .tc := ⟨.hbm, 110, rfl⟩
abbrev main_call7_v2 : Ref sig .tc := ⟨.hbm, 111, rfl⟩
abbrev main_call7_v3 : Ref sig .tc := ⟨.hbm, 112, rfl⟩
abbrev main_call7_cst_0 : Ref sig .tc := ⟨.hbm, 113, rfl⟩
abbrev main_call7_v4 : Ref sig .tc := ⟨.hbm, 114, rfl⟩
abbrev main_call7_v5 : Ref sig .tc := ⟨.hbm, 115, rfl⟩
abbrev main_call7_v6 : Ref sig .tc := ⟨.hbm, 116, rfl⟩
abbrev main_call7_v7 : Ref sig .tc := ⟨.hbm, 117, rfl⟩
abbrev main_call7_v8 : Ref sig .tc := ⟨.hbm, 118, rfl⟩
abbrev main_call7_cst_1 : Ref sig .tc := ⟨.hbm, 119, rfl⟩
abbrev main_call7_v9 : Ref sig .tc := ⟨.hbm, 120, rfl⟩
abbrev main_call7_v10 : Ref sig .tc := ⟨.hbm, 121, rfl⟩
abbrev main_call7_v11 : Ref sig .tc := ⟨.hbm, 122, rfl⟩
abbrev main_call7_v12 : Ref sig .tc := ⟨.hbm, 123, rfl⟩
abbrev main_call7_call0_v0 : Ref sig .tc := ⟨.hbm, 124, rfl⟩
abbrev main_call7_call0_cst : Ref sig .tc := ⟨.hbm, 125, rfl⟩
abbrev main_call7_call0_c : Ref sig .tc := ⟨.hbm, 126, rfl⟩
abbrev main_call7_call0_v1_0 : Ref sig .tc := ⟨.hbm, 127, rfl⟩
abbrev main_call7_v13 : Ref sig .tc := ⟨.hbm, 128, rfl⟩
abbrev main_call7_call1_c : Ref sig .tc := ⟨.hbm, 129, rfl⟩
abbrev main_call7_call1_v0 : Ref sig .tc := ⟨.hbm, 130, rfl⟩
abbrev main_call7_call1_v1 : Ref sig .tc := ⟨.hbm, 131, rfl⟩
abbrev main_call7_call1_c_0 : Ref sig .tc := ⟨.hbm, 132, rfl⟩
abbrev main_call7_call1_v2 : Ref sig .tc := ⟨.hbm, 133, rfl⟩
abbrev main_call7_call1_v3 : Ref sig .tc := ⟨.hbm, 134, rfl⟩
abbrev main_call7_call1_v4 : Ref sig .tc := ⟨.hbm, 135, rfl⟩
abbrev main_call7_call1_v5 : Ref sig .tc := ⟨.hbm, 136, rfl⟩
abbrev main_call7_call1_c_1 : Ref sig .tc := ⟨.hbm, 137, rfl⟩
abbrev main_call7_call1_c_2 : Ref sig .tc := ⟨.hbm, 138, rfl⟩
abbrev main_call7_call1_v6 : Ref sig .tc := ⟨.hbm, 139, rfl⟩
abbrev main_call7_call1_v7 : Ref sig .tc := ⟨.hbm, 140, rfl⟩
abbrev main_call7_call1_v8 : Ref sig .tc := ⟨.hbm, 141, rfl⟩
abbrev main_call7_call1_v9 : Ref sig .tc := ⟨.hbm, 142, rfl⟩
abbrev main_call7_call1_v10 : Ref sig .tc := ⟨.hbm, 143, rfl⟩
abbrev main_call7_call1_v11 : Ref sig .tc := ⟨.hbm, 144, rfl⟩
abbrev main_call7_call1_c_3 : Ref sig .tc := ⟨.hbm, 145, rfl⟩
abbrev main_call7_call1_v12 : Ref sig .tc := ⟨.hbm, 146, rfl⟩
abbrev main_call7_call1_v13 : Ref sig .tc := ⟨.hbm, 147, rfl⟩
abbrev main_call7_call1_v14 : Ref sig .tc := ⟨.hbm, 148, rfl⟩
abbrev main_call7_call1_cst : Ref sig .tc := ⟨.hbm, 149, rfl⟩
abbrev main_call7_call1_v15 : Ref sig .tc := ⟨.hbm, 150, rfl⟩
abbrev main_call7_v14 : Ref sig .tc := ⟨.hbm, 151, rfl⟩
abbrev main_call7_v15 : Ref sig .tc := ⟨.hbm, 152, rfl⟩
abbrev main_call7_v16 : Ref sig .tc := ⟨.hbm, 153, rfl⟩
abbrev main_call7_cst_2 : Ref sig .tc := ⟨.hbm, 154, rfl⟩
abbrev main_call7_v17 : Ref sig .tc := ⟨.hbm, 155, rfl⟩
abbrev main_call7_cst_3 : Ref sig .tc := ⟨.hbm, 156, rfl⟩
abbrev main_v11_2 : Ref sig .tc := ⟨.hbm, 157, rfl⟩
abbrev main_call7_v19 : Ref sig .tc := ⟨.hbm, 158, rfl⟩
abbrev main_call7_v20 : Ref sig .tc := ⟨.hbm, 159, rfl⟩
abbrev main_call7_cst_4 : Ref sig .tc := ⟨.hbm, 160, rfl⟩
abbrev main_call7_v21 : Ref sig .tc := ⟨.hbm, 161, rfl⟩
abbrev main_call7_cst_5 : Ref sig .tc := ⟨.hbm, 162, rfl⟩
abbrev main_v11_1 : Ref sig .tc := ⟨.hbm, 163, rfl⟩
abbrev main_call7_v23 : Ref sig .tc := ⟨.hbm, 164, rfl⟩
abbrev main_v11_0 : Ref sig .tc := ⟨.hbm, 165, rfl⟩
abbrev main_v11_3 : Ref sig .tc := ⟨.hbm, 166, rfl⟩
abbrev main_cst_0 : Ref sig .tc := ⟨.hbm, 167, rfl⟩
abbrev main_v12 : Ref sig .tc := ⟨.hbm, 168, rfl⟩
abbrev main_cst_1 : Ref sig .tc := ⟨.hbm, 169, rfl⟩
abbrev main_v13 : Ref sig .tc := ⟨.hbm, 170, rfl⟩
abbrev main_v14 : Ref sig .tc := ⟨.hbm, 171, rfl⟩
abbrev main_v15 : Ref sig .tc := ⟨.hbm, 172, rfl⟩
abbrev main_v16 : Ref sig .tc := ⟨.hbm, 173, rfl⟩
abbrev main_v17 : Ref sig .tc := ⟨.hbm, 174, rfl⟩
abbrev main_call8_v0 : Ref sig .tc := ⟨.hbm, 175, rfl⟩
abbrev main_call8_cst : Ref sig .tc := ⟨.hbm, 176, rfl⟩
abbrev main_call8_v1 : Ref sig .tc := ⟨.hbm, 177, rfl⟩
abbrev main_call8_v2 : Ref sig .tc := ⟨.hbm, 178, rfl⟩
abbrev main_call8_v3 : Ref sig .tc := ⟨.hbm, 179, rfl⟩
abbrev main_call8_cst_0 : Ref sig .tc := ⟨.hbm, 180, rfl⟩
abbrev main_call8_v4 : Ref sig .tc := ⟨.hbm, 181, rfl⟩
abbrev main_call8_v5 : Ref sig .tc := ⟨.hbm, 182, rfl⟩
abbrev main_call8_v6 : Ref sig .tc := ⟨.hbm, 183, rfl⟩
abbrev main_call8_v7 : Ref sig .tc := ⟨.hbm, 184, rfl⟩
abbrev main_call8_v8 : Ref sig .tc := ⟨.hbm, 185, rfl⟩
abbrev main_call8_cst_1 : Ref sig .tc := ⟨.hbm, 186, rfl⟩
abbrev main_call8_v9 : Ref sig .tc := ⟨.hbm, 187, rfl⟩
abbrev main_call8_v10 : Ref sig .tc := ⟨.hbm, 188, rfl⟩
abbrev main_call8_v11 : Ref sig .tc := ⟨.hbm, 189, rfl⟩
abbrev main_call8_v12 : Ref sig .tc := ⟨.hbm, 190, rfl⟩
abbrev main_call8_call0_v0 : Ref sig .tc := ⟨.hbm, 191, rfl⟩
abbrev main_call8_call0_cst : Ref sig .tc := ⟨.hbm, 192, rfl⟩
abbrev main_call8_call0_c : Ref sig .tc := ⟨.hbm, 193, rfl⟩
abbrev main_call8_call0_v1_0 : Ref sig .tc := ⟨.hbm, 194, rfl⟩
abbrev main_call8_v13 : Ref sig .tc := ⟨.hbm, 195, rfl⟩
abbrev main_call8_call1_c : Ref sig .tc := ⟨.hbm, 196, rfl⟩
abbrev main_call8_call1_v0 : Ref sig .tc := ⟨.hbm, 197, rfl⟩
abbrev main_call8_call1_v1 : Ref sig .tc := ⟨.hbm, 198, rfl⟩
abbrev main_call8_call1_c_0 : Ref sig .tc := ⟨.hbm, 199, rfl⟩
abbrev main_call8_call1_v2 : Ref sig .tc := ⟨.hbm, 200, rfl⟩
abbrev main_call8_call1_v3 : Ref sig .tc := ⟨.hbm, 201, rfl⟩
abbrev main_call8_call1_v4 : Ref sig .tc := ⟨.hbm, 202, rfl⟩
abbrev main_call8_call1_v5 : Ref sig .tc := ⟨.hbm, 203, rfl⟩
abbrev main_call8_call1_c_1 : Ref sig .tc := ⟨.hbm, 204, rfl⟩
abbrev main_call8_call1_c_2 : Ref sig .tc := ⟨.hbm, 205, rfl⟩
abbrev main_call8_call1_v6 : Ref sig .tc := ⟨.hbm, 206, rfl⟩
abbrev main_call8_call1_v7 : Ref sig .tc := ⟨.hbm, 207, rfl⟩
abbrev main_call8_call1_v8 : Ref sig .tc := ⟨.hbm, 208, rfl⟩
abbrev main_call8_call1_v9 : Ref sig .tc := ⟨.hbm, 209, rfl⟩
abbrev main_call8_call1_v10 : Ref sig .tc := ⟨.hbm, 210, rfl⟩
abbrev main_call8_call1_v11 : Ref sig .tc := ⟨.hbm, 211, rfl⟩
abbrev main_call8_call1_c_3 : Ref sig .tc := ⟨.hbm, 212, rfl⟩
abbrev main_call8_call1_v12 : Ref sig .tc := ⟨.hbm, 213, rfl⟩
abbrev main_call8_call1_v13 : Ref sig .tc := ⟨.hbm, 214, rfl⟩
abbrev main_call8_call1_v14 : Ref sig .tc := ⟨.hbm, 215, rfl⟩
abbrev main_call8_call1_cst : Ref sig .tc := ⟨.hbm, 216, rfl⟩
abbrev main_call8_call1_v15 : Ref sig .tc := ⟨.hbm, 217, rfl⟩
abbrev main_call8_v14 : Ref sig .tc := ⟨.hbm, 218, rfl⟩
abbrev main_call8_v15 : Ref sig .tc := ⟨.hbm, 219, rfl⟩
abbrev main_call8_v16 : Ref sig .tc := ⟨.hbm, 220, rfl⟩
abbrev main_call8_cst_2 : Ref sig .tc := ⟨.hbm, 221, rfl⟩
abbrev main_call8_v17 : Ref sig .tc := ⟨.hbm, 222, rfl⟩
abbrev main_call8_cst_3 : Ref sig .tc := ⟨.hbm, 223, rfl⟩
abbrev main_v18_2 : Ref sig .tc := ⟨.hbm, 224, rfl⟩
abbrev main_call8_v19 : Ref sig .tc := ⟨.hbm, 225, rfl⟩
abbrev main_call8_v20 : Ref sig .tc := ⟨.hbm, 226, rfl⟩
abbrev main_call8_cst_4 : Ref sig .tc := ⟨.hbm, 227, rfl⟩
abbrev main_call8_v21 : Ref sig .tc := ⟨.hbm, 228, rfl⟩
abbrev main_call8_cst_5 : Ref sig .tc := ⟨.hbm, 229, rfl⟩
abbrev main_v18_1 : Ref sig .tc := ⟨.hbm, 230, rfl⟩
abbrev main_call8_v23 : Ref sig .tc := ⟨.hbm, 231, rfl⟩
abbrev main_v18_0 : Ref sig .tc := ⟨.hbm, 232, rfl⟩
abbrev main_v18_3 : Ref sig .tc := ⟨.hbm, 233, rfl⟩
abbrev main_v19 : Ref sig .tc := ⟨.hbm, 234, rfl⟩
abbrev main_cst_2 : Ref sig .tc := ⟨.hbm, 235, rfl⟩
abbrev main_v20 : Ref sig .tc := ⟨.hbm, 236, rfl⟩
abbrev main_v21 : Ref sig .tc := ⟨.hbm, 237, rfl⟩
abbrev main_v22 : Ref sig .tc := ⟨.hbm, 238, rfl⟩
abbrev main_v23 : Ref sig .tc := ⟨.hbm, 239, rfl⟩
abbrev main_v24 : Ref sig .tc := ⟨.hbm, 240, rfl⟩
abbrev main_call9_v0 : Ref sig .tc := ⟨.hbm, 241, rfl⟩
abbrev main_call9_cst : Ref sig .tc := ⟨.hbm, 242, rfl⟩
abbrev main_call9_v1 : Ref sig .tc := ⟨.hbm, 243, rfl⟩
abbrev main_call9_v2 : Ref sig .tc := ⟨.hbm, 244, rfl⟩
abbrev main_call9_v3 : Ref sig .tc := ⟨.hbm, 245, rfl⟩
abbrev main_call9_cst_0 : Ref sig .tc := ⟨.hbm, 246, rfl⟩
abbrev main_call9_v4 : Ref sig .tc := ⟨.hbm, 247, rfl⟩
abbrev main_call9_v5 : Ref sig .tc := ⟨.hbm, 248, rfl⟩
abbrev main_call9_v6 : Ref sig .tc := ⟨.hbm, 249, rfl⟩
abbrev main_call9_v7 : Ref sig .tc := ⟨.hbm, 250, rfl⟩
abbrev main_call9_v8 : Ref sig .tc := ⟨.hbm, 251, rfl⟩
abbrev main_call9_cst_1 : Ref sig .tc := ⟨.hbm, 252, rfl⟩
abbrev main_call9_v9 : Ref sig .tc := ⟨.hbm, 253, rfl⟩
abbrev main_call9_v10 : Ref sig .tc := ⟨.hbm, 254, rfl⟩
abbrev main_call9_v11 : Ref sig .tc := ⟨.hbm, 255, rfl⟩
abbrev main_call9_v12 : Ref sig .tc := ⟨.hbm, 256, rfl⟩
abbrev main_call9_call0_v0 : Ref sig .tc := ⟨.hbm, 257, rfl⟩
abbrev main_call9_call0_cst : Ref sig .tc := ⟨.hbm, 258, rfl⟩
abbrev main_call9_call0_c : Ref sig .tc := ⟨.hbm, 259, rfl⟩
abbrev main_call9_call0_v1_0 : Ref sig .tc := ⟨.hbm, 260, rfl⟩
abbrev main_call9_v13 : Ref sig .tc := ⟨.hbm, 261, rfl⟩
abbrev main_call9_call1_c : Ref sig .tc := ⟨.hbm, 262, rfl⟩
abbrev main_call9_call1_v0 : Ref sig .tc := ⟨.hbm, 263, rfl⟩
abbrev main_call9_call1_v1 : Ref sig .tc := ⟨.hbm, 264, rfl⟩
abbrev main_call9_call1_c_0 : Ref sig .tc := ⟨.hbm, 265, rfl⟩
abbrev main_call9_call1_v2 : Ref sig .tc := ⟨.hbm, 266, rfl⟩
abbrev main_call9_call1_v3 : Ref sig .tc := ⟨.hbm, 267, rfl⟩
abbrev main_call9_call1_v4 : Ref sig .tc := ⟨.hbm, 268, rfl⟩
abbrev main_call9_call1_v5 : Ref sig .tc := ⟨.hbm, 269, rfl⟩
abbrev main_call9_call1_c_1 : Ref sig .tc := ⟨.hbm, 270, rfl⟩
abbrev main_call9_call1_c_2 : Ref sig .tc := ⟨.hbm, 271, rfl⟩
abbrev main_call9_call1_v6 : Ref sig .tc := ⟨.hbm, 272, rfl⟩
abbrev main_call9_call1_v7 : Ref sig .tc := ⟨.hbm, 273, rfl⟩
abbrev main_call9_call1_v8 : Ref sig .tc := ⟨.hbm, 274, rfl⟩
abbrev main_call9_call1_v9 : Ref sig .tc := ⟨.hbm, 275, rfl⟩
abbrev main_call9_call1_v10 : Ref sig .tc := ⟨.hbm, 276, rfl⟩
abbrev main_call9_call1_v11 : Ref sig .tc := ⟨.hbm, 277, rfl⟩
abbrev main_call9_call1_c_3 : Ref sig .tc := ⟨.hbm, 278, rfl⟩
abbrev main_call9_call1_v12 : Ref sig .tc := ⟨.hbm, 279, rfl⟩
abbrev main_call9_call1_v13 : Ref sig .tc := ⟨.hbm, 280, rfl⟩
abbrev main_call9_call1_v14 : Ref sig .tc := ⟨.hbm, 281, rfl⟩
abbrev main_call9_call1_cst : Ref sig .tc := ⟨.hbm, 282, rfl⟩
abbrev main_call9_call1_v15 : Ref sig .tc := ⟨.hbm, 283, rfl⟩
abbrev main_call9_v14 : Ref sig .tc := ⟨.hbm, 284, rfl⟩
abbrev main_call9_v15 : Ref sig .tc := ⟨.hbm, 285, rfl⟩
abbrev main_call9_v16 : Ref sig .tc := ⟨.hbm, 286, rfl⟩
abbrev main_call9_cst_2 : Ref sig .tc := ⟨.hbm, 287, rfl⟩
abbrev main_call9_v17 : Ref sig .tc := ⟨.hbm, 288, rfl⟩
abbrev main_call9_cst_3 : Ref sig .tc := ⟨.hbm, 289, rfl⟩
abbrev main_v25_2 : Ref sig .tc := ⟨.hbm, 290, rfl⟩
abbrev main_call9_v19 : Ref sig .tc := ⟨.hbm, 291, rfl⟩
abbrev main_call9_v20 : Ref sig .tc := ⟨.hbm, 292, rfl⟩
abbrev main_call9_cst_4 : Ref sig .tc := ⟨.hbm, 293, rfl⟩
abbrev main_call9_v21 : Ref sig .tc := ⟨.hbm, 294, rfl⟩
abbrev main_call9_cst_5 : Ref sig .tc := ⟨.hbm, 295, rfl⟩
abbrev main_v25_1 : Ref sig .tc := ⟨.hbm, 296, rfl⟩
abbrev main_call9_v23 : Ref sig .tc := ⟨.hbm, 297, rfl⟩
abbrev main_v25_0 : Ref sig .tc := ⟨.hbm, 298, rfl⟩
abbrev main_v25_3 : Ref sig .tc := ⟨.hbm, 299, rfl⟩
abbrev main_v26 : Ref sig .tc := ⟨.hbm, 300, rfl⟩
abbrev main_cst_3 : Ref sig .tc := ⟨.hbm, 301, rfl⟩
abbrev main_v27 : Ref sig .tc := ⟨.hbm, 302, rfl⟩
abbrev main_v28 : Ref sig .tc := ⟨.hbm, 303, rfl⟩
abbrev main_v29 : Ref sig .tc := ⟨.hbm, 304, rfl⟩
abbrev main_v30 : Ref sig .tc := ⟨.hbm, 305, rfl⟩
abbrev main_v31 : Ref sig .tc := ⟨.hbm, 306, rfl⟩
abbrev main_call10_v0 : Ref sig .tc := ⟨.hbm, 307, rfl⟩
abbrev main_call10_cst : Ref sig .tc := ⟨.hbm, 308, rfl⟩
abbrev main_call10_v1 : Ref sig .tc := ⟨.hbm, 309, rfl⟩
abbrev main_call10_v2 : Ref sig .tc := ⟨.hbm, 310, rfl⟩
abbrev main_call10_v3 : Ref sig .tc := ⟨.hbm, 311, rfl⟩
abbrev main_call10_cst_0 : Ref sig .tc := ⟨.hbm, 312, rfl⟩
abbrev main_call10_v4 : Ref sig .tc := ⟨.hbm, 313, rfl⟩
abbrev main_call10_v5 : Ref sig .tc := ⟨.hbm, 314, rfl⟩
abbrev main_call10_v6 : Ref sig .tc := ⟨.hbm, 315, rfl⟩
abbrev main_call10_v7 : Ref sig .tc := ⟨.hbm, 316, rfl⟩
abbrev main_call10_v8 : Ref sig .tc := ⟨.hbm, 317, rfl⟩
abbrev main_call10_cst_1 : Ref sig .tc := ⟨.hbm, 318, rfl⟩
abbrev main_call10_v9 : Ref sig .tc := ⟨.hbm, 319, rfl⟩
abbrev main_call10_v10 : Ref sig .tc := ⟨.hbm, 320, rfl⟩
abbrev main_call10_v11 : Ref sig .tc := ⟨.hbm, 321, rfl⟩
abbrev main_call10_v12 : Ref sig .tc := ⟨.hbm, 322, rfl⟩
abbrev main_call10_call0_v0 : Ref sig .tc := ⟨.hbm, 323, rfl⟩
abbrev main_call10_call0_cst : Ref sig .tc := ⟨.hbm, 324, rfl⟩
abbrev main_call10_call0_c : Ref sig .tc := ⟨.hbm, 325, rfl⟩
abbrev main_call10_call0_v1_0 : Ref sig .tc := ⟨.hbm, 326, rfl⟩
abbrev main_call10_v13 : Ref sig .tc := ⟨.hbm, 327, rfl⟩
abbrev main_call10_call1_c : Ref sig .tc := ⟨.hbm, 328, rfl⟩
abbrev main_call10_call1_v0 : Ref sig .tc := ⟨.hbm, 329, rfl⟩
abbrev main_call10_call1_v1 : Ref sig .tc := ⟨.hbm, 330, rfl⟩
abbrev main_call10_call1_c_0 : Ref sig .tc := ⟨.hbm, 331, rfl⟩
abbrev main_call10_call1_v2 : Ref sig .tc := ⟨.hbm, 332, rfl⟩
abbrev main_call10_call1_v3 : Ref sig .tc := ⟨.hbm, 333, rfl⟩
abbrev main_call10_call1_v4 : Ref sig .tc := ⟨.hbm, 334, rfl⟩
abbrev main_call10_call1_v5 : Ref sig .tc := ⟨.hbm, 335, rfl⟩
abbrev main_call10_call1_c_1 : Ref sig .tc := ⟨.hbm, 336, rfl⟩
abbrev main_call10_call1_c_2 : Ref sig .tc := ⟨.hbm, 337, rfl⟩
abbrev main_call10_call1_v6 : Ref sig .tc := ⟨.hbm, 338, rfl⟩
abbrev main_call10_call1_v7 : Ref sig .tc := ⟨.hbm, 339, rfl⟩
abbrev main_call10_call1_v8 : Ref sig .tc := ⟨.hbm, 340, rfl⟩
abbrev main_call10_call1_v9 : Ref sig .tc := ⟨.hbm, 341, rfl⟩
abbrev main_call10_call1_v10 : Ref sig .tc := ⟨.hbm, 342, rfl⟩
abbrev main_call10_call1_v11 : Ref sig .tc := ⟨.hbm, 343, rfl⟩
abbrev main_call10_call1_c_3 : Ref sig .tc := ⟨.hbm, 344, rfl⟩
abbrev main_call10_call1_v12 : Ref sig .tc := ⟨.hbm, 345, rfl⟩
abbrev main_call10_call1_v13 : Ref sig .tc := ⟨.hbm, 346, rfl⟩
abbrev main_call10_call1_v14 : Ref sig .tc := ⟨.hbm, 347, rfl⟩
abbrev main_call10_call1_cst : Ref sig .tc := ⟨.hbm, 348, rfl⟩
abbrev main_call10_call1_v15 : Ref sig .tc := ⟨.hbm, 349, rfl⟩
abbrev main_call10_v14 : Ref sig .tc := ⟨.hbm, 350, rfl⟩
abbrev main_call10_v15 : Ref sig .tc := ⟨.hbm, 351, rfl⟩
abbrev main_call10_v16 : Ref sig .tc := ⟨.hbm, 352, rfl⟩
abbrev main_call10_cst_2 : Ref sig .tc := ⟨.hbm, 353, rfl⟩
abbrev main_call10_v17 : Ref sig .tc := ⟨.hbm, 354, rfl⟩
abbrev main_call10_cst_3 : Ref sig .tc := ⟨.hbm, 355, rfl⟩
abbrev main_v32_2 : Ref sig .tc := ⟨.hbm, 356, rfl⟩
abbrev main_call10_v19 : Ref sig .tc := ⟨.hbm, 357, rfl⟩
abbrev main_call10_v20 : Ref sig .tc := ⟨.hbm, 358, rfl⟩
abbrev main_call10_cst_4 : Ref sig .tc := ⟨.hbm, 359, rfl⟩
abbrev main_call10_v21 : Ref sig .tc := ⟨.hbm, 360, rfl⟩
abbrev main_call10_cst_5 : Ref sig .tc := ⟨.hbm, 361, rfl⟩
abbrev main_v32_1 : Ref sig .tc := ⟨.hbm, 362, rfl⟩
abbrev main_call10_v23 : Ref sig .tc := ⟨.hbm, 363, rfl⟩
abbrev main_v32_0 : Ref sig .tc := ⟨.hbm, 364, rfl⟩
abbrev main_v32_3 : Ref sig .tc := ⟨.hbm, 365, rfl⟩
abbrev main_v33 : Ref sig .tc := ⟨.hbm, 366, rfl⟩
abbrev main_cst_4 : Ref sig .tc := ⟨.hbm, 367, rfl⟩
abbrev main_v34 : Ref sig .tc := ⟨.hbm, 368, rfl⟩
abbrev main_v35 : Ref sig .tc := ⟨.hbm, 369, rfl⟩
abbrev main_v36 : Ref sig .tc := ⟨.hbm, 370, rfl⟩
abbrev main_v37 : Ref sig .tc := ⟨.hbm, 371, rfl⟩
abbrev main_v38 : Ref sig .tc := ⟨.hbm, 372, rfl⟩
abbrev main_call11_v0 : Ref sig .tc := ⟨.hbm, 373, rfl⟩
abbrev main_call11_cst : Ref sig .tc := ⟨.hbm, 374, rfl⟩
abbrev main_call11_v1 : Ref sig .tc := ⟨.hbm, 375, rfl⟩
abbrev main_call11_v2 : Ref sig .tc := ⟨.hbm, 376, rfl⟩
abbrev main_call11_v3 : Ref sig .tc := ⟨.hbm, 377, rfl⟩
abbrev main_call11_cst_0 : Ref sig .tc := ⟨.hbm, 378, rfl⟩
abbrev main_call11_v4 : Ref sig .tc := ⟨.hbm, 379, rfl⟩
abbrev main_call11_v5 : Ref sig .tc := ⟨.hbm, 380, rfl⟩
abbrev main_call11_v6 : Ref sig .tc := ⟨.hbm, 381, rfl⟩
abbrev main_call11_v7 : Ref sig .tc := ⟨.hbm, 382, rfl⟩
abbrev main_call11_v8 : Ref sig .tc := ⟨.hbm, 383, rfl⟩
abbrev main_call11_cst_1 : Ref sig .tc := ⟨.hbm, 384, rfl⟩
abbrev main_call11_v9 : Ref sig .tc := ⟨.hbm, 385, rfl⟩
abbrev main_call11_v10 : Ref sig .tc := ⟨.hbm, 386, rfl⟩
abbrev main_call11_v11 : Ref sig .tc := ⟨.hbm, 387, rfl⟩
abbrev main_call11_v12 : Ref sig .tc := ⟨.hbm, 388, rfl⟩
abbrev main_call11_call0_v0 : Ref sig .tc := ⟨.hbm, 389, rfl⟩
abbrev main_call11_call0_cst : Ref sig .tc := ⟨.hbm, 390, rfl⟩
abbrev main_call11_call0_c : Ref sig .tc := ⟨.hbm, 391, rfl⟩
abbrev main_call11_call0_v1_0 : Ref sig .tc := ⟨.hbm, 392, rfl⟩
abbrev main_call11_v13 : Ref sig .tc := ⟨.hbm, 393, rfl⟩
abbrev main_call11_call1_c : Ref sig .tc := ⟨.hbm, 394, rfl⟩
abbrev main_call11_call1_v0 : Ref sig .tc := ⟨.hbm, 395, rfl⟩
abbrev main_call11_call1_v1 : Ref sig .tc := ⟨.hbm, 396, rfl⟩
abbrev main_call11_call1_c_0 : Ref sig .tc := ⟨.hbm, 397, rfl⟩
abbrev main_call11_call1_v2 : Ref sig .tc := ⟨.hbm, 398, rfl⟩
abbrev main_call11_call1_v3 : Ref sig .tc := ⟨.hbm, 399, rfl⟩
abbrev main_call11_call1_v4 : Ref sig .tc := ⟨.hbm, 400, rfl⟩
abbrev main_call11_call1_v5 : Ref sig .tc := ⟨.hbm, 401, rfl⟩
abbrev main_call11_call1_c_1 : Ref sig .tc := ⟨.hbm, 402, rfl⟩
abbrev main_call11_call1_c_2 : Ref sig .tc := ⟨.hbm, 403, rfl⟩
abbrev main_call11_call1_v6 : Ref sig .tc := ⟨.hbm, 404, rfl⟩
abbrev main_call11_call1_v7 : Ref sig .tc := ⟨.hbm, 405, rfl⟩
abbrev main_call11_call1_v8 : Ref sig .tc := ⟨.hbm, 406, rfl⟩
abbrev main_call11_call1_v9 : Ref sig .tc := ⟨.hbm, 407, rfl⟩
abbrev main_call11_call1_v10 : Ref sig .tc := ⟨.hbm, 408, rfl⟩
abbrev main_call11_call1_v11 : Ref sig .tc := ⟨.hbm, 409, rfl⟩
abbrev main_call11_call1_c_3 : Ref sig .tc := ⟨.hbm, 410, rfl⟩
abbrev main_call11_call1_v12 : Ref sig .tc := ⟨.hbm, 411, rfl⟩
abbrev main_call11_call1_v13 : Ref sig .tc := ⟨.hbm, 412, rfl⟩
abbrev main_call11_call1_v14 : Ref sig .tc := ⟨.hbm, 413, rfl⟩
abbrev main_call11_call1_cst : Ref sig .tc := ⟨.hbm, 414, rfl⟩
abbrev main_call11_call1_v15 : Ref sig .tc := ⟨.hbm, 415, rfl⟩
abbrev main_call11_v14 : Ref sig .tc := ⟨.hbm, 416, rfl⟩
abbrev main_call11_v15 : Ref sig .tc := ⟨.hbm, 417, rfl⟩
abbrev main_call11_v16 : Ref sig .tc := ⟨.hbm, 418, rfl⟩
abbrev main_call11_cst_2 : Ref sig .tc := ⟨.hbm, 419, rfl⟩
abbrev main_call11_v17 : Ref sig .tc := ⟨.hbm, 420, rfl⟩
abbrev main_call11_cst_3 : Ref sig .tc := ⟨.hbm, 421, rfl⟩
abbrev main_v39_2 : Ref sig .tc := ⟨.hbm, 422, rfl⟩
abbrev main_call11_v19 : Ref sig .tc := ⟨.hbm, 423, rfl⟩
abbrev main_call11_v20 : Ref sig .tc := ⟨.hbm, 424, rfl⟩
abbrev main_call11_cst_4 : Ref sig .tc := ⟨.hbm, 425, rfl⟩
abbrev main_call11_v21 : Ref sig .tc := ⟨.hbm, 426, rfl⟩
abbrev main_call11_cst_5 : Ref sig .tc := ⟨.hbm, 427, rfl⟩
abbrev main_v39_1 : Ref sig .tc := ⟨.hbm, 428, rfl⟩
abbrev main_call11_v23 : Ref sig .tc := ⟨.hbm, 429, rfl⟩
abbrev main_v39_0 : Ref sig .tc := ⟨.hbm, 430, rfl⟩
abbrev main_v39_3 : Ref sig .tc := ⟨.hbm, 431, rfl⟩
abbrev main_v40 : Ref sig .tc := ⟨.hbm, 432, rfl⟩
abbrev main_cst_5 : Ref sig .tc := ⟨.hbm, 433, rfl⟩
abbrev main_v41 : Ref sig .tc := ⟨.hbm, 434, rfl⟩
abbrev main_v42 : Ref sig .tc := ⟨.hbm, 435, rfl⟩
abbrev main_v43 : Ref sig .tc := ⟨.hbm, 436, rfl⟩
abbrev main_v44 : Ref sig .tc := ⟨.hbm, 437, rfl⟩
abbrev main_v45 : Ref sig .tc := ⟨.hbm, 438, rfl⟩
abbrev main_call12_v0 : Ref sig .tc := ⟨.hbm, 439, rfl⟩
abbrev main_call12_cst : Ref sig .tc := ⟨.hbm, 440, rfl⟩
abbrev main_call12_v1 : Ref sig .tc := ⟨.hbm, 441, rfl⟩
abbrev main_call12_v2 : Ref sig .tc := ⟨.hbm, 442, rfl⟩
abbrev main_call12_v3 : Ref sig .tc := ⟨.hbm, 443, rfl⟩
abbrev main_call12_cst_0 : Ref sig .tc := ⟨.hbm, 444, rfl⟩
abbrev main_call12_v4 : Ref sig .tc := ⟨.hbm, 445, rfl⟩
abbrev main_call12_v5 : Ref sig .tc := ⟨.hbm, 446, rfl⟩
abbrev main_call12_v6 : Ref sig .tc := ⟨.hbm, 447, rfl⟩
abbrev main_call12_v7 : Ref sig .tc := ⟨.hbm, 448, rfl⟩
abbrev main_call12_v8 : Ref sig .tc := ⟨.hbm, 449, rfl⟩
abbrev main_call12_cst_1 : Ref sig .tc := ⟨.hbm, 450, rfl⟩
abbrev main_call12_v9 : Ref sig .tc := ⟨.hbm, 451, rfl⟩
abbrev main_call12_v10 : Ref sig .tc := ⟨.hbm, 452, rfl⟩
abbrev main_call12_v11 : Ref sig .tc := ⟨.hbm, 453, rfl⟩
abbrev main_call12_v12 : Ref sig .tc := ⟨.hbm, 454, rfl⟩
abbrev main_call12_call0_v0 : Ref sig .tc := ⟨.hbm, 455, rfl⟩
abbrev main_call12_call0_cst : Ref sig .tc := ⟨.hbm, 456, rfl⟩
abbrev main_call12_call0_c : Ref sig .tc := ⟨.hbm, 457, rfl⟩
abbrev main_call12_call0_v1_0 : Ref sig .tc := ⟨.hbm, 458, rfl⟩
abbrev main_call12_v13 : Ref sig .tc := ⟨.hbm, 459, rfl⟩
abbrev main_call12_call1_c : Ref sig .tc := ⟨.hbm, 460, rfl⟩
abbrev main_call12_call1_v0 : Ref sig .tc := ⟨.hbm, 461, rfl⟩
abbrev main_call12_call1_v1 : Ref sig .tc := ⟨.hbm, 462, rfl⟩
abbrev main_call12_call1_c_0 : Ref sig .tc := ⟨.hbm, 463, rfl⟩
abbrev main_call12_call1_v2 : Ref sig .tc := ⟨.hbm, 464, rfl⟩
abbrev main_call12_call1_v3 : Ref sig .tc := ⟨.hbm, 465, rfl⟩
abbrev main_call12_call1_v4 : Ref sig .tc := ⟨.hbm, 466, rfl⟩
abbrev main_call12_call1_v5 : Ref sig .tc := ⟨.hbm, 467, rfl⟩
abbrev main_call12_call1_c_1 : Ref sig .tc := ⟨.hbm, 468, rfl⟩
abbrev main_call12_call1_c_2 : Ref sig .tc := ⟨.hbm, 469, rfl⟩
abbrev main_call12_call1_v6 : Ref sig .tc := ⟨.hbm, 470, rfl⟩
abbrev main_call12_call1_v7 : Ref sig .tc := ⟨.hbm, 471, rfl⟩
abbrev main_call12_call1_v8 : Ref sig .tc := ⟨.hbm, 472, rfl⟩
abbrev main_call12_call1_v9 : Ref sig .tc := ⟨.hbm, 473, rfl⟩
abbrev main_call12_call1_v10 : Ref sig .tc := ⟨.hbm, 474, rfl⟩
abbrev main_call12_call1_v11 : Ref sig .tc := ⟨.hbm, 475, rfl⟩
abbrev main_call12_call1_c_3 : Ref sig .tc := ⟨.hbm, 476, rfl⟩
abbrev main_call12_call1_v12 : Ref sig .tc := ⟨.hbm, 477, rfl⟩
abbrev main_call12_call1_v13 : Ref sig .tc := ⟨.hbm, 478, rfl⟩
abbrev main_call12_call1_v14 : Ref sig .tc := ⟨.hbm, 479, rfl⟩
abbrev main_call12_call1_cst : Ref sig .tc := ⟨.hbm, 480, rfl⟩
abbrev main_call12_call1_v15 : Ref sig .tc := ⟨.hbm, 481, rfl⟩
abbrev main_call12_v14 : Ref sig .tc := ⟨.hbm, 482, rfl⟩
abbrev main_call12_v15 : Ref sig .tc := ⟨.hbm, 483, rfl⟩
abbrev main_call12_v16 : Ref sig .tc := ⟨.hbm, 484, rfl⟩
abbrev main_call12_cst_2 : Ref sig .tc := ⟨.hbm, 485, rfl⟩
abbrev main_call12_v17 : Ref sig .tc := ⟨.hbm, 486, rfl⟩
abbrev main_call12_cst_3 : Ref sig .tc := ⟨.hbm, 487, rfl⟩
abbrev main_v46_2 : Ref sig .tc := ⟨.hbm, 488, rfl⟩
abbrev main_call12_v19 : Ref sig .tc := ⟨.hbm, 489, rfl⟩
abbrev main_call12_v20 : Ref sig .tc := ⟨.hbm, 490, rfl⟩
abbrev main_call12_cst_4 : Ref sig .tc := ⟨.hbm, 491, rfl⟩
abbrev main_call12_v21 : Ref sig .tc := ⟨.hbm, 492, rfl⟩
abbrev main_call12_cst_5 : Ref sig .tc := ⟨.hbm, 493, rfl⟩
abbrev main_v46_1 : Ref sig .tc := ⟨.hbm, 494, rfl⟩
abbrev main_call12_v23 : Ref sig .tc := ⟨.hbm, 495, rfl⟩
abbrev main_v46_0 : Ref sig .tc := ⟨.hbm, 496, rfl⟩
abbrev main_v46_3 : Ref sig .tc := ⟨.hbm, 497, rfl⟩
abbrev main_v47 : Ref sig .tc := ⟨.hbm, 498, rfl⟩
abbrev main_cst_6 : Ref sig .tc := ⟨.hbm, 499, rfl⟩
abbrev main_v48 : Ref sig .tc := ⟨.hbm, 500, rfl⟩
abbrev main_v49 : Ref sig .tc := ⟨.hbm, 501, rfl⟩
abbrev main_v50 : Ref sig .tc := ⟨.hbm, 502, rfl⟩
abbrev main_v51 : Ref sig .tc := ⟨.hbm, 503, rfl⟩
abbrev main_v52 : Ref sig .tc := ⟨.hbm, 504, rfl⟩
abbrev main_call13_v0 : Ref sig .tc := ⟨.hbm, 505, rfl⟩
abbrev main_call13_cst : Ref sig .tc := ⟨.hbm, 506, rfl⟩
abbrev main_call13_v1 : Ref sig .tc := ⟨.hbm, 507, rfl⟩
abbrev main_call13_v2 : Ref sig .tc := ⟨.hbm, 508, rfl⟩
abbrev main_call13_v3 : Ref sig .tc := ⟨.hbm, 509, rfl⟩
abbrev main_call13_cst_0 : Ref sig .tc := ⟨.hbm, 510, rfl⟩
abbrev main_call13_v4 : Ref sig .tc := ⟨.hbm, 511, rfl⟩
abbrev main_call13_v5 : Ref sig .tc := ⟨.hbm, 512, rfl⟩
abbrev main_call13_v6 : Ref sig .tc := ⟨.hbm, 513, rfl⟩
abbrev main_call13_v7 : Ref sig .tc := ⟨.hbm, 514, rfl⟩
abbrev main_call13_v8 : Ref sig .tc := ⟨.hbm, 515, rfl⟩
abbrev main_call13_cst_1 : Ref sig .tc := ⟨.hbm, 516, rfl⟩
abbrev main_call13_v9 : Ref sig .tc := ⟨.hbm, 517, rfl⟩
abbrev main_call13_v10 : Ref sig .tc := ⟨.hbm, 518, rfl⟩
abbrev main_call13_v11 : Ref sig .tc := ⟨.hbm, 519, rfl⟩
abbrev main_call13_v12 : Ref sig .tc := ⟨.hbm, 520, rfl⟩
abbrev main_call13_call0_v0 : Ref sig .tc := ⟨.hbm, 521, rfl⟩
abbrev main_call13_call0_cst : Ref sig .tc := ⟨.hbm, 522, rfl⟩
abbrev main_call13_call0_c : Ref sig .tc := ⟨.hbm, 523, rfl⟩
abbrev main_call13_call0_v1_0 : Ref sig .tc := ⟨.hbm, 524, rfl⟩
abbrev main_call13_v13 : Ref sig .tc := ⟨.hbm, 525, rfl⟩
abbrev main_call13_call1_c : Ref sig .tc := ⟨.hbm, 526, rfl⟩
abbrev main_call13_call1_v0 : Ref sig .tc := ⟨.hbm, 527, rfl⟩
abbrev main_call13_call1_v1 : Ref sig .tc := ⟨.hbm, 528, rfl⟩
abbrev main_call13_call1_c_0 : Ref sig .tc := ⟨.hbm, 529, rfl⟩
abbrev main_call13_call1_v2 : Ref sig .tc := ⟨.hbm, 530, rfl⟩
abbrev main_call13_call1_v3 : Ref sig .tc := ⟨.hbm, 531, rfl⟩
abbrev main_call13_call1_v4 : Ref sig .tc := ⟨.hbm, 532, rfl⟩
abbrev main_call13_call1_v5 : Ref sig .tc := ⟨.hbm, 533, rfl⟩
abbrev main_call13_call1_c_1 : Ref sig .tc := ⟨.hbm, 534, rfl⟩
abbrev main_call13_call1_c_2 : Ref sig .tc := ⟨.hbm, 535, rfl⟩
abbrev main_call13_call1_v6 : Ref sig .tc := ⟨.hbm, 536, rfl⟩
abbrev main_call13_call1_v7 : Ref sig .tc := ⟨.hbm, 537, rfl⟩
abbrev main_call13_call1_v8 : Ref sig .tc := ⟨.hbm, 538, rfl⟩
abbrev main_call13_call1_v9 : Ref sig .tc := ⟨.hbm, 539, rfl⟩
abbrev main_call13_call1_v10 : Ref sig .tc := ⟨.hbm, 540, rfl⟩
abbrev main_call13_call1_v11 : Ref sig .tc := ⟨.hbm, 541, rfl⟩
abbrev main_call13_call1_c_3 : Ref sig .tc := ⟨.hbm, 542, rfl⟩
abbrev main_call13_call1_v12 : Ref sig .tc := ⟨.hbm, 543, rfl⟩
abbrev main_call13_call1_v13 : Ref sig .tc := ⟨.hbm, 544, rfl⟩
abbrev main_call13_call1_v14 : Ref sig .tc := ⟨.hbm, 545, rfl⟩
abbrev main_call13_call1_cst : Ref sig .tc := ⟨.hbm, 546, rfl⟩
abbrev main_call13_call1_v15 : Ref sig .tc := ⟨.hbm, 547, rfl⟩
abbrev main_call13_v14 : Ref sig .tc := ⟨.hbm, 548, rfl⟩
abbrev main_call13_v15 : Ref sig .tc := ⟨.hbm, 549, rfl⟩
abbrev main_call13_v16 : Ref sig .tc := ⟨.hbm, 550, rfl⟩
abbrev main_call13_cst_2 : Ref sig .tc := ⟨.hbm, 551, rfl⟩
abbrev main_call13_v17 : Ref sig .tc := ⟨.hbm, 552, rfl⟩
abbrev main_call13_cst_3 : Ref sig .tc := ⟨.hbm, 553, rfl⟩
abbrev main_v53_2 : Ref sig .tc := ⟨.hbm, 554, rfl⟩
abbrev main_call13_v19 : Ref sig .tc := ⟨.hbm, 555, rfl⟩
abbrev main_call13_v20 : Ref sig .tc := ⟨.hbm, 556, rfl⟩
abbrev main_call13_cst_4 : Ref sig .tc := ⟨.hbm, 557, rfl⟩
abbrev main_call13_v21 : Ref sig .tc := ⟨.hbm, 558, rfl⟩
abbrev main_call13_cst_5 : Ref sig .tc := ⟨.hbm, 559, rfl⟩
abbrev main_v53_1 : Ref sig .tc := ⟨.hbm, 560, rfl⟩
abbrev main_call13_v23 : Ref sig .tc := ⟨.hbm, 561, rfl⟩
abbrev main_v53_0 : Ref sig .tc := ⟨.hbm, 562, rfl⟩
abbrev main_v53_3 : Ref sig .tc := ⟨.hbm, 563, rfl⟩
abbrev main_v54 : Ref sig .tc := ⟨.hbm, 564, rfl⟩
abbrev main_cst_7 : Ref sig .tc := ⟨.hbm, 565, rfl⟩
abbrev main_v55 : Ref sig .tc := ⟨.hbm, 566, rfl⟩
abbrev main_v56 : Ref sig .tc := ⟨.hbm, 567, rfl⟩
abbrev main_v57 : Ref sig .tc := ⟨.hbm, 568, rfl⟩
abbrev main_v58 : Ref sig .tc := ⟨.hbm, 569, rfl⟩
abbrev main_v59 : Ref sig .tc := ⟨.hbm, 570, rfl⟩
abbrev main_call14_v0 : Ref sig .tc := ⟨.hbm, 571, rfl⟩
abbrev main_call14_cst : Ref sig .tc := ⟨.hbm, 572, rfl⟩
abbrev main_call14_v1 : Ref sig .tc := ⟨.hbm, 573, rfl⟩
abbrev main_call14_v2 : Ref sig .tc := ⟨.hbm, 574, rfl⟩
abbrev main_call14_v3 : Ref sig .tc := ⟨.hbm, 575, rfl⟩
abbrev main_call14_cst_0 : Ref sig .tc := ⟨.hbm, 576, rfl⟩
abbrev main_call14_v4 : Ref sig .tc := ⟨.hbm, 577, rfl⟩
abbrev main_call14_v5 : Ref sig .tc := ⟨.hbm, 578, rfl⟩
abbrev main_call14_v6 : Ref sig .tc := ⟨.hbm, 579, rfl⟩
abbrev main_call14_v7 : Ref sig .tc := ⟨.hbm, 580, rfl⟩
abbrev main_call14_v8 : Ref sig .tc := ⟨.hbm, 581, rfl⟩
abbrev main_call14_cst_1 : Ref sig .tc := ⟨.hbm, 582, rfl⟩
abbrev main_call14_v9 : Ref sig .tc := ⟨.hbm, 583, rfl⟩
abbrev main_call14_v10 : Ref sig .tc := ⟨.hbm, 584, rfl⟩
abbrev main_call14_v11 : Ref sig .tc := ⟨.hbm, 585, rfl⟩
abbrev main_call14_v12 : Ref sig .tc := ⟨.hbm, 586, rfl⟩
abbrev main_call14_call0_v0 : Ref sig .tc := ⟨.hbm, 587, rfl⟩
abbrev main_call14_call0_cst : Ref sig .tc := ⟨.hbm, 588, rfl⟩
abbrev main_call14_call0_c : Ref sig .tc := ⟨.hbm, 589, rfl⟩
abbrev main_call14_call0_v1_0 : Ref sig .tc := ⟨.hbm, 590, rfl⟩
abbrev main_call14_v13 : Ref sig .tc := ⟨.hbm, 591, rfl⟩
abbrev main_call14_call1_c : Ref sig .tc := ⟨.hbm, 592, rfl⟩
abbrev main_call14_call1_v0 : Ref sig .tc := ⟨.hbm, 593, rfl⟩
abbrev main_call14_call1_v1 : Ref sig .tc := ⟨.hbm, 594, rfl⟩
abbrev main_call14_call1_c_0 : Ref sig .tc := ⟨.hbm, 595, rfl⟩
abbrev main_call14_call1_v2 : Ref sig .tc := ⟨.hbm, 596, rfl⟩
abbrev main_call14_call1_v3 : Ref sig .tc := ⟨.hbm, 597, rfl⟩
abbrev main_call14_call1_v4 : Ref sig .tc := ⟨.hbm, 598, rfl⟩
abbrev main_call14_call1_v5 : Ref sig .tc := ⟨.hbm, 599, rfl⟩
abbrev main_call14_call1_c_1 : Ref sig .tc := ⟨.hbm, 600, rfl⟩
abbrev main_call14_call1_c_2 : Ref sig .tc := ⟨.hbm, 601, rfl⟩
abbrev main_call14_call1_v6 : Ref sig .tc := ⟨.hbm, 602, rfl⟩
abbrev main_call14_call1_v7 : Ref sig .tc := ⟨.hbm, 603, rfl⟩
abbrev main_call14_call1_v8 : Ref sig .tc := ⟨.hbm, 604, rfl⟩
abbrev main_call14_call1_v9 : Ref sig .tc := ⟨.hbm, 605, rfl⟩
abbrev main_call14_call1_v10 : Ref sig .tc := ⟨.hbm, 606, rfl⟩
abbrev main_call14_call1_v11 : Ref sig .tc := ⟨.hbm, 607, rfl⟩
abbrev main_call14_call1_c_3 : Ref sig .tc := ⟨.hbm, 608, rfl⟩
abbrev main_call14_call1_v12 : Ref sig .tc := ⟨.hbm, 609, rfl⟩
abbrev main_call14_call1_v13 : Ref sig .tc := ⟨.hbm, 610, rfl⟩
abbrev main_call14_call1_v14 : Ref sig .tc := ⟨.hbm, 611, rfl⟩
abbrev main_call14_call1_cst : Ref sig .tc := ⟨.hbm, 612, rfl⟩
abbrev main_call14_call1_v15 : Ref sig .tc := ⟨.hbm, 613, rfl⟩
abbrev main_call14_v14 : Ref sig .tc := ⟨.hbm, 614, rfl⟩
abbrev main_call14_v15 : Ref sig .tc := ⟨.hbm, 615, rfl⟩
abbrev main_call14_v16 : Ref sig .tc := ⟨.hbm, 616, rfl⟩
abbrev main_call14_cst_2 : Ref sig .tc := ⟨.hbm, 617, rfl⟩
abbrev main_call14_v17 : Ref sig .tc := ⟨.hbm, 618, rfl⟩
abbrev main_call14_cst_3 : Ref sig .tc := ⟨.hbm, 619, rfl⟩
abbrev main_v60_2 : Ref sig .tc := ⟨.hbm, 620, rfl⟩
abbrev main_call14_v19 : Ref sig .tc := ⟨.hbm, 621, rfl⟩
abbrev main_call14_v20 : Ref sig .tc := ⟨.hbm, 622, rfl⟩
abbrev main_call14_cst_4 : Ref sig .tc := ⟨.hbm, 623, rfl⟩
abbrev main_call14_v21 : Ref sig .tc := ⟨.hbm, 624, rfl⟩
abbrev main_call14_cst_5 : Ref sig .tc := ⟨.hbm, 625, rfl⟩
abbrev main_v60_1 : Ref sig .tc := ⟨.hbm, 626, rfl⟩
abbrev main_call14_v23 : Ref sig .tc := ⟨.hbm, 627, rfl⟩
abbrev main_v60_0 : Ref sig .tc := ⟨.hbm, 628, rfl⟩
abbrev main_v60_3 : Ref sig .tc := ⟨.hbm, 629, rfl⟩
abbrev main_v61 : Ref sig .tc := ⟨.hbm, 630, rfl⟩
abbrev main_cst_8 : Ref sig .tc := ⟨.hbm, 631, rfl⟩
abbrev main_v62 : Ref sig .tc := ⟨.hbm, 632, rfl⟩
abbrev main_v63 : Ref sig .tc := ⟨.hbm, 633, rfl⟩
abbrev main_v64 : Ref sig .tc := ⟨.hbm, 634, rfl⟩
abbrev main_v65 : Ref sig .tc := ⟨.hbm, 635, rfl⟩
abbrev main_call15_v0 : Ref sig .tc := ⟨.hbm, 636, rfl⟩
abbrev main_call15_v1 : Ref sig .tc := ⟨.hbm, 637, rfl⟩
abbrev main_call15_cst : Ref sig .tc := ⟨.hbm, 638, rfl⟩
abbrev main_call15_v2 : Ref sig .tc := ⟨.hbm, 639, rfl⟩
abbrev main_call15_call1_v0 : Ref sig .tc := ⟨.hbm, 640, rfl⟩
abbrev main_call15_call1_v1 : Ref sig .tc := ⟨.hbm, 641, rfl⟩
abbrev main_call15_call1_v2 : Ref sig .tc := ⟨.hbm, 642, rfl⟩
abbrev main_call15_call1_cst : Ref sig .tc := ⟨.hbm, 643, rfl⟩
abbrev main_call15_call1_v3 : Ref sig .tc := ⟨.hbm, 644, rfl⟩
abbrev main_call15_call1_v4 : Ref sig .tc := ⟨.hbm, 645, rfl⟩
abbrev main_call15_call1_v5 : Ref sig .tc := ⟨.hbm, 646, rfl⟩
abbrev main_call15_call1_v6 : Ref sig .tc := ⟨.hbm, 647, rfl⟩
abbrev main_v66 : Ref sig .tc := ⟨.hbm, 648, rfl⟩
abbrev main_call16_cst : Ref sig .tc := ⟨.hbm, 649, rfl⟩
abbrev main_call16_v0 : Ref sig .tc := ⟨.hbm, 650, rfl⟩
abbrev main_v67 : Ref sig .tc := ⟨.hbm, 651, rfl⟩
abbrev main_call17_v0 : Ref sig .tc := ⟨.hbm, 652, rfl⟩
abbrev main_call17_v1 : Ref sig .tc := ⟨.hbm, 653, rfl⟩
abbrev main_call17_cst : Ref sig .tc := ⟨.hbm, 654, rfl⟩
abbrev main_call17_v2 : Ref sig .tc := ⟨.hbm, 655, rfl⟩
abbrev main_call17_call1_v0 : Ref sig .tc := ⟨.hbm, 656, rfl⟩
abbrev main_call17_call1_v1 : Ref sig .tc := ⟨.hbm, 657, rfl⟩
abbrev main_call17_call1_v2 : Ref sig .tc := ⟨.hbm, 658, rfl⟩
abbrev main_call17_call1_v3 : Ref sig .tc := ⟨.hbm, 659, rfl⟩
abbrev main_call17_call1_v4 : Ref sig .tc := ⟨.hbm, 660, rfl⟩
abbrev main_call17_call1_cst : Ref sig .tc := ⟨.hbm, 661, rfl⟩
abbrev main_call17_call1_v5 : Ref sig .tc := ⟨.hbm, 662, rfl⟩
abbrev main_call17_call1_v6 : Ref sig .tc := ⟨.hbm, 663, rfl⟩
abbrev main_call17_call1_v7 : Ref sig .tc := ⟨.hbm, 664, rfl⟩
abbrev main_call17_call1_v8 : Ref sig .tc := ⟨.hbm, 665, rfl⟩
abbrev main_call17_call1_v9 : Ref sig .tc := ⟨.hbm, 666, rfl⟩
abbrev main_call17_call1_v10 : Ref sig .tc := ⟨.hbm, 667, rfl⟩
abbrev main_call17_call1_v11 : Ref sig .tc := ⟨.hbm, 668, rfl⟩
abbrev main_call17_call1_v12 : Ref sig .tc := ⟨.hbm, 669, rfl⟩
abbrev main_call17_call1_v13 : Ref sig .tc := ⟨.hbm, 670, rfl⟩
abbrev main_call17_call1_v14 : Ref sig .tc := ⟨.hbm, 671, rfl⟩
abbrev main_call17_call1_v15 : Ref sig .tc := ⟨.hbm, 672, rfl⟩
abbrev main_call17_call1_v16 : Ref sig .tc := ⟨.hbm, 673, rfl⟩
abbrev main_call17_call1_v17 : Ref sig .tc := ⟨.hbm, 674, rfl⟩
abbrev main_call17_call1_v18 : Ref sig .tc := ⟨.hbm, 675, rfl⟩
abbrev main_call17_call1_v19 : Ref sig .tc := ⟨.hbm, 676, rfl⟩
abbrev main_call17_call1_v20 : Ref sig .tc := ⟨.hbm, 677, rfl⟩
abbrev main_call17_call1_v21 : Ref sig .tc := ⟨.hbm, 678, rfl⟩
abbrev main_call17_call1_v22 : Ref sig .tc := ⟨.hbm, 679, rfl⟩
abbrev main_call17_call1_v23 : Ref sig .tc := ⟨.hbm, 680, rfl⟩
abbrev main_call17_call1_v24 : Ref sig .tc := ⟨.hbm, 681, rfl⟩
abbrev main_call17_call1_v25 : Ref sig .tc := ⟨.hbm, 682, rfl⟩
abbrev main_call17_call1_v26 : Ref sig .tc := ⟨.hbm, 683, rfl⟩
abbrev main_v68 : Ref sig .tc := ⟨.hbm, 684, rfl⟩
abbrev main_call18_cst : Ref sig .tc := ⟨.hbm, 685, rfl⟩
abbrev main_call18_v0 : Ref sig .tc := ⟨.hbm, 686, rfl⟩
abbrev main_v69 : Ref sig .tc := ⟨.hbm, 687, rfl⟩
abbrev main_call19_v0 : Ref sig .tc := ⟨.hbm, 688, rfl⟩
abbrev main_call19_v1 : Ref sig .tc := ⟨.hbm, 689, rfl⟩
abbrev main_call19_cst : Ref sig .tc := ⟨.hbm, 690, rfl⟩
abbrev main_call19_v2 : Ref sig .tc := ⟨.hbm, 691, rfl⟩
abbrev main_call19_call1_v0 : Ref sig .tc := ⟨.hbm, 692, rfl⟩
abbrev main_call19_call1_v1 : Ref sig .tc := ⟨.hbm, 693, rfl⟩
abbrev main_call19_call1_v2 : Ref sig .tc := ⟨.hbm, 694, rfl⟩
abbrev main_call19_call1_v3 : Ref sig .tc := ⟨.hbm, 695, rfl⟩
abbrev main_call19_call1_v4 : Ref sig .tc := ⟨.hbm, 696, rfl⟩
abbrev main_call19_call1_cst : Ref sig .tc := ⟨.hbm, 697, rfl⟩
abbrev main_call19_call1_v5 : Ref sig .tc := ⟨.hbm, 698, rfl⟩
abbrev main_call19_call1_v6 : Ref sig .tc := ⟨.hbm, 699, rfl⟩
abbrev main_call19_call1_v7 : Ref sig .tc := ⟨.hbm, 700, rfl⟩
abbrev main_call19_call1_v8 : Ref sig .tc := ⟨.hbm, 701, rfl⟩
abbrev main_call19_call1_v9 : Ref sig .tc := ⟨.hbm, 702, rfl⟩
abbrev main_call19_call1_v10 : Ref sig .tc := ⟨.hbm, 703, rfl⟩
abbrev main_call19_call1_v11 : Ref sig .tc := ⟨.hbm, 704, rfl⟩
abbrev main_call19_call1_v12 : Ref sig .tc := ⟨.hbm, 705, rfl⟩
abbrev main_call19_call1_v13 : Ref sig .tc := ⟨.hbm, 706, rfl⟩
abbrev main_call19_call1_v14 : Ref sig .tc := ⟨.hbm, 707, rfl⟩
abbrev main_call19_call1_v15 : Ref sig .tc := ⟨.hbm, 708, rfl⟩
abbrev main_call19_call1_v16 : Ref sig .tc := ⟨.hbm, 709, rfl⟩
abbrev main_call19_call1_v17 : Ref sig .tc := ⟨.hbm, 710, rfl⟩
abbrev main_call19_call1_v18 : Ref sig .tc := ⟨.hbm, 711, rfl⟩
abbrev main_call19_call1_v19 : Ref sig .tc := ⟨.hbm, 712, rfl⟩
abbrev main_call19_call1_v20 : Ref sig .tc := ⟨.hbm, 713, rfl⟩
abbrev main_call19_call1_v21 : Ref sig .tc := ⟨.hbm, 714, rfl⟩
abbrev main_call19_call1_v22 : Ref sig .tc := ⟨.hbm, 715, rfl⟩
abbrev main_call19_call1_v23 : Ref sig .tc := ⟨.hbm, 716, rfl⟩
abbrev main_call19_call1_v24 : Ref sig .tc := ⟨.hbm, 717, rfl⟩
abbrev main_call19_call1_v25 : Ref sig .tc := ⟨.hbm, 718, rfl⟩
abbrev main_call19_call1_v26 : Ref sig .tc := ⟨.hbm, 719, rfl⟩
abbrev main_v70 : Ref sig .tc := ⟨.hbm, 720, rfl⟩
abbrev main_call20_cst : Ref sig .tc := ⟨.hbm, 721, rfl⟩
abbrev main_call20_v0 : Ref sig .tc := ⟨.hbm, 722, rfl⟩
abbrev main_v71 : Ref sig .tc := ⟨.hbm, 723, rfl⟩
abbrev main_call21_v0 : Ref sig .tc := ⟨.hbm, 724, rfl⟩
abbrev main_call21_v1 : Ref sig .tc := ⟨.hbm, 725, rfl⟩
abbrev main_call21_cst : Ref sig .tc := ⟨.hbm, 726, rfl⟩
abbrev main_call21_v2 : Ref sig .tc := ⟨.hbm, 727, rfl⟩
abbrev main_call21_call1_v0 : Ref sig .tc := ⟨.hbm, 728, rfl⟩
abbrev main_call21_call1_v1 : Ref sig .tc := ⟨.hbm, 729, rfl⟩
abbrev main_call21_call1_v2 : Ref sig .tc := ⟨.hbm, 730, rfl⟩
abbrev main_call21_call1_cst : Ref sig .tc := ⟨.hbm, 731, rfl⟩
abbrev main_call21_call1_v3 : Ref sig .tc := ⟨.hbm, 732, rfl⟩
abbrev main_call21_call1_v4 : Ref sig .tc := ⟨.hbm, 733, rfl⟩
abbrev main_call21_call1_v5 : Ref sig .tc := ⟨.hbm, 734, rfl⟩
abbrev main_call21_call1_v6 : Ref sig .tc := ⟨.hbm, 735, rfl⟩
abbrev main_v72 : Ref sig .tc := ⟨.hbm, 736, rfl⟩

abbrev nD : Nat := 1
abbrev τ : Topo := Topo.v7x

variable {F : FTy → Type} [FloatOps F]
-- ==== Proof.FrameKernel.RunA.lean ====
/- The run of the whole body of the kernel, at the first grid point.
   The text is that of the run's usual module; its proof takes more than the default budget. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 0 in
/-- The body's triple IN CASE A (`scf.if` 0 taken: points 0): on whole staging memrefs — the inputs' at their contents,
    the FORGOTTEN outputs' (24, 25, 26, 27, 28) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
    intro E K
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%d28, %f28, -, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    iexists _, _; isplitr; swap; · iexact H28
    ipureintro; rfl

end Cert.Kernel.Gen

end
-- ==== Proof.FrameKernel.RunB.lean ====
/- The run of the whole body of the kernel, at every grid point but the first. -/
module

public import proofs.«01_k».proof.Proof.FrameKernel.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 0 in
/-- The body's triple IN CASE B (`scf.if` 0 not taken: points 1, 2, … 15: 15 of 16): on whole staging memrefs — the inputs' at their contents,
    the FORGOTTEN outputs' (24, 25, 26, 27, 28) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : ¬cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
    intro E K
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%d28, %f28, -, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    iexists _, _; isplitr; swap; · iexact H28
    ipureintro; rfl

end Cert.Kernel.Gen

end
-- ==== Proof.FrameKernel.Frame.lean ====
/- What each output block holds, the proof data of the pipeline, the body obligation, the run and its frame. -/
module

public import proofs.«01_k».proof.Proof.FrameKernel.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (24, 25, 26, 27, 28): nothing reads what the kernel leaves in them, so nothing
    of it is named (Lib/Pipeline/Dat.lean `Dat.toRForget`). -/
def forgets0 : Fin 29 → Bool := fun w => w.val == 24 || w.val == 25 || w.val == 26 || w.val == 27 || w.val == 28

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨_ + 29, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d))

set_option maxHeartbeats 0 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  have hN : t.val < 16 := lt_of_lt_of_eq t.isLt (show cfg0.N = 16 from N_0)
  by_cases h0 : t.val % 16 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexists _; iexact H24
    isplitl [H25]; · iexists _; iexact H25
    isplitl [H26]; · iexists _; iexact H26
    isplitl [H27]; · iexists _; iexact H27
    isplitl [H28]; · iexists _; iexact H28
    iintro ⟨H0, H1, H2, H3, H4, H5, H6, H7, H8, H9, H10, H11, H12, H13, H14, H15, H16, H17, H18, H19, H20, H21, H22, H23, H24, H25, H26, H27, H28⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexists _; iexact H24
    isplitl [H25]; · iexists _; iexact H25
    isplitl [H26]; · iexists _; iexact H26
    isplitl [H27]; · iexists _; iexact H27
    isplitl [H28]; · iexists _; iexact H28
    iintro ⟨H0, H1, H2, H3, H4, H5, H6, H7, H8, H9, H10, H11, H12, H13, H14, H15, H16, H17, H18, H19, H20, H21, H22, H23, H24, H25, H26, H27, H28⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28

set_option maxHeartbeats 0 in
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 0 in
/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

/-- The buffers the lines after the region write. -/
abbrev T0 : Finset (Ref sig .tc) := {main_v49, main_v50, main_v51, main_v52, main_v53, main_v54, main_v55, main_v56}

/-- The lines after the region write no other buffer. -/
theorem sfx_writes : ∀ ops ∈ ([hostOps1] : List (List (HloOp τ sig (Elt F)))), ∀ op ∈ ops, ∀ b : Ref sig .tc,
    Proc.devRef .tc b ∈ op.writes → b ∈ T0 := by
  intro ops hops op hop b hb
  rw [List.mem_singleton.mp hops] at hop
  simp only [hostOps1, List.mem_cons, List.mem_nil_iff, or_false] at hop
  rcases hop with rfl | rfl | rfl | rfl | rfl | rfl | rfl | rfl
  all_goals
    simp only [StableHlo.unary_writes, StableHlo.reshape_writes, StableHlo.nary_writes, Finset.mem_singleton] at hb
    rw [Proc.devRef_injective _ hb]
    decide

-- `θ_run_frame_around_T_forget`'s implicit arguments are found by unifying its conclusion with this one, which takes unfolding plain
-- definitions in a metavariable's type
set_option backward.isDefEq.respectTransparency.types false in
set_option maxHeartbeats 0 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 24, 25, 26, 27, 28) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(((dats m 0 c).toRForget_arrAt_iff (w := 0) rfl _ _).mp ((h c).1 0)).trans (((dats m 0 c).arrAt_in 0 rfl _).trans ((A_eq m c 0).trans (V_main_arg0 m c))),
      (((dats m 0 c).toRForget_arrAt_iff (w := 9) rfl _ _).mp ((h c).1 9)).trans (((dats m 0 c).arrAt_in 9 rfl _).trans ((A_eq m c 9).trans (V_main_arg1 m c))),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      ((h c).2 main_arg11 (Finset.mem_sdiff.mpr ⟨Pipeline.mem_restRefs_of main_arg11 (by decide) (by decide), by decide⟩)).trans (V_main_arg11 m c),
      ((h c).2 main_arg12 (Finset.mem_sdiff.mpr ⟨Pipeline.mem_restRefs_of main_arg12 (by decide) (by decide), by decide⟩)).trans (V_main_arg12 m c),
      ((h c).2 main_arg13 (Finset.mem_sdiff.mpr ⟨Pipeline.mem_restRefs_of main_arg13 (by decide) (by decide), by decide⟩)).trans (V_main_arg13 m c),
      ((h c).2 main_arg14 (Finset.mem_sdiff.mpr ⟨Pipeline.mem_restRefs_of main_arg14 (by decide) (by decide), by decide⟩)).trans (V_main_arg14 m c),
      ((h c).2 main_arg15 (Finset.mem_sdiff.mpr ⟨Pipeline.mem_restRefs_of main_arg15 (by decide) (by decide), by decide⟩)).trans (V_main_arg15 m c),
      ((h c).2 main_arg16 (Finset.mem_sdiff.mpr ⟨Pipeline.mem_restRefs_of main_arg16 (by decide) (by decide), by decide⟩)).trans (V_main_arg16 m c),
      ((h c).2 main_arg17 (Finset.mem_sdiff.mpr ⟨Pipeline.mem_restRefs_of main_arg17 (by decide) (by decide), by decide⟩)).trans (V_main_arg17 m c)⟩) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.Kernel.Gen

end
-- ==== Proof.FrameKernelIdeal.RunA.lean ====
/- The run of the whole body of the kernel at the ideal instance, at the first grid point.
   The text is that of the run's usual module; its proof takes more than the default budget. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 0 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    and are run step by step; each `scf.if` decided by the case's hypotheses `hc·`; the pieces are
    the witness that run finds (assigned when `iexact` hands the buffer to the continuation). -/
noncomputable def kernelRun0_A (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) :
    Σ' (L24 : List (View.Piece (Elt F) S1x64x1024 .f32)), Σ' (L25 : List (View.Piece (Elt F) S1x64x1024 .f32)), Σ' (L26 : List (View.Piece (Elt F) S1x64x1024 .f32)), Σ' (L27 : List (View.Piece (Elt F) S1x64x1024 .f32)), { L28 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%d28, %f28, -, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]; · iexists _; iexact H24
    isplitl [H25]; · iexists _; iexact H25
    isplitl [H26]; · iexists _; iexact H26
    isplitl [H27]; · iexists _; iexact H27
    iexists _; iexact H28

end Cert.KernelIdeal.Gen

end
-- ==== Proof.FrameKernelIdeal.RunB.lean ====
/- The run of the whole body of the kernel at the ideal instance, at every grid point but the first. -/
module

public import proofs.«01_k».proof.Proof.FrameKernelIdeal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 0 in
/-- What the body's stores leave in each output's staging memref, as pieces (last first) IN CASE B (`scf.if` 0 not taken: points 1, 2, … 15: 15 of 16), WITH the
    proof that on whole staging memrefs — the inputs' at their contents, the outputs it reads before covering (28) at their running contents `xo·`, the other outputs' at
    anything, the body runs to the continuation holding the inputs' as they were,
    each output's buffer with its pieces written: the printed functions are their skeletons
    and are run step by step; each `scf.if` decided by the case's hypotheses `hc·`; the pieces are
    the witness that run finds (assigned when `iexact` hands the buffer to the continuation). -/
noncomputable def kernelRun0_B (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : ¬cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) (xo28 : Vec F S1x1 .f32) :
    Σ' (L24 : List (View.Piece (Elt F) S1x64x1024 .f32)), Σ' (L25 : List (View.Piece (Elt F) S1x64x1024 .f32)), Σ' (L26 : List (View.Piece (Elt F) S1x64x1024 .f32)), Σ' (L27 : List (View.Piece (Elt F) S1x64x1024 .f32)), { L28 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ owns (c : Thread nD τ) arg29 fullShare xo28
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%f28, %hf28, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg29.eq_unread hf28
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]; · iexists _; iexact H24
    isplitl [H25]; · iexists _; iexact H25
    isplitl [H26]; · iexists _; iexact H26
    isplitl [H27]; · iexists _; iexact H27
    iexists _; iexact H28

end Cert.KernelIdeal.Gen

end
-- ==== Proof.FrameKernelIdeal.Outs.lean ====
/- What each output block holds after a grid point, case by case and point by point. -/
module

public import proofs.«01_k».proof.Proof.FrameKernelIdeal.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 24 tile its block (1 store of `S1x64x1024`, checked by the kernel's evaluation: Lib/Ring.lean `Piece.tiledL`, linear in the pieces, through a loop's `@[irreducible]` trip theorem too), so they cover it. -/
theorem cover0_A_24 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) (y : S1x64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).1 S1x64x1024.size (by sl_kernel_rfl) y

/-- What case A leaves in output 24's staging buffer: its pieces read back over junk. -/
def out0_A_24 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) : Vec F S1x64x1024 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).1)

/-- Case A's pieces for output 25 tile its block (1 store of `S1x64x1024`, checked by the kernel's evaluation: Lib/Ring.lean `Piece.tiledL`, linear in the pieces, through a loop's `@[irreducible]` trip theorem too), so they cover it. -/
theorem cover0_A_25 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) (y : S1x64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.1 S1x64x1024.size (by sl_kernel_rfl) y

/-- What case A leaves in output 25's staging buffer: its pieces read back over junk. -/
def out0_A_25 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) : Vec F S1x64x1024 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.1)

/-- Case A's pieces for output 26 tile its block (1 store of `S1x64x1024`, checked by the kernel's evaluation: Lib/Ring.lean `Piece.tiledL`, linear in the pieces, through a loop's `@[irreducible]` trip theorem too), so they cover it. -/
theorem cover0_A_26 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) (y : S1x64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.1 S1x64x1024.size (by sl_kernel_rfl) y

/-- What case A leaves in output 26's staging buffer: its pieces read back over junk. -/
def out0_A_26 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) : Vec F S1x64x1024 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.1)

/-- Case A's pieces for output 27 tile its block (1 store of `S1x64x1024`, checked by the kernel's evaluation: Lib/Ring.lean `Piece.tiledL`, linear in the pieces, through a loop's `@[irreducible]` trip theorem too), so they cover it. -/
theorem cover0_A_27 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) (y : S1x64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.2.1 S1x64x1024.size (by sl_kernel_rfl) y

/-- What case A leaves in output 27's staging buffer: its pieces read back over junk. -/
def out0_A_27 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) : Vec F S1x64x1024 .f32 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.2.1)

/-- Case A's pieces for output 28 tile its block (2 stores of `S1x1`, checked by the kernel's evaluation: Lib/Ring.lean `Piece.tiledL`, linear in the pieces, through a loop's `@[irreducible]` trip theorem too), so they cover it. -/
theorem cover0_A_28 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) (y : S1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.2.2.1 S1x1.size (by sl_kernel_rfl) y

/-- What case A leaves in output 28's staging buffer: its pieces read back over junk. -/
def out0_A_28 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) : Vec F S1x1 .f32 :=
  VO0_28.read (Elt F) (VO0_28.writes (Elt F) VO0_28.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.2.2.1)

/-- Case B's pieces for output 24 tile its block (1 store of `S1x64x1024`, checked by the kernel's evaluation: Lib/Ring.lean `Piece.tiledL`, linear in the pieces, through a loop's `@[irreducible]` trip theorem too), so they cover it. -/
theorem cover0_B_24 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : ¬cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) (xo28 : Vec F S1x1 .f32) (y : S1x64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo28).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo28).1 S1x64x1024.size (by sl_kernel_rfl) y

/-- What case B leaves in output 24's staging buffer: its pieces read back over junk. -/
def out0_B_24 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : ¬cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) (xo28 : Vec F S1x1 .f32) : Vec F S1x64x1024 .f32 :=
  VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo28).1)

/-- Case B's pieces for output 25 tile its block (1 store of `S1x64x1024`, checked by the kernel's evaluation: Lib/Ring.lean `Piece.tiledL`, linear in the pieces, through a loop's `@[irreducible]` trip theorem too), so they cover it. -/
theorem cover0_B_25 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : ¬cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) (xo28 : Vec F S1x1 .f32) (y : S1x64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo28).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo28).2.1 S1x64x1024.size (by sl_kernel_rfl) y

/-- What case B leaves in output 25's staging buffer: its pieces read back over junk. -/
def out0_B_25 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : ¬cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) (xo28 : Vec F S1x1 .f32) : Vec F S1x64x1024 .f32 :=
  VO0_25.read (Elt F) (VO0_25.writes (Elt F) VO0_25.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo28).2.1)

/-- Case B's pieces for output 26 tile its block (1 store of `S1x64x1024`, checked by the kernel's evaluation: Lib/Ring.lean `Piece.tiledL`, linear in the pieces, through a loop's `@[irreducible]` trip theorem too), so they cover it. -/
theorem cover0_B_26 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : ¬cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) (xo28 : Vec F S1x1 .f32) (y : S1x64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo28).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo28).2.2.1 S1x64x1024.size (by sl_kernel_rfl) y

/-- What case B leaves in output 26's staging buffer: its pieces read back over junk. -/
def out0_B_26 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : ¬cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) (xo28 : Vec F S1x1 .f32) : Vec F S1x64x1024 .f32 :=
  VO0_26.read (Elt F) (VO0_26.writes (Elt F) VO0_26.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo28).2.2.1)

/-- Case B's pieces for output 27 tile its block (1 store of `S1x64x1024`, checked by the kernel's evaluation: Lib/Ring.lean `Piece.tiledL`, linear in the pieces, through a loop's `@[irreducible]` trip theorem too), so they cover it. -/
theorem cover0_B_27 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : ¬cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) (xo28 : Vec F S1x1 .f32) (y : S1x64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo28).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo28).2.2.2.1 S1x64x1024.size (by sl_kernel_rfl) y

/-- What case B leaves in output 27's staging buffer: its pieces read back over junk. -/
def out0_B_27 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : ¬cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) (xo28 : Vec F S1x1 .f32) : Vec F S1x64x1024 .f32 :=
  VO0_27.read (Elt F) (VO0_27.writes (Elt F) VO0_27.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo28).2.2.2.1)

/-- Case B's pieces for output 28 tile its block (1 store of `S1x1`, checked by the kernel's evaluation: Lib/Ring.lean `Piece.tiledL`, linear in the pieces, through a loop's `@[irreducible]` trip theorem too), so they cover it. -/
theorem cover0_B_28 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : ¬cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) (xo28 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo28).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo28).2.2.2.2.1 S1x1.size (by sl_kernel_rfl) y

/-- What case B leaves in output 28's staging buffer: its pieces read back over junk. -/
def out0_B_28 (c : Dev nD) (i : grid0.Coords) (arg1 : Memref sig .tc .vmem S1x64x4096 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x64 .bf16) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S64x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x256 .f32) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S1x128 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .smem S1x1 .f32) (harg29 : arg29.IsWhole) (hc0 : ¬cond0_0 i)
    (x0 : Vec F S1x64x4096 .f32) (x1 : Vec F S64x128 .bf16) (x2 : Vec F S1x128 .f32) (x3 : Vec F S512x256 .bf16) (x4 : Vec F S1x256 .f32) (x5 : Vec F S1024x512 .bf16) (x6 : Vec F S1x512 .f32) (x7 : Vec F S512x64 .bf16) (x8 : Vec F S1x64 .f32) (x9 : Vec F S8x1024x64 .f32) (x10 : Vec F S64x512 .bf16) (x11 : Vec F S1x512 .f32) (x12 : Vec F S512x256 .bf16) (x13 : Vec F S512x256 .bf16) (x14 : Vec F S512x256 .bf16) (x15 : Vec F S512x256 .bf16) (x16 : Vec F S1x256 .f32) (x17 : Vec F S256x128 .bf16) (x18 : Vec F S256x128 .bf16) (x19 : Vec F S256x128 .bf16) (x20 : Vec F S256x128 .bf16) (x21 : Vec F S1x128 .f32) (x22 : Vec F S128x64 .bf16) (x23 : Vec F S1x64 .f32) (xo28 : Vec F S1x1 .f32) : Vec F S1x1 .f32 :=
  VO0_28.read (Elt F) (VO0_28.writes (Elt F) VO0_28.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xo28).2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x64x1024 .f32 × Vec F S1x64x1024 .f32 × Vec F S1x64x1024 .f32 × Vec F S1x64x1024 .f32 × Vec F S1x1 .f32
  | 0, hn => (out0_A_24 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩), out0_A_25 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩), out0_A_26 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩), out0_A_27 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩), out0_A_28 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩))
  | n + 1, hn =>
    if h0 : (n + 1) % 16 = 0 then
      (out0_A_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩), out0_A_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩), out0_A_26 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩), out0_A_27 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩), out0_A_28 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩))
    else
      (out0_B_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn)).2.2.2.2, out0_B_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn)).2.2.2.2, out0_B_26 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn)).2.2.2.2, out0_B_27 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn)).2.2.2.2, out0_B_28 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn)).2.2.2.2)

/-- `outsAt0` at a point of case A: that case's contents. -/
theorem outsAt0_A (c : Dev nD) (t : Fin cfg0.N) (h0 : t.val % 16 = 0) :
    outsAt0 m c t.val t.isLt = (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.2.2.2, out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.2.2.2, out0_B_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.2.2.2, out0_B_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.2.2.2, out0_B_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

end Cert.KernelIdeal.Gen

end
-- ==== Proof.FrameKernelIdeal.Frame.lean ====
/- The proof data of the pipeline, the body obligation, the run of the whole program and its frame. -/
module

public import proofs.«01_k».proof.Proof.FrameKernelIdeal.Outs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outsAt0 m c t.val t.isLt).1
    | ⟨25, _⟩ => (outsAt0 m c t.val t.isLt).2.1
    | ⟨26, _⟩ => (outsAt0 m c t.val t.isLt).2.2.1
    | ⟨27, _⟩ => (outsAt0 m c t.val t.isLt).2.2.2.1
    | ⟨28, _⟩ => (outsAt0 m c t.val t.isLt).2.2.2.2
    | ⟨_ + 29, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = (outsAt0 m c t.val t.isLt).1 := by dsimp only [dats]
theorem after0_25 (c : Dev nD) (t : Fin cfg0.N) : (dats m 0 c).after 25 t = (outsAt0 m c t.val t.isLt).2.1 := by dsimp only [dats]
theorem after0_26 (c : Dev nD) (t : Fin cfg0.N) : (dats m 0 c).after 26 t = (outsAt0 m c t.val t.isLt).2.2.1 := by dsimp only [dats]
theorem after0_27 (c : Dev nD) (t : Fin cfg0.N) : (dats m 0 c).after 27 t = (outsAt0 m c t.val t.isLt).2.2.2.1 := by dsimp only [dats]
theorem after0_28 (c : Dev nD) (t : Fin cfg0.N) : (dats m 0 c).after 28 t = (outsAt0 m c t.val t.isLt).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
/-- At a point of case B output 28's current staging buffer holds what the body left at the point before: the point is
    not the first, the buffer was not written back between (`flush0_28`), the window is live and uncut (Lib/Pipeline/Frame.lean
    `Dat.before_out_kept`). -/
theorem before0_28_B (c : Dev nD) (t : Fin cfg0.N) (h0 : ¬t.val % 16 = 0) (d) :
    (dats m 0 c).before 28 t d = (outsAt0 m c (t.val - 1) (Nat.lt_of_le_of_lt (Nat.sub_le _ _) t.isLt)).2.2.2.2 := by
  have hN : t.val < 16 := lt_of_lt_of_eq t.isLt (show cfg0.N = 16 from N_0)
  rw [Dat.before_out_kept _ 28 rfl t (by omega) (Bool.eq_false_iff.mpr fun h => by have := (flush0_28 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

set_option maxHeartbeats 0 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  have hN : t.val < 16 := lt_of_lt_of_eq t.isLt (show cfg0.N = 16 from N_0)
  by_cases h0 : t.val % 16 = 0
  · rw [outsAt0_A m c t h0]
    unfold out0_A_24 out0_A_25 out0_A_26 out0_A_27 out0_A_28; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexists _; iexact H24
    isplitl [H25]; · iexists _; iexact H25
    isplitl [H26]; · iexists _; iexact H26
    isplitl [H27]; · iexists _; iexact H27
    isplitl [H28]; · iexists _; iexact H28
    iintro ⟨H0, H1, H2, H3, H4, H5, H6, H7, H8, H9, H10, H11, H12, H13, H14, H15, H16, H17, H18, H19, H20, H21, H22, H23, ⟨%e24, H24⟩, ⟨%e25, H25⟩, ⟨%e26, H26⟩, ⟨%e27, H27⟩, ⟨%e28, H28⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]
    · unfold owns; iexists _; isplitr
      swap; · iexact H24
      ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H25]
    · unfold owns; iexists _; isplitr
      swap; · iexact H25
      ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H26]
    · unfold owns; iexists _; isplitr
      swap; · iexact H26
      ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H27]
    · unfold owns; iexists _; isplitr
      swap; · iexact H27
      ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H28
    ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · rw [outsAt0_B m c t h0]
    simp only [before0_28_B m c t h0]
    unfold out0_B_24 out0_B_25 out0_B_26 out0_B_27 out0_B_28; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexists _; iexact H24
    isplitl [H25]; · iexists _; iexact H25
    isplitl [H26]; · iexists _; iexact H26
    isplitl [H27]; · iexists _; iexact H27
    isplitl [H28]; · iexact H28
    iintro ⟨H0, H1, H2, H3, H4, H5, H6, H7, H8, H9, H10, H11, H12, H13, H14, H15, H16, H17, H18, H19, H20, H21, H22, H23, ⟨%e24, H24⟩, ⟨%e25, H25⟩, ⟨%e26, H26⟩, ⟨%e27, H27⟩, ⟨%e28, H28⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]
    · unfold owns; iexists _; isplitr
      swap; · iexact H24
      ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H25]
    · unfold owns; iexists _; isplitr
      swap; · iexact H25
      ipureintro; exact View.read_writes_of_cover _ _ _ _ _ (cover0_B_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H26]
    · unfold owns; iexists _; isplitr
      swap; · iexact H26
      ipureintro; exact View.read_writes_of_cover _ _ _ _ _ (cover0_B_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H27]
    · unfold owns; iexists _; isplitr
      swap; · iexact H27
      ipureintro; exact View.read_writes_of_cover _ _ _ _ _ (cover0_B_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H28
    ipureintro; exact View.read_writes_of_cover _ _ _ _ _ (cover0_B_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

set_option maxHeartbeats 0 in
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 0 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 0 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.KernelIdeal.Gen

end
-- ==== Proof.Line.lean ====
/- Straight lines of host operations whose results are numbered in the order they are written.

   A printed function writes each of its buffers once, and the buffers' numbers increase along the
   program. `Line p lo hi P` says that `p` is such a line, that it writes buffers numbered from `lo`
   up to `hi` only, and that any contents which agree with what the line leaves, below `hi`,
   satisfy `P`. Two lines that follow one another join into one whose property is the conjunction,
   so a function's equations are read off its text and stay true to the end of the program. -/
module

public import Idealize.ShloMosaic.Lib.StableHlo.Run
public import Idealize.ShloMosaic.Lib.StableHlo.RunHlo

@[expose] public section

noncomputable section

namespace Cert.Line

open Idealize.ShloMosaic Idealize.ShloMosaic.StableHlo Idealize.SL.Sem

variable {nD : Nat} {τ : Topo} {sig : RefSig} {Val : EltTy → Type} {Λ : Labels}
variable {T Ta Tb Tc Te Ty : BufTy}

/-- What a typed reference's buffer holds, at the type of its value. -/
abbrev get (U : Valuation τ sig Val) (x : TRef sig T) : T.Contents Val := x.ofBuf (U (Proc.devRef .tc x.ref))

/-- The number of a typed reference's buffer. -/
abbrev num (x : TRef sig T) : ℕ := x.ref.idx.val

/-- `U` is, on the buffers numbered below `hi`, what the operations leave from contents `V`. -/
def Agrees (hi : ℕ) (ops : List (HloOp τ sig Val)) (V U : Valuation τ sig Val) : Prop :=
  ∀ r : Ref sig .tc, r.idx.val < hi → U (Proc.devRef .tc r) = after ops V (Proc.devRef .tc r)

/-- `p` is a line of host operations that write buffers numbered from `lo` up to `hi`, and contents that
    agree with what it leaves satisfy `P`. -/
structure Line (p : Prog (TpuEff nD τ sig Val Λ .tc) PUnit) (lo hi : ℕ) (P : Valuation τ sig Val → Prop) : Prop where
  /-- The bounds are in order. -/
  le : lo ≤ hi
  /-- The operations, what they touch and write, and the property of what they leave. -/
  out : ∃ ops : List (HloOp τ sig Val), p = seq ops ∧ (ops.Forall fun op => op.bufs ⊆ tcRefs τ sig)
    ∧ (∀ op ∈ ops, op.fresh = ∅)
    ∧ (∀ op ∈ ops, ∀ r : Ref sig .tc, Proc.devRef .tc r ∈ op.writes → lo ≤ r.idx.val ∧ r.idx.val < hi)
    ∧ ∀ V U, Agrees hi ops V U → P U

/-- A line's property may be weakened. -/
theorem Line.mono {p : Prog (TpuEff nD τ sig Val Λ .tc) PUnit} {lo hi : ℕ} {P Q : Valuation τ sig Val → Prop}
    (h : Line p lo hi P) (hPQ : ∀ U, P U → Q U) : Line p lo hi Q := by
  obtain ⟨hle, ops, h1, h2, h3, h4, h5⟩ := h
  exact ⟨hle, ops, h1, h2, h3, h4, fun V U hU => hPQ U (h5 V U hU)⟩

/-- The line's bounds may be spelt otherwise. -/
theorem Line.at {p : Prog (TpuEff nD τ sig Val Λ .tc) PUnit} {lo hi lo' hi' : ℕ} {P : Valuation τ sig Val → Prop}
    (h : Line p lo hi P) (hl : lo = lo') (hh : hi = hi') : Line p lo' hi' P := by
  subst hl hh; exact h

/-- One line after another. -/
theorem Line.bind {p q : Prog (TpuEff nD τ sig Val Λ .tc) PUnit} {lo mid lo' hi : ℕ} {P Q : Valuation τ sig Val → Prop}
    (hp : Line p lo mid P) (hq : Line q lo' hi Q) (h : mid ≤ lo') :
    Line (p >>= fun _ => q) lo hi fun U => P U ∧ Q U := by
  obtain ⟨hle, o₁, h1, h2, h3, h4, h5⟩ := hp
  obtain ⟨hle', o₂, k1, k2, k3, k4, k5⟩ := hq
  refine ⟨by omega, o₁ ++ o₂, ?_, ?_, ?_, ?_, ?_⟩
  · rw [h1, k1, seq_append]
  · rw [List.forall_iff_forall_mem] at h2 k2 ⊢
    intro op hop
    rcases List.mem_append.mp hop with hop | hop
    · exact h2 op hop
    · exact k2 op hop
  · intro op hop
    rcases List.mem_append.mp hop with hop | hop
    · exact h3 op hop
    · exact k3 op hop
  · intro op hop r hr
    rcases List.mem_append.mp hop with hop | hop
    · have := h4 op hop r hr; omega
    · have := k4 op hop r hr; omega
  · intro V U hU
    have happ : ∀ (l₁ l₂ : List (HloOp τ sig Val)) (W : Valuation τ sig Val), after (l₁ ++ l₂) W = after l₂ (after l₁ W) := by
      intro l₁
      induction l₁ with
      | nil => intro _ _; rfl
      | cons op l ih => intro l₂ W; simp only [List.cons_append, after_cons, ih]
    refine ⟨h5 V U fun r hr => ?_, k5 (after o₁ V) U fun r hr => ?_⟩
    · rw [hU r (by omega), happ, after_of_forall_not_mem o₂]
      intro op hop hb
      have := k4 op hop r hb; omega
    · rw [hU r hr, happ]

/-- The last line, before the return. -/
theorem Line.last {p : Prog (TpuEff nD τ sig Val Λ .tc) PUnit} {lo hi : ℕ} {P : Valuation τ sig Val → Prop}
    (hp : Line p lo hi P) : Line (p >>= fun _ => pure ⟨⟩) lo hi P := by
  have h : Line (pure ⟨⟩ : Prog (TpuEff nD τ sig Val Λ .tc) PUnit) hi hi fun _ => True :=
    ⟨le_refl _, [], rfl, trivial, by simp, by simp, fun _ _ _ => trivial⟩
  exact (hp.bind h (le_refl _)).mono fun U hU => hU.1

/-- One operation that writes the buffer `y` alone. -/
theorem Line.op {op : HloOp τ sig Val} (y : Ref sig .tc) {P : Valuation τ sig Val → Prop}
    (hb : op.bufs ⊆ tcRefs τ sig) (hf : op.fresh = ∅) (hw : op.writes = {Proc.devRef .tc y})
    (h : ∀ V U : Valuation τ sig Val,
      U (Proc.devRef .tc y) = op.result V (Proc.devRef .tc y) →
      (∀ r : Ref sig .tc, r.idx.val < y.idx.val → U (Proc.devRef .tc r) = V (Proc.devRef .tc r)) → P U) :
    Line (hlo rfl op fun _ => .ret ⟨⟩ : Prog (TpuEff nD τ sig Val Λ .tc) PUnit) y.idx.val (y.idx.val + 1) P := by
  refine ⟨by omega, [op], rfl, List.forall_iff_forall_mem.mpr (by simpa using hb), by simpa using hf, ?_, fun V U hU => h V U (hU y (by omega)) fun r hr => ?_⟩
  · intro o ho r hr
    rw [List.mem_singleton.mp ho, hw, Finset.mem_singleton] at hr
    have := Proc.devRef_injective _ hr
    subst this; omega
  · rw [hU r (by omega)]
    refine op.result_of_not_mem V ?_
    rw [hw, Finset.mem_singleton]
    refine devRef_ne_of_ne fun e => ?_
    subst e; omega

/-- A constant. -/
theorem Line.nullary (y : Ref sig .tc) (v : y.ty.Contents Val) (hy) :
    Line (hlo rfl (StableHlo.nullary (τ := τ) y v hy) fun _ => .ret ⟨⟩ : Prog (TpuEff nD τ sig Val Λ .tc) PUnit)
      y.idx.val (y.idx.val + 1) fun U => U (Proc.devRef .tc y) = v :=
  .op y (nullary_bufs_sub y v hy) rfl rfl fun V U h _ => by rw [h, nullary_result]

/-- An operation of one operand. -/
theorem Line.unary (x y : Ref sig .tc) (f : x.ty.Contents Val → y.ty.Contents Val) (hx hy) (h : x.idx.val < y.idx.val) :
    Line (hlo rfl (StableHlo.unary (τ := τ) x y f hx hy) fun _ => .ret ⟨⟩ : Prog (TpuEff nD τ sig Val Λ .tc) PUnit)
      y.idx.val (y.idx.val + 1) fun U => U (Proc.devRef .tc y) = f (U (Proc.devRef .tc x)) :=
  .op y (unary_bufs_sub x y f hx hy) rfl rfl fun V U h1 h2 => by rw [h1, unary_result, h2 x h]

/-- An operation of two operands. -/
theorem Line.binary (a b y : Ref sig .tc) (f : a.ty.Contents Val → b.ty.Contents Val → y.ty.Contents Val) (ha hb hy)
    (h : a.idx.val < y.idx.val) (h' : b.idx.val < y.idx.val) :
    Line (hlo rfl (StableHlo.binary (τ := τ) a b y f ha hb hy) fun _ => .ret ⟨⟩ : Prog (TpuEff nD τ sig Val Λ .tc) PUnit)
      y.idx.val (y.idx.val + 1) fun U => U (Proc.devRef .tc y) = f (U (Proc.devRef .tc a)) (U (Proc.devRef .tc b)) :=
  .op y (binary_bufs_sub a b y f ha hb hy) rfl rfl fun V U h1 h2 => by rw [h1, binary_result, h2 a h, h2 b h']

/-- A reshape. -/
theorem Line.reshape (x y : Ref sig .tc) (he hn hx hy) (h : x.idx.val < y.idx.val) :
    Line (hlo rfl (StableHlo.reshape (τ := τ) (Val := Val) x y he hn hx hy) fun _ => .ret ⟨⟩ : Prog (TpuEff nD τ sig Val Λ .tc) PUnit)
      y.idx.val (y.idx.val + 1)
      fun U => U (Proc.devRef .tc y) = fun i => he ▸ shapeCast y.ty.shape (U (Proc.devRef .tc x)) hn i :=
  .op y (reshape_bufs_sub x y he hn hx hy) rfl rfl fun V U h1 h2 => by rw [h1, reshape_result, h2 x h]

/-- A constant of a function's body. -/
theorem Line.tnullary (y : TRef sig Ty) (v : Ty.Contents Val) :
    Line (hlo rfl (TRef.nullary (τ := τ) y v) fun _ => .ret ⟨⟩ : Prog (TpuEff nD τ sig Val Λ .tc) PUnit)
      (num y) (num y + 1) fun U => get U y = v :=
  (Line.nullary y.ref _ y.dev).mono fun U h => by rw [get, h]; simp [TRef.ofBuf, TRef.toBuf]

/-- An operation of one operand of a function's body. -/
theorem Line.tunary (x : TRef sig T) (y : TRef sig Ty) (f : T.Contents Val → Ty.Contents Val) (h : num x < num y) :
    Line (hlo rfl (TRef.unary (τ := τ) x y f) fun _ => .ret ⟨⟩ : Prog (TpuEff nD τ sig Val Λ .tc) PUnit)
      (num y) (num y + 1) fun U => get U y = f (get U x) :=
  (Line.unary x.ref y.ref _ x.dev y.dev h).mono fun U h => by rw [get, h]; simp [TRef.ofBuf, TRef.toBuf]

/-- An operation of two operands of a function's body. -/
theorem Line.tbinary (a : TRef sig Ta) (b : TRef sig Tb) (y : TRef sig Ty)
    (f : Ta.Contents Val → Tb.Contents Val → Ty.Contents Val) (h : num a < num y) (h' : num b < num y) :
    Line (hlo rfl (TRef.binary (τ := τ) a b y f) fun _ => .ret ⟨⟩ : Prog (TpuEff nD τ sig Val Λ .tc) PUnit)
      (num y) (num y + 1) fun U => get U y = f (get U a) (get U b) :=
  (Line.binary a.ref b.ref y.ref _ a.dev b.dev y.dev h h').mono fun U h => by rw [get, h]; simp [TRef.ofBuf, TRef.toBuf]

/-- An operation of three operands of a function's body. -/
theorem Line.tternary (c : TRef sig Tc) (a : TRef sig Ta) (b : TRef sig Tb) (y : TRef sig Ty)
    (f : Tc.Contents Val → Ta.Contents Val → Tb.Contents Val → Ty.Contents Val)
    (h : num c < num y) (h' : num a < num y) (h'' : num b < num y) :
    Line (hlo rfl (TRef.ternary (τ := τ) c a b y f) fun _ => .ret ⟨⟩ : Prog (TpuEff nD τ sig Val Λ .tc) PUnit)
      (num y) (num y + 1) fun U => get U y = f (get U c) (get U a) (get U b) :=
  .op y.ref (ternary_bufs_sub a.ref b.ref c.ref y.ref _ c.dev a.dev b.dev y.dev) rfl rfl fun V U h1 h2 => by
    rw [get, h1, ternary_result, get, get, get, h2 c.ref h, h2 a.ref h', h2 b.ref h'']; simp [TRef.ofBuf, TRef.toBuf]

/-- An operation of four operands of a function's body. -/
theorem Line.tquaternary (a : TRef sig Ta) (b : TRef sig Tb) (c : TRef sig Tc) (e : TRef sig Te) (y : TRef sig Ty)
    (f : Ta.Contents Val → Tb.Contents Val → Tc.Contents Val → Te.Contents Val → Ty.Contents Val)
    (h : num a < num y) (h' : num b < num y) (h'' : num c < num y) (h''' : num e < num y) :
    Line (hlo rfl (TRef.quaternary (τ := τ) a b c e y f) fun _ => .ret ⟨⟩ : Prog (TpuEff nD τ sig Val Λ .tc) PUnit)
      (num y) (num y + 1) fun U => get U y = f (get U a) (get U b) (get U c) (get U e) :=
  .op y.ref (quaternary_bufs_sub a.ref b.ref c.ref e.ref y.ref _ a.dev b.dev c.dev e.dev y.dev) rfl rfl fun V U h1 h2 => by
    rw [get, h1, quaternary_result, get, get, get, get, h2 a.ref h, h2 b.ref h', h2 c.ref h'', h2 e.ref h''']
    simp [TRef.ofBuf, TRef.toBuf]

/-- A reshape between buffers whose types are known by equations is the reshape at those types. -/
theorem cast_reshape {A B : BufTy} {s t : Shape} {ε : EltTy} (hA : A = ⟨s, ε⟩) (hB : B = ⟨t, ε⟩) (u : A.Contents Val)
    (he : A.elt = B.elt) (hn : A.shape.ShapeCasts B.shape) (hn' : s.ShapeCasts t) :
    cast (congrArg (fun U : BufTy => U.Contents Val) hB) (fun i => he ▸ shapeCast B.shape u hn i)
      = (shapeCast t (cast (congrArg (fun U : BufTy => U.Contents Val) hA) u : BufTy.Contents Val ⟨s, ε⟩) hn' :
          BufTy.Contents Val ⟨t, ε⟩) := by
  subst hA hB; rfl

/-- A reshape in a function's body. -/
theorem Line.treshape {s t : Shape} {ε : EltTy} (x : TRef sig ⟨s, ε⟩) (y : TRef sig ⟨t, ε⟩) (he : ε = ε) (hn : s.ShapeCasts t)
    (h : num x < num y) :
    Line (hlo rfl (TRef.reshape (τ := τ) (Val := Val) x y he hn) fun _ => .ret ⟨⟩ : Prog (TpuEff nD τ sig Val Λ .tc) PUnit)
      (num y) (num y + 1)
      fun U => get U y = (shapeCast t (get (T := ⟨s, ε⟩) U x) hn : BufTy.Contents Val ⟨t, ε⟩) :=
  (Line.reshape x.ref y.ref _ _ x.dev y.dev h).mono fun U h => by
    rw [get, h]
    exact cast_reshape (Val := Val) x.ty_eq y.ty_eq _ _ _ hn

end Cert.Line
-- ==== Proof.Spec.lean ====
/- The mathematics both programs compute, over the extended reals: sequences of channel rows indexed by
   the time step, the convolutions of the encoder and the decoder, and the residual quantizer. -/
module

public import Idealize.ShloMosaic.Lib.Pointwise

@[expose] public section

noncomputable section

namespace Cert.Spec

/-- A sequence of rows of `n` channels, indexed by the time step. -/
abbrev Seq (n : ℕ) : Type := ℕ → Fin n → EReal

/-- A code book: 1024 rows of 64 channels. -/
abbrev Book : Type := Fin 1024 → Fin 64 → EReal

variable {C O : ℕ}

/-- The convolution with a kernel of width one. -/
def conv1 (w : Fin O → Fin C → EReal) (β : Fin O → EReal) (x : Seq C) : Seq O :=
  fun t o => (∑ c, w o c * x t c) + β o

/-- The convolution with a kernel of width four and stride two. -/
def conv4 (w : Fin O → Fin C → Fin 4 → EReal) (β : Fin O → EReal) (x : Seq C) : Seq O :=
  fun t o => (∑ c, w o c 0 * x (2 * t) c) + (∑ c, w o c 1 * x (1 + 2 * t) c) + (∑ c, w o c 2 * x (2 + 2 * t) c)
    + (∑ c, w o c 3 * x (3 + 2 * t) c) + β o

/-- The positive part. -/
def relu (x : Seq C) : Seq C := fun t c => max (x t c) 0

/-- The row before, of a sequence of `T` rows with zero rows around it. -/
def prev (T : ℕ) (x : Seq C) : Seq C := fun s c => if 1 ≤ s ∧ s ≤ T then x (s - 1) c else 0

/-- The row itself, of a sequence of `T` rows with zero rows after it. -/
def here (T : ℕ) (x : Seq C) : Seq C := fun s c => if s < T then x s c else 0

/-- The transposed convolution with a kernel of width four and stride two of a sequence of `T` rows: an even
    step reads the weights 2 and 0, an odd one the weights 3 and 1. -/
def tconv (T : ℕ) (w : Fin C → Fin O → Fin 4 → EReal) (β : Fin O → EReal) (x : Seq C) : Seq O :=
  fun m o =>
    if m % 2 = 0 then (∑ c, w c o 2 * prev T x (m / 2) c) + (∑ c, w c o 0 * here T x (m / 2) c) + β o
    else (∑ c, w c o 3 * prev T x (m / 2) c) + (∑ c, w c o 1 * here T x (m / 2) c) + β o

/-- A sequence of `T` rows spread out with a zero row between neighbours and three zero rows at either end. -/
def spread (T : ℕ) (x : Seq C) : Seq C :=
  fun m c => if 3 ≤ m ∧ (m - 3) % 2 = 0 ∧ (m - 3) / 2 < T then x ((m - 3) / 2) c else 0

/-- The convolution with a kernel of width four and stride one. -/
def slide4 (w : Fin O → Fin C → Fin 4 → EReal) (β : Fin O → EReal) (x : Seq C) : Seq O :=
  fun t o => (∑ c, w o c 0 * x t c) + (∑ c, w o c 1 * x (1 + t) c) + (∑ c, w o c 2 * x (2 + t) c)
    + (∑ c, w o c 3 * x (3 + t) c) + β o

/-- A contraction with zero rows is zero. -/
theorem sum_mul_zero {n : ℕ} (w y : Fin n → EReal) (h : ∀ c, y c = 0) : ∑ c, w c * y c = 0 :=
  Finset.sum_eq_zero fun c _ => by rw [h c, mul_zero]

/-- The transposed convolution is the convolution of the spread sequence with the reversed kernel. -/
theorem slide4_spread (T : ℕ) (w : Fin C → Fin O → Fin 4 → EReal) (β : Fin O → EReal) (x : Seq C) (m : ℕ) (o : Fin O) :
    slide4 (fun o c k => w c o (Fin.rev k)) β (spread T x) m o = tconv T w β x m o := by
  have r0 : Fin.rev (0 : Fin 4) = 3 := rfl
  have r1 : Fin.rev (1 : Fin 4) = 2 := rfl
  have r2 : Fin.rev (2 : Fin 4) = 1 := rfl
  have r3 : Fin.rev (3 : Fin 4) = 0 := rfl
  rcases Nat.even_or_odd' m with ⟨s, rfl | rfl⟩
  · have e1 : (2 * s) % 2 = 0 := by omega
    have e2 : 2 * s / 2 = s := by omega
    have z0 : ∀ c, spread T x (2 * s) c = 0 := fun c => if_neg (by omega)
    have z2 : ∀ c, spread T x (2 + 2 * s) c = 0 := fun c => if_neg (by omega)
    have y1 : ∀ c, spread T x (1 + 2 * s) c = prev T x s c := fun c => by
      unfold spread prev
      by_cases h : 1 ≤ s ∧ s ≤ T
      · rw [if_pos h, if_pos (by omega), show (1 + 2 * s - 3) / 2 = s - 1 by omega]
      · rw [if_neg h, if_neg (by omega)]
    have y3 : ∀ c, spread T x (3 + 2 * s) c = here T x s c := fun c => by
      unfold spread here
      by_cases h : s < T
      · rw [if_pos h, if_pos (by omega), show (3 + 2 * s - 3) / 2 = s by omega]
      · rw [if_neg h, if_neg (by omega)]
    simp only [slide4, tconv, e1, e2, if_true, r0, r1, r2, r3, y1, y3]
    rw [sum_mul_zero _ _ z0, sum_mul_zero _ _ z2, zero_add, add_zero]
  · have e1 : ¬ (2 * s + 1) % 2 = 0 := by omega
    have e2 : (2 * s + 1) / 2 = s := by omega
    have z1 : ∀ c, spread T x (1 + (2 * s + 1)) c = 0 := fun c => if_neg (by omega)
    have z3 : ∀ c, spread T x (3 + (2 * s + 1)) c = 0 := fun c => if_neg (by omega)
    have y0 : ∀ c, spread T x (2 * s + 1) c = prev T x s c := fun c => by
      unfold spread prev
      by_cases h : 1 ≤ s ∧ s ≤ T
      · rw [if_pos h, if_pos (by omega), show (2 * s + 1 - 3) / 2 = s - 1 by omega]
      · rw [if_neg h, if_neg (by omega)]
    have y2 : ∀ c, spread T x (2 + (2 * s + 1)) c = here T x s c := fun c => by
      unfold spread here
      by_cases h : s < T
      · rw [if_pos h, if_pos (by omega), show (2 + (2 * s + 1) - 3) / 2 = s by omega]
      · rw [if_neg h, if_neg (by omega)]
    simp only [slide4, tconv, e1, e2, if_false, r0, r1, r2, r3, y0, y2]
    rw [sum_mul_zero _ _ z1, sum_mul_zero _ _ z3, add_zero, add_zero]

/-- `k` is the first place where `d` is least. -/
def IsFirst {n : ℕ} (d : Fin n → EReal) (k : Fin n) : Prop := (∀ j, d k ≤ d j) ∧ ∀ j, j < k → d k < d j

/-- The first place where `d` is least is unique. -/
theorem IsFirst.unique {n : ℕ} {d : Fin n → EReal} {k l : Fin n} (hk : IsFirst d k) (hl : IsFirst d l) : k = l := by
  rcases lt_trichotomy k l with h | h | h
  · exact absurd (hk.1 l) (not_le.mpr (hl.2 k h))
  · exact h
  · exact absurd (hl.1 k) (not_le.mpr (hk.2 l h))

/-- The first place where `d` is least. -/
def pick (d : Fin 1024 → EReal) : Fin 1024 := Classical.epsilon (IsFirst d)

/-- A place known to be the first where `d` is least is the one picked. -/
theorem pick_eq {d : Fin 1024 → EReal} {k : Fin 1024} (h : IsFirst d k) : pick d = k :=
  (Classical.epsilon_spec (p := IsFirst d) ⟨k, h⟩).unique h

/-- The distances of a row to the entries of a book. -/
def dist (B : Book) (r : Fin 64 → EReal) : Fin 1024 → EReal :=
  fun k => (∑ d, r d * r d) - 2 * (∑ d, r d * B k d) + ∑ d, B k d * B k d

/-- The entry of the book nearest to a row. -/
def near (B : Book) (r : Fin 64 → EReal) : Fin 64 → EReal := B (pick (dist B r))

/-- What one quantizer adds to the quantized row. -/
def quant (B : Book) (r : Fin 64 → EReal) : Fin 64 → EReal := fun d => r d + (near B r d - r d)

/-- What one quantizer leaves of a row. -/
def rest (B : Book) (r : Fin 64 → EReal) : Fin 64 → EReal := fun d => r d - quant B r d

/-- The squared difference to the nearest entry. -/
def sqerr (B : Book) (r : Fin 64 → EReal) : Fin 64 → EReal := fun d => (near B r d - r d) * (near B r d - r d)

/-- What the first `q` quantizers leave of a row. -/
def resid (B : ℕ → Book) (r : Fin 64 → EReal) : ℕ → Fin 64 → EReal
  | 0 => r
  | q + 1 => rest (B q) (resid B r q)

/-- The sum of what the first `q` quantizers add. -/
def total (B : ℕ → Book) (r : Fin 64 → EReal) : ℕ → Fin 64 → EReal
  | 0 => fun _ => 0
  | q + 1 => fun d => total B r q d + quant (B q) (resid B r q) d

end Cert.Spec
-- ==== Proof.RefBody.lean ====
/- What the reference's convolutions leave, one theorem for each printed function, as the sequences of `Spec`. -/
module

public import proofs.«01_k».proof.ReferenceIdeal
public import proofs.«01_k».proof.Proof.Line
public import proofs.«01_k».proof.Proof.Spec
public import Idealize.ShloMosaic.Lib.Pointwise

@[expose] public section

set_option maxRecDepth 16384

noncomputable section

namespace Cert.ReferenceIdeal.Body

open Idealize.ShloMosaic Idealize.ShloMosaic.TcCoe Idealize.SL.Sem Cert.ReferenceIdeal Cert.Line Cert.Spec

variable [Cert.ReferenceIdeal.Facts]

/-- A list of numbers that increase. -/
abbrev Asc (l : List ℕ) : Prop := l.IsChain (· < ·)

/-- A reference to an array of numbers of a given shape. -/
abbrev TR (S : Shape) : Type := StableHlo.TRef sig ⟨S, .f32⟩

/-- The array holds, batch by batch, the first `T` rows of the sequences `x`. -/
abbrev Rep (C T : ℕ) (a : FVec Ideal ⟨3, ![16, C, T]⟩ .f32) (x : Fin 16 → Seq C) : Prop :=
  ∀ (b : Fin 16) (c : Fin C) (t : Fin T), a (ix3 b c t) = x b t c

/-- The first convolution of the encoder. -/
theorem conv1d_line (a0 : TR S16x64x4096) (a1 : TR S128x64x1) (a2 : TR S128) (φ : fn_conv1d.Bufs)
    (h0 : num a0 < num φ.v0) (h1 : num a1 < num φ.v0) (h2 : num a2 < num φ.v0)
    (h : Asc [num φ.v0, num φ.v1, num φ.v2, num φ.cst, num φ.v3, num φ.v4, num φ.v5, num φ.v6, num φ.v7]) :
    Line (fn_conv1d.body (F := Ideal) a0 a1 a2 φ) (num φ.v0) (num φ.v7 + 1) fun U => ∀ x, Rep 64 4096 (get U a0) x →
      Rep 128 4096 (get U φ.v7) fun b => conv1 (fun o c => get U a1 (ix3 o c 0)) (fun o => get U a2 (ix1 o)) (x b) := by
  simp only [Asc, List.isChain_cons_cons, List.isChain_singleton] at h
  unfold fn_conv1d.body
  apply Line.mono
  · repeat' (first | apply Line.last | apply Line.bind | apply Line.tnullary | apply Line.treshape | apply Line.tunary | apply Line.tbinary | omega)
  · rintro U ⟨e0, e1, e2, e3, e4, e5, e6, e7, e8⟩ x hx b o t
    rw [e8, e7, e6, e5, e4, e3, e2, e1, e0]
    pointwise [conv1, hx]

/-- The second convolution of the encoder. -/
theorem conv1d_0_line (a0 : TR S16x128x4096) (a1 : TR S256x128x4) (a2 : TR S256) (φ : fn_conv1d_0.Bufs)
    (h0 : num a0 < num φ.v0) (h1 : num a1 < num φ.v0) (h2 : num a2 < num φ.v0)
    (h : Asc [num φ.v0, num φ.v1, num φ.v2, num φ.v3, num φ.v4, num φ.cst, num φ.v5, num φ.v6, num φ.v7, num φ.v8, num φ.v9, num φ.v10,
      num φ.v11, num φ.v12, num φ.v13, num φ.v14, num φ.v15, num φ.v16, num φ.v17, num φ.v18, num φ.v19, num φ.v20, num φ.v21, num φ.v22,
      num φ.v23, num φ.v24, num φ.v25, num φ.v26, num φ.v27]) :
    Line (fn_conv1d_0.body (F := Ideal) a0 a1 a2 φ) (num φ.v0) (num φ.v27 + 1) fun U => ∀ x, Rep 128 4096 (get U a0) x →
      Rep 256 2047 (get U φ.v27) fun b => conv4 (fun o c k => get U a1 (ix3 o c k)) (fun o => get U a2 (ix1 o)) (x b) := by
  simp only [Asc, List.isChain_cons_cons, List.isChain_singleton] at h
  unfold fn_conv1d_0.body
  apply Line.mono
  · repeat' (first | apply Line.last | apply Line.bind | apply Line.tnullary | apply Line.treshape | apply Line.tunary | apply Line.tbinary | omega)
  · rintro U ⟨e0, e1, e2, e3, e4, e5, e6, e7, e8, e9, e10, e11, e12, e13, e14, e15, e16, e17, e18, e19, e20, e21, e22, e23, e24, e25, e26, e27, e28⟩ x hx b o t
    rw [e28, e27, e26, e25, e24, e23, e22, e21, e20, e19, e18, e17, e16, e15, e14, e13, e12, e11, e10, e9, e8, e7, e6, e5, e4, e3, e2, e1, e0]
    pointwise [conv4, hx]

/-- The positive part after the first convolution. -/
theorem relu_line (a0 : TR S16x128x4096) (φ : fn_relu.Bufs) (h0 : num a0 < num φ.cst) (h : Asc [num φ.cst, num φ.v0, num φ.v1]) :
    Line (fn_relu.body (F := Ideal) a0 φ) (num φ.cst) (num φ.v1 + 1) fun U => ∀ x, Rep 128 4096 (get U a0) x →
      Rep 128 4096 (get U φ.v1) fun b => relu (x b) := by
  simp only [Asc, List.isChain_cons_cons, List.isChain_singleton] at h
  unfold fn_relu.body
  apply Line.mono
  · repeat' (first | apply Line.last | apply Line.bind | apply Line.tnullary | apply Line.treshape | apply Line.tunary | apply Line.tbinary | omega)
  · rintro U ⟨e0, e1, e2⟩ x hx b o t
    rw [e2, e1, e0]
    pointwise [relu, hx]

/-- The positive part after the second convolution. -/
theorem relu_1_line (a0 : TR S16x256x2047) (φ : fn_relu_1.Bufs) (h0 : num a0 < num φ.cst) (h : Asc [num φ.cst, num φ.v0, num φ.v1]) :
    Line (fn_relu_1.body (F := Ideal) a0 φ) (num φ.cst) (num φ.v1 + 1) fun U => ∀ x, Rep 256 2047 (get U a0) x →
      Rep 256 2047 (get U φ.v1) fun b => relu (x b) := by
  simp only [Asc, List.isChain_cons_cons, List.isChain_singleton] at h
  unfold fn_relu_1.body
  apply Line.mono
  · repeat' (first | apply Line.last | apply Line.bind | apply Line.tnullary | apply Line.treshape | apply Line.tunary | apply Line.tbinary | omega)
  · rintro U ⟨e0, e1, e2⟩ x hx b o t
    rw [e2, e1, e0]
    pointwise [relu, hx]

/-- The third convolution of the encoder. -/
theorem conv1d_2_line (a0 : TR S16x256x2047) (a1 : TR S512x256x4) (a2 : TR S512) (φ : fn_conv1d_2.Bufs)
    (h0 : num a0 < num φ.v0) (h1 : num a1 < num φ.v0) (h2 : num a2 < num φ.v0)
    (h : Asc [num φ.v0, num φ.v1, num φ.v2, num φ.v3, num φ.v4, num φ.cst, num φ.v5, num φ.v6, num φ.v7, num φ.v8, num φ.v9, num φ.v10, num φ.v11, num φ.v12, num φ.v13, num φ.v14, num φ.v15, num φ.v16, num φ.v17, num φ.v18, num φ.v19, num φ.v20, num φ.v21, num φ.v22, num φ.v23, num φ.v24, num φ.v25, num φ.v26, num φ.v27]) :
    Line (fn_conv1d_2.body (F := Ideal) a0 a1 a2 φ) (num φ.v0) (num φ.v27 + 1) fun U => ∀ x, Rep 256 2047 (get U a0) x →
      Rep 512 1022 (get U φ.v27) fun b => conv4 (fun o c k => get U a1 (ix3 o c k)) (fun o => get U a2 (ix1 o)) (x b) := by
  simp only [Asc, List.isChain_cons_cons, List.isChain_singleton] at h
  unfold fn_conv1d_2.body
  apply Line.mono
  · repeat' (first | apply Line.last | apply Line.bind | apply Line.tnullary | apply Line.treshape | apply Line.tunary | apply Line.tbinary | omega)
  · rintro U ⟨e0, e1, e2, e3, e4, e5, e6, e7, e8, e9, e10, e11, e12, e13, e14, e15, e16, e17, e18, e19, e20, e21, e22, e23, e24, e25, e26, e27, e28⟩ x hx b o t
    rw [e28, e27, e26, e25, e24, e23, e22, e21, e20, e19, e18, e17, e16, e15, e14, e13, e12, e11, e10, e9, e8, e7, e6, e5, e4, e3, e2, e1, e0]
    pointwise [conv4, hx]

/-- The positive part after the third convolution. -/
theorem relu_3_line (a0 : TR S16x512x1022) (φ : fn_relu_3.Bufs) (h0 : num a0 < num φ.cst) (h : Asc [num φ.cst, num φ.v0, num φ.v1]) :
    Line (fn_relu_3.body (F := Ideal) a0 φ) (num φ.cst) (num φ.v1 + 1) fun U => ∀ x, Rep 512 1022 (get U a0) x →
      Rep 512 1022 (get U φ.v1) fun b => relu (x b) := by
  simp only [Asc, List.isChain_cons_cons, List.isChain_singleton] at h
  unfold fn_relu_3.body
  apply Line.mono
  · repeat' (first | apply Line.last | apply Line.bind | apply Line.tnullary | apply Line.treshape | apply Line.tunary | apply Line.tbinary | omega)
  · rintro U ⟨e0, e1, e2⟩ x hx b o t
    rw [e2, e1, e0]
    pointwise [relu, hx]

/-- The last convolution of the encoder. -/
theorem conv1d_4_line (a0 : TR S16x512x1022) (a1 : TR S64x512x1) (a2 : TR S64) (φ : fn_conv1d_4.Bufs)
    (h0 : num a0 < num φ.v0) (h1 : num a1 < num φ.v0) (h2 : num a2 < num φ.v0)
    (h : Asc [num φ.v0, num φ.v1, num φ.v2, num φ.cst, num φ.v3, num φ.v4, num φ.v5, num φ.v6, num φ.v7]) :
    Line (fn_conv1d_4.body (F := Ideal) a0 a1 a2 φ) (num φ.v0) (num φ.v7 + 1) fun U => ∀ x, Rep 512 1022 (get U a0) x →
      Rep 64 1022 (get U φ.v7) fun b => conv1 (fun o c => get U a1 (ix3 o c 0)) (fun o => get U a2 (ix1 o)) (x b) := by
  simp only [Asc, List.isChain_cons_cons, List.isChain_singleton] at h
  unfold fn_conv1d_4.body
  apply Line.mono
  · repeat' (first | apply Line.last | apply Line.bind | apply Line.tnullary | apply Line.treshape | apply Line.tunary | apply Line.tbinary | omega)
  · rintro U ⟨e0, e1, e2, e3, e4, e5, e6, e7, e8⟩ x hx b o t
    rw [e8, e7, e6, e5, e4, e3, e2, e1, e0]
    pointwise [conv1, hx]

/-- The kernel of the decoder's first layer, reversed. -/
theorem flip_line (a0 : TR S64x512x1) (φ : fn_flip.Bufs) (h0 : num a0 < num φ.v0) :
    Line (fn_flip.body (F := Ideal) a0 φ) (num φ.v0) (num φ.v0 + 1) fun U => ∀ (c : Fin 64) (o : Fin 512) (k : Fin 1),
      get U φ.v0 (ix3 c o k) = get U a0 (ix3 c o (Fin.rev k)) := by
  unfold fn_flip.body
  apply Line.mono
  · apply Line.last
    apply Line.tunary
    exact h0
  · rintro U e0 c o k
    rw [e0]
    pointwise
    rfl

/-- The convolution in the decoder's first layer. -/
theorem conv1d_5_line (a0 : TR S16x64x1022) (a1 : TR S512x64x1) (a2 : TR S512) (φ : fn_conv1d_5.Bufs)
    (h0 : num a0 < num φ.v0) (h1 : num a1 < num φ.v0) (h2 : num a2 < num φ.v0)
    (h : Asc [num φ.v0, num φ.v1, num φ.v2, num φ.cst, num φ.v3, num φ.v4, num φ.v5, num φ.v6, num φ.v7]) :
    Line (fn_conv1d_5.body (F := Ideal) a0 a1 a2 φ) (num φ.v0) (num φ.v7 + 1) fun U => ∀ x, Rep 64 1022 (get U a0) x →
      Rep 512 1022 (get U φ.v7) fun b => conv1 (fun o c => get U a1 (ix3 o c 0)) (fun o => get U a2 (ix1 o)) (x b) := by
  simp only [Asc, List.isChain_cons_cons, List.isChain_singleton] at h
  unfold fn_conv1d_5.body
  apply Line.mono
  · repeat' (first | apply Line.last | apply Line.bind | apply Line.tnullary | apply Line.treshape | apply Line.tunary | apply Line.tbinary | omega)
  · rintro U ⟨e0, e1, e2, e3, e4, e5, e6, e7, e8⟩ x hx b o t
    rw [e8, e7, e6, e5, e4, e3, e2, e1, e0]
    pointwise [conv1, hx]

/-- The first layer of the decoder. -/
theorem conv_transpose1d_line (a0 : TR S16x64x1022) (a1 : TR S64x512x1) (a2 : TR S512) (φ : fn_conv_transpose1d.Bufs)
    (h0 : num a0 < num φ.call0.v0) (h1 : num a1 < num φ.call0.v0) (h2 : num a2 < num φ.call0.v0)
    (h : Asc [num φ.call0.v0, num φ.v1, num φ.cst, num φ.v2, num φ.call1.v0, num φ.call1.v1, num φ.call1.v2, num φ.call1.cst, num φ.call1.v3, num φ.call1.v4, num φ.call1.v5, num φ.call1.v6, num φ.call1.v7]) :
    Line (fn_conv_transpose1d.body (F := Ideal) a0 a1 a2 φ) (num φ.call0.v0) (num φ.call1.v7 + 1) fun U => ∀ x, Rep 64 1022 (get U a0) x →
      Rep 512 1022 (get U φ.call1.v7) fun b => conv1 (fun o c => get U a1 (ix3 c o 0)) (fun o => get U a2 (ix1 o)) (x b) := by
  simp only [Asc, List.isChain_cons_cons, List.isChain_singleton] at h
  unfold fn_conv_transpose1d.body
  apply Line.mono
  · repeat' (first | apply flip_line | apply conv1d_5_line | apply Line.last | apply Line.bind | apply Line.tnullary | apply Line.tunary | apply Line.tbinary | omega | (simp only [Asc, List.isChain_cons_cons, List.isChain_singleton, h, and_true]))
  · rintro U ⟨e0, e1, e2, e3, e4⟩ x hx
    have hp : Rep 64 1022 (get U φ.v2) x := fun b c t => by
      rw [e3, e2]
      pointwise [hx]
    intro b o t
    rw [e4 x hp b o t]
    unfold conv1
    have hw : ∀ (o : Fin 512) (c : Fin 64), get U φ.v1 (ix3 o c 0) = get U a1 (ix3 c o 0) := fun o c => by
      rw [e1]
      pointwise [e0]
      rfl
    simp only [hw]

/-- The kernel of the decoder's second layer, reversed. -/
theorem flip_7_line (a0 : TR S512x256x4) (φ : fn_flip_7.Bufs) (h0 : num a0 < num φ.v0) :
    Line (fn_flip_7.body (F := Ideal) a0 φ) (num φ.v0) (num φ.v0 + 1) fun U => ∀ (c : Fin 512) (o : Fin 256) (k : Fin 4),
      get U φ.v0 (ix3 c o k) = get U a0 (ix3 c o (Fin.rev k)) := by
  unfold fn_flip_7.body
  apply Line.mono
  · apply Line.last
    apply Line.tunary
    exact h0
  · rintro U e0 c o k
    rw [e0]
    pointwise
    rfl

/-- The convolution in the decoder's second layer. -/
theorem conv1d_8_line (a0 : TR S16x512x2049) (a1 : TR S256x512x4) (a2 : TR S256) (φ : fn_conv1d_8.Bufs)
    (h0 : num a0 < num φ.v0) (h1 : num a1 < num φ.v0) (h2 : num a2 < num φ.v0)
    (h : Asc [num φ.v0, num φ.v1, num φ.v2, num φ.v3, num φ.v4, num φ.cst, num φ.v5, num φ.v6, num φ.v7, num φ.v8, num φ.v9, num φ.v10, num φ.v11, num φ.v12, num φ.v13, num φ.v14, num φ.v15, num φ.v16, num φ.v17, num φ.v18, num φ.v19, num φ.v20, num φ.v21, num φ.v22, num φ.v23, num φ.v24, num φ.v25, num φ.v26, num φ.v27]) :
    Line (fn_conv1d_8.body (F := Ideal) a0 a1 a2 φ) (num φ.v0) (num φ.v27 + 1) fun U => ∀ x, Rep 512 2049 (get U a0) x →
      Rep 256 2046 (get U φ.v27) fun b => slide4 (fun o c k => get U a1 (ix3 o c k)) (fun o => get U a2 (ix1 o)) (x b) := by
  simp only [Asc, List.isChain_cons_cons, List.isChain_singleton] at h
  unfold fn_conv1d_8.body
  apply Line.mono
  · repeat' (first | apply Line.last | apply Line.bind | apply Line.tnullary | apply Line.treshape | apply Line.tunary | apply Line.tbinary | omega)
  · rintro U ⟨e0, e1, e2, e3, e4, e5, e6, e7, e8, e9, e10, e11, e12, e13, e14, e15, e16, e17, e18, e19, e20, e21, e22, e23, e24, e25, e26, e27, e28⟩ x hx b o t
    rw [e28, e27, e26, e25, e24, e23, e22, e21, e20, e19, e18, e17, e16, e15, e14, e13, e12, e11, e10, e9, e8, e7, e6, e5, e4, e3, e2, e1, e0]
    pointwise [slide4, hx]

/-- The second layer of the decoder. -/
theorem conv_transpose1d_6_line (a0 : TR S16x512x1022) (a1 : TR S512x256x4) (a2 : TR S256) (φ : fn_conv_transpose1d_6.Bufs)
    (h0 : num a0 < num φ.call0.v0) (h1 : num a1 < num φ.call0.v0) (h2 : num a2 < num φ.call0.v0)
    (h : Asc [num φ.call0.v0, num φ.v1, num φ.cst, num φ.v2, num φ.call1.v0, num φ.call1.v1, num φ.call1.v2, num φ.call1.v3, num φ.call1.v4, num φ.call1.cst, num φ.call1.v5, num φ.call1.v6, num φ.call1.v7, num φ.call1.v8, num φ.call1.v9, num φ.call1.v10, num φ.call1.v11, num φ.call1.v12, num φ.call1.v13, num φ.call1.v14, num φ.call1.v15, num φ.call1.v16, num φ.call1.v17, num φ.call1.v18, num φ.call1.v19, num φ.call1.v20, num φ.call1.v21, num φ.call1.v22, num φ.call1.v23, num φ.call1.v24, num φ.call1.v25, num φ.call1.v26, num φ.call1.v27]) :
    Line (fn_conv_transpose1d_6.body (F := Ideal) a0 a1 a2 φ) (num φ.call0.v0) (num φ.call1.v27 + 1) fun U => ∀ x, Rep 512 1022 (get U a0) x →
      Rep 256 2046 (get U φ.call1.v27) fun b => tconv 1022 (fun c o k => get U a1 (ix3 c o k)) (fun o => get U a2 (ix1 o)) (x b) := by
  simp only [Asc, List.isChain_cons_cons, List.isChain_singleton] at h
  unfold fn_conv_transpose1d_6.body
  apply Line.mono
  · repeat' (first | apply flip_7_line | apply conv1d_8_line | apply Line.last | apply Line.bind | apply Line.tnullary | apply Line.tunary | apply Line.tbinary | omega | (simp only [Asc, List.isChain_cons_cons, List.isChain_singleton, h, and_true]))
  · rintro U ⟨e0, e1, e2, e3, e4⟩ x hx
    have hp : Rep 512 2049 (get U φ.v2) fun b => spread 1022 (x b) := fun b c t => by
      rw [e3, e2]
      pointwise [hx, spread]
      exact dite_eq_ite
    intro b o t
    rw [e4 _ hp b o t]
    beta_reduce
    rw [← slide4_spread]
    unfold slide4
    have hw : ∀ (o : Fin 256) (c : Fin 512) (k : Fin 4), get U φ.v1 (ix3 o c k) = get U a1 (ix3 c o (Fin.rev k)) := fun o c k => by
      rw [e1]
      pointwise [e0]
    simp only [hw]

/-- The positive part after the decoder's second layer. -/
theorem relu_9_line (a0 : TR S16x256x2046) (φ : fn_relu_9.Bufs) (h0 : num a0 < num φ.cst) (h : Asc [num φ.cst, num φ.v0, num φ.v1]) :
    Line (fn_relu_9.body (F := Ideal) a0 φ) (num φ.cst) (num φ.v1 + 1) fun U => ∀ x, Rep 256 2046 (get U a0) x →
      Rep 256 2046 (get U φ.v1) fun b => relu (x b) := by
  simp only [Asc, List.isChain_cons_cons, List.isChain_singleton] at h
  unfold fn_relu_9.body
  apply Line.mono
  · repeat' (first | apply Line.last | apply Line.bind | apply Line.tnullary | apply Line.treshape | apply Line.tunary | apply Line.tbinary | omega)
  · rintro U ⟨e0, e1, e2⟩ x hx b o t
    rw [e2, e1, e0]
    pointwise [relu, hx]

/-- The kernel of the decoder's third layer, reversed. -/
theorem flip_11_line (a0 : TR S256x128x4) (φ : fn_flip_11.Bufs) (h0 : num a0 < num φ.v0) :
    Line (fn_flip_11.body (F := Ideal) a0 φ) (num φ.v0) (num φ.v0 + 1) fun U => ∀ (c : Fin 256) (o : Fin 128) (k : Fin 4),
      get U φ.v0 (ix3 c o k) = get U a0 (ix3 c o (Fin.rev k)) := by
  unfold fn_flip_11.body
  apply Line.mono
  · apply Line.last
    apply Line.tunary
    exact h0
  · rintro U e0 c o k
    rw [e0]
    pointwise
    rfl

/-- The convolution in the decoder's third layer. -/
theorem conv1d_12_line (a0 : TR S16x256x4097) (a1 : TR S128x256x4) (a2 : TR S128) (φ : fn_conv1d_12.Bufs)
    (h0 : num a0 < num φ.v0) (h1 : num a1 < num φ.v0) (h2 : num a2 < num φ.v0)
    (h : Asc [num φ.v0, num φ.v1, num φ.v2, num φ.v3, num φ.v4, num φ.cst, num φ.v5, num φ.v6, num φ.v7, num φ.v8, num φ.v9, num φ.v10, num φ.v11, num φ.v12, num φ.v13, num φ.v14, num φ.v15, num φ.v16, num φ.v17, num φ.v18, num φ.v19, num φ.v20, num φ.v21, num φ.v22, num φ.v23, num φ.v24, num φ.v25, num φ.v26, num φ.v27]) :
    Line (fn_conv1d_12.body (F := Ideal) a0 a1 a2 φ) (num φ.v0) (num φ.v27 + 1) fun U => ∀ x, Rep 256 4097 (get U a0) x →
      Rep 128 4094 (get U φ.v27) fun b => slide4 (fun o c k => get U a1 (ix3 o c k)) (fun o => get U a2 (ix1 o)) (x b) := by
  simp only [Asc, List.isChain_cons_cons, List.isChain_singleton] at h
  unfold fn_conv1d_12.body
  apply Line.mono
  · repeat' (first | apply Line.last | apply Line.bind | apply Line.tnullary | apply Line.treshape | apply Line.tunary | apply Line.tbinary | omega)
  · rintro U ⟨e0, e1, e2, e3, e4, e5, e6, e7, e8, e9, e10, e11, e12, e13, e14, e15, e16, e17, e18, e19, e20, e21, e22, e23, e24, e25, e26, e27, e28⟩ x hx b o t
    rw [e28, e27, e26, e25, e24, e23, e22, e21, e20, e19, e18, e17, e16, e15, e14, e13, e12, e11, e10, e9, e8, e7, e6, e5, e4, e3, e2, e1, e0]
    pointwise [slide4, hx]

/-- The third layer of the decoder. -/
theorem conv_transpose1d_10_line (a0 : TR S16x256x2046) (a1 : TR S256x128x4) (a2 : TR S128) (φ : fn_conv_transpose1d_10.Bufs)
    (h0 : num a0 < num φ.call0.v0) (h1 : num a1 < num φ.call0.v0) (h2 : num a2 < num φ.call0.v0)
    (h : Asc [num φ.call0.v0, num φ.v1, num φ.cst, num φ.v2, num φ.call1.v0, num φ.call1.v1, num φ.call1.v2, num φ.call1.v3, num φ.call1.v4, num φ.call1.cst, num φ.call1.v5, num φ.call1.v6, num φ.call1.v7, num φ.call1.v8, num φ.call1.v9, num φ.call1.v10, num φ.call1.v11, num φ.call1.v12, num φ.call1.v13, num φ.call1.v14, num φ.call1.v15, num φ.call1.v16, num φ.call1.v17, num φ.call1.v18, num φ.call1.v19, num φ.call1.v20, num φ.call1.v21, num φ.call1.v22, num φ.call1.v23, num φ.call1.v24, num φ.call1.v25, num φ.call1.v26, num φ.call1.v27]) :
    Line (fn_conv_transpose1d_10.body (F := Ideal) a0 a1 a2 φ) (num φ.call0.v0) (num φ.call1.v27 + 1) fun U => ∀ x, Rep 256 2046 (get U a0) x →
      Rep 128 4094 (get U φ.call1.v27) fun b => tconv 2046 (fun c o k => get U a1 (ix3 c o k)) (fun o => get U a2 (ix1 o)) (x b) := by
  simp only [Asc, List.isChain_cons_cons, List.isChain_singleton] at h
  unfold fn_conv_transpose1d_10.body
  apply Line.mono
  · repeat' (first | apply flip_11_line | apply conv1d_12_line | apply Line.last | apply Line.bind | apply Line.tnullary | apply Line.tunary | apply Line.tbinary | omega | (simp only [Asc, List.isChain_cons_cons, List.isChain_singleton, h, and_true]))
  · rintro U ⟨e0, e1, e2, e3, e4⟩ x hx
    have hp : Rep 256 4097 (get U φ.v2) fun b => spread 2046 (x b) := fun b c t => by
      rw [e3, e2]
      pointwise [hx, spread]
      exact dite_eq_ite
    intro b o t
    rw [e4 _ hp b o t]
    beta_reduce
    rw [← slide4_spread]
    unfold slide4
    have hw : ∀ (o : Fin 128) (c : Fin 256) (k : Fin 4), get U φ.v1 (ix3 o c k) = get U a1 (ix3 c o (Fin.rev k)) := fun o c k => by
      rw [e1]
      pointwise [e0]
    simp only [hw]

/-- The positive part after the decoder's third layer. -/
theorem relu_13_line (a0 : TR S16x128x4094) (φ : fn_relu_13.Bufs) (h0 : num a0 < num φ.cst) (h : Asc [num φ.cst, num φ.v0, num φ.v1]) :
    Line (fn_relu_13.body (F := Ideal) a0 φ) (num φ.cst) (num φ.v1 + 1) fun U => ∀ x, Rep 128 4094 (get U a0) x →
      Rep 128 4094 (get U φ.v1) fun b => relu (x b) := by
  simp only [Asc, List.isChain_cons_cons, List.isChain_singleton] at h
  unfold fn_relu_13.body
  apply Line.mono
  · repeat' (first | apply Line.last | apply Line.bind | apply Line.tnullary | apply Line.treshape | apply Line.tunary | apply Line.tbinary | omega)
  · rintro U ⟨e0, e1, e2⟩ x hx b o t
    rw [e2, e1, e0]
    pointwise [relu, hx]

/-- The kernel of the decoder's last layer, reversed. -/
theorem flip_15_line (a0 : TR S128x64x1) (φ : fn_flip_15.Bufs) (h0 : num a0 < num φ.v0) :
    Line (fn_flip_15.body (F := Ideal) a0 φ) (num φ.v0) (num φ.v0 + 1) fun U => ∀ (c : Fin 128) (o : Fin 64) (k : Fin 1),
      get U φ.v0 (ix3 c o k) = get U a0 (ix3 c o (Fin.rev k)) := by
  unfold fn_flip_15.body
  apply Line.mono
  · apply Line.last
    apply Line.tunary
    exact h0
  · rintro U e0 c o k
    rw [e0]
    pointwise
    rfl

/-- The convolution in the decoder's last layer. -/
theorem conv1d_16_line (a0 : TR S16x128x4094) (a1 : TR S64x128x1) (a2 : TR S64) (φ : fn_conv1d_16.Bufs)
    (h0 : num a0 < num φ.v0) (h1 : num a1 < num φ.v0) (h2 : num a2 < num φ.v0)
    (h : Asc [num φ.v0, num φ.v1, num φ.v2, num φ.cst, num φ.v3, num φ.v4, num φ.v5, num φ.v6, num φ.v7]) :
    Line (fn_conv1d_16.body (F := Ideal) a0 a1 a2 φ) (num φ.v0) (num φ.v7 + 1) fun U => ∀ x, Rep 128 4094 (get U a0) x →
      Rep 64 4094 (get U φ.v7) fun b => conv1 (fun o c => get U a1 (ix3 o c 0)) (fun o => get U a2 (ix1 o)) (x b) := by
  simp only [Asc, List.isChain_cons_cons, List.isChain_singleton] at h
  unfold fn_conv1d_16.body
  apply Line.mono
  · repeat' (first | apply Line.last | apply Line.bind | apply Line.tnullary | apply Line.treshape | apply Line.tunary | apply Line.tbinary | omega)
  · rintro U ⟨e0, e1, e2, e3, e4, e5, e6, e7, e8⟩ x hx b o t
    rw [e8, e7, e6, e5, e4, e3, e2, e1, e0]
    pointwise [conv1, hx]

/-- The last layer of the decoder. -/
theorem conv_transpose1d_14_line (a0 : TR S16x128x4094) (a1 : TR S128x64x1) (a2 : TR S64) (φ : fn_conv_transpose1d_14.Bufs)
    (h0 : num a0 < num φ.call0.v0) (h1 : num a1 < num φ.call0.v0) (h2 : num a2 < num φ.call0.v0)
    (h : Asc [num φ.call0.v0, num φ.v1, num φ.cst, num φ.v2, num φ.call1.v0, num φ.call1.v1, num φ.call1.v2, num φ.call1.cst, num φ.call1.v3, num φ.call1.v4, num φ.call1.v5, num φ.call1.v6, num φ.call1.v7]) :
    Line (fn_conv_transpose1d_14.body (F := Ideal) a0 a1 a2 φ) (num φ.call0.v0) (num φ.call1.v7 + 1) fun U => ∀ x, Rep 128 4094 (get U a0) x →
      Rep 64 4094 (get U φ.call1.v7) fun b => conv1 (fun o c => get U a1 (ix3 c o 0)) (fun o => get U a2 (ix1 o)) (x b) := by
  simp only [Asc, List.isChain_cons_cons, List.isChain_singleton] at h
  unfold fn_conv_transpose1d_14.body
  apply Line.mono
  · repeat' (first | apply flip_15_line | apply conv1d_16_line | apply Line.last | apply Line.bind | apply Line.tnullary | apply Line.tunary | apply Line.tbinary | omega | (simp only [Asc, List.isChain_cons_cons, List.isChain_singleton, h, and_true]))
  · rintro U ⟨e0, e1, e2, e3, e4⟩ x hx
    have hp : Rep 128 4094 (get U φ.v2) x := fun b c t => by
      rw [e3, e2]
      pointwise [hx]
    intro b o t
    rw [e4 x hp b o t]
    unfold conv1
    have hw : ∀ (o : Fin 64) (c : Fin 128), get U φ.v1 (ix3 o c 0) = get U a1 (ix3 c o 0) := fun o c => by
      rw [e1]
      pointwise [e0]
      rfl
    simp only [hw]

end Cert.ReferenceIdeal.Body
-- ==== Proof.Model.lean ====
/- The results both programs compute, as functions of the eighteen argument arrays. -/
module

public import proofs.«01_k».proof.Proof.Spec
public import Idealize.ShloMosaic.Lib.Pointwise

@[expose] public section

noncomputable section

namespace Cert.Spec

open Idealize.ShloMosaic

/-- An array of extended reals. -/
abbrev Arr (S : Shape) : Type := FVec Ideal S .f32

/-- The argument arrays. -/
structure Params where
  /-- The signal. -/
  x : Arr ⟨3, ![16, 64, 4096]⟩
  /-- The code books. -/
  cb : Arr ⟨3, ![8, 1024, 64]⟩
  /-- The encoder's weights and biases. -/
  ew1 : Arr ⟨3, ![128, 64, 1]⟩
  eb1 : Arr ⟨1, ![128]⟩
  ew2 : Arr ⟨3, ![256, 128, 4]⟩
  eb2 : Arr ⟨1, ![256]⟩
  ew3 : Arr ⟨3, ![512, 256, 4]⟩
  eb3 : Arr ⟨1, ![512]⟩
  ew4 : Arr ⟨3, ![64, 512, 1]⟩
  eb4 : Arr ⟨1, ![64]⟩
  /-- The decoder's weights and biases. -/
  dw1 : Arr ⟨3, ![64, 512, 1]⟩
  db1 : Arr ⟨1, ![512]⟩
  dw2 : Arr ⟨3, ![512, 256, 4]⟩
  db2 : Arr ⟨1, ![256]⟩
  dw3 : Arr ⟨3, ![256, 128, 4]⟩
  db3 : Arr ⟨1, ![128]⟩
  dw4 : Arr ⟨3, ![128, 64, 1]⟩
  db4 : Arr ⟨1, ![64]⟩

variable (p : Params)

/-- The signal of one batch, zero past its end. -/
def signal (b : Fin 16) : Seq 64 := fun t c => if h : t < 4096 then p.x (ix3 b c ⟨t, h⟩) else 0

/-- The encoder's rows after each layer. -/
def enc1 (b : Fin 16) : Seq 128 := relu (conv1 (fun o c => p.ew1 (ix3 o c 0)) (fun o => p.eb1 (ix1 o)) (signal p b))

@[inherit_doc enc1]
def enc2 (b : Fin 16) : Seq 256 := relu (conv4 (fun o c k => p.ew2 (ix3 o c k)) (fun o => p.eb2 (ix1 o)) (enc1 p b))

@[inherit_doc enc1]
def enc3 (b : Fin 16) : Seq 512 := relu (conv4 (fun o c k => p.ew3 (ix3 o c k)) (fun o => p.eb3 (ix1 o)) (enc2 p b))

/-- The encoder's output. -/
def enc (b : Fin 16) : Seq 64 := conv1 (fun o c => p.ew4 (ix3 o c 0)) (fun o => p.eb4 (ix1 o)) (enc3 p b)

/-- The code books by their number. -/
def books (q : ℕ) : Book := fun k d => if h : q < 8 then p.cb (ix3 ⟨q, h⟩ k d) else 0

/-- What the first `q` quantizers leave of the encoder's output. -/
def residue (q : ℕ) (b : Fin 16) : Seq 64 := fun t => resid (books p) (enc p b t) q

/-- The quantized rows. -/
def code (b : Fin 16) : Seq 64 := fun t => total (books p) (enc p b t) 8

/-- The mean squared difference to the nearest entries of one book. -/
def mean (B : Book) (r : Fin 16 → Seq 64) : EReal :=
  Ideal.div (∑ b : Fin 16, ∑ t : Fin 1022, ∑ d : Fin 64, sqerr B (r b t) d) 1046528

/-- The loss of the first `q` quantizers. -/
def lossOf : ℕ → EReal
  | 0 => 0
  | q + 1 => lossOf q + mean (books p q) (residue p q) + ((1 / 4 : ℝ) : EReal) * mean (books p q) (residue p q)

/-- The decoder's rows after each layer. -/
def dec1 (b : Fin 16) : Seq 512 := relu (conv1 (fun o c => p.dw1 (ix3 c o 0)) (fun o => p.db1 (ix1 o)) (code p b))

@[inherit_doc dec1]
def dec2 (b : Fin 16) : Seq 256 := relu (tconv 1022 (fun c o k => p.dw2 (ix3 c o k)) (fun o => p.db2 (ix1 o)) (dec1 p b))

@[inherit_doc dec1]
def dec3 (b : Fin 16) : Seq 128 := relu (tconv 2046 (fun c o k => p.dw3 (ix3 c o k)) (fun o => p.db3 (ix1 o)) (dec2 p b))

/-- The decoded signal. -/
def dec (b : Fin 16) : Seq 64 := conv1 (fun o c => p.dw4 (ix3 c o 0)) (fun o => p.db4 (ix1 o)) (dec3 p b)

end Cert.Spec
-- ==== Proof.RefPick.lean ====
/- The nearest entry of a book as the reference finds it: the place of the least distance by a reduction over
   pairs of a distance and a place, and the row at that place by a gather. -/
module

public import proofs.«01_k».proof.Proof.RefBody
public import proofs.«01_k».proof.Proof.Model
public import Idealize.ShloMosaic.PureOps.Ideal.Laws
public import Idealize.ShloMosaic.Lib.WordCmp

@[expose] public section

set_option maxRecDepth 16384

noncomputable section

namespace Cert.ReferenceIdeal.Body

open Idealize.ShloMosaic Idealize.ShloMosaic.TcCoe Idealize.SL.Sem Cert.ReferenceIdeal Cert.ReferenceIdeal.Facts₀ Cert.ReferenceIdeal.Facts Cert.Line Cert.Spec

variable [Cert.ReferenceIdeal.Facts]

/-- A distance and a place come before another: the distance is less, or they are equal and the place is not after. -/
def Before (p q : EReal × BitVec 32) : Prop := p.1 < q.1 ∨ p.1 = q.1 ∧ p.2.toInt ≤ q.2.toInt

theorem Before.refl (p : EReal × BitVec 32) : Before p p := Or.inr ⟨rfl, le_refl _⟩

theorem Before.trans {p q r : EReal × BitVec 32} (h : Before p q) (k : Before q r) : Before p r := by
  rcases h with h | ⟨h, h'⟩ <;> rcases k with k | ⟨k, k'⟩
  · exact Or.inl (lt_trans h k)
  · exact Or.inl (k ▸ h)
  · exact Or.inl (h ▸ k)
  · exact Or.inr ⟨h.trans k, le_trans h' k'⟩

/-- The reducer keeps one of its two pairs, and that one comes before both. -/
theorem reducer_spec (p q : EReal × BitVec 32) :
    (reducer_argmin_f32_i32 (F := Ideal) p q = p ∨ reducer_argmin_f32_i32 (F := Ideal) p q = q)
      ∧ Before (reducer_argmin_f32_i32 (F := Ideal) p q) p ∧ Before (reducer_argmin_f32_i32 (F := Ideal) p q) q := by
  obtain ⟨a, i⟩ := p
  obtain ⟨b, j⟩ := q
  have hlt : (FloatOps.cmpf (F := Ideal) (φ := .f32) .olt a b) = BitVec.ofBool (decide (a < b)) := rfl
  have heq : (FloatOps.cmpf (F := Ideal) (φ := .f32) .oeq a b) = BitVec.ofBool (decide (a = b)) := rfl
  have hne : (FloatOps.cmpf (F := Ideal) (φ := .f32) .une a a) = 0#1 := by simp [Ideal.cmpf_def, Ideal.cmp]
  have key : reducer_argmin_f32_i32 (F := Ideal) (a, i) (b, j)
      = if a < b then (a, i) else if a = b ∧ i.toInt < j.toInt then (b, i) else (b, j) := by
    unfold reducer_argmin_f32_i32
    simp only [hlt, heq, hne, WordCmp.cmpi_slt_eq]
    by_cases h1 : a < b <;> by_cases h2 : a = b <;> by_cases h3 : i.toInt < j.toInt <;>
      simp [h1, h2, h3, IntOp.ori, IntOp.andi, Scalar.select]
  rw [key]
  by_cases h1 : a < b
  · rw [if_pos h1]; exact ⟨Or.inl rfl, Before.refl _, Or.inl h1⟩
  · rw [if_neg h1]
    by_cases h2 : a = b ∧ i.toInt < j.toInt
    · rw [if_pos h2]
      obtain ⟨rfl, h3⟩ := h2
      exact ⟨Or.inl rfl, Before.refl _, Or.inr ⟨rfl, le_of_lt h3⟩⟩
    · rw [if_neg h2]
      refine ⟨Or.inr rfl, ?_, Before.refl _⟩
      rcases lt_or_eq_of_le (not_lt.mp h1) with h | h
      · exact Or.inl h
      · exact Or.inr ⟨h, by by_contra h3; exact h2 ⟨h.symm, by simpa using h3⟩⟩

/-- The fold of the reducer keeps one of its pairs, and that one comes before all. -/
theorem fold_spec (l : List (EReal × BitVec 32)) : ∀ p : EReal × BitVec 32,
    (l.foldl (reducer_argmin_f32_i32 (F := Ideal)) p = p ∨ l.foldl (reducer_argmin_f32_i32 (F := Ideal)) p ∈ l)
      ∧ Before (l.foldl (reducer_argmin_f32_i32 (F := Ideal)) p) p
      ∧ ∀ q ∈ l, Before (l.foldl (reducer_argmin_f32_i32 (F := Ideal)) p) q := by
  induction l with
  | nil => exact fun p => ⟨Or.inl rfl, Before.refl p, fun q hq => absurd hq List.not_mem_nil⟩
  | cons x l ih =>
    intro p
    rw [List.foldl_cons]
    obtain ⟨h1, h2, h3⟩ := ih (reducer_argmin_f32_i32 (F := Ideal) p x)
    obtain ⟨k1, k2, k3⟩ := reducer_spec p x
    refine ⟨?_, h2.trans k2, ?_⟩
    · rcases h1 with h1 | h1
      · rcases k1 with k1 | k1
        · exact Or.inl (h1.trans k1)
        · exact Or.inr (by rw [h1, k1]; exact List.mem_cons_self)
      · exact Or.inr (List.mem_cons_of_mem _ h1)
    · intro q hq
      rcases List.mem_cons.mp hq with rfl | hq
      · exact h2.trans k3
      · exact h3 q hq

/-- The place of the least distance along the last axis is the first such place. -/
theorem argmin_line (a0 : TR S16x1022x1024) (φ : fn_argmin.Bufs) (h0 : num a0 < num φ.v0)
    (h : Asc [num φ.v0, num φ.cst, num φ.c, num φ.v1_0, num φ.v1_1]) :
    Line (fn_argmin.body (F := Ideal) a0 φ) (num φ.v0) (num φ.v1_1 + 1) fun U => ∀ (b : Fin 16) (t : Fin 1022),
      get U φ.v1_1 (ix2 b t) = BitVec.ofNat 32 (pick fun k => get U a0 (ix3 b t k)).val := by
  simp only [Asc, List.isChain_cons_cons, List.isChain_singleton] at h
  unfold fn_argmin.body
  apply Line.mono
  · repeat' (first | apply Line.last | apply Line.bind | apply Line.tnullary | apply Line.tquaternary | omega)
  · rintro U ⟨e0, e1, e2, -, e4⟩ b t
    rw [e4, e2, e1, e0]
    generalize get U a0 = x
    beta_reduce
    rw [Ideal.argReduce_eq_reduce2, Host.reduce2_eq_foldl_fiber]
    have htop : (constant S_ .f32 0x7F800000#32 : FVec Ideal S_ .f32) (Shape.Idx.first h_S_) = (⊤ : EReal) := by
      pointwise
      simp [Ideal.ofBits, Ideal.ieee]
    have hz : constantI S_ 32 0#32 (Shape.Idx.first h_S_) = 0#32 := rfl
    rw [htop, hz]
    set l := Host.argReduceFiber x (iotaInDim S16x1022x1024 32 2) reducesTo_S16x1022x1024_S16x1022_d2 (ix2 b t) with hl
    have hmem : ∀ q, q ∈ l ↔ ∃ k : Fin 1024, q = (x (ix3 b t k), BitVec.ofNat 32 k.val) := by
      intro q
      simp only [hl, Host.argReduceFiber, List.mem_map, List.mem_filter, List.mem_finRange, true_and, decide_eq_true_eq]
      constructor
      · rintro ⟨n, hn, rfl⟩
        obtain ⟨k, hk⟩ := (Shape.ReducesTo.fiber_r3_a2 _ _ _).mp hn
        exact ⟨k, by rw [← hk]; rfl⟩
      · rintro ⟨k, rfl⟩
        refine ⟨S16x1022x1024.rowMajor (ix3 b t k), ?_, ?_⟩
        · rw [Equiv.symm_apply_apply]
          exact (Shape.ReducesTo.fiber_r3_a2 _ _ _).mpr ⟨k, rfl⟩
        · rw [Equiv.symm_apply_apply]; rfl
    obtain ⟨h1, h2, h3⟩ := fold_spec l (⊤, 0#32)
    set p := l.foldl (reducer_argmin_f32_i32 (F := Ideal)) (⊤, 0#32) with hp
    have hI : ∀ k : Fin 1024, (BitVec.ofNat 32 k.val).toInt = (k.val : ℤ) := fun k => WordCmp.toInt_ofNat_of_lt (by have := k.isLt; omega)
    suffices hs : ∃ k : Fin 1024, IsFirst (fun k => x (ix3 b t k)) k ∧ p.2 = BitVec.ofNat 32 k.val by
      obtain ⟨k, hk, hk'⟩ := hs
      rw [pick_eq hk]; exact hk'
    rcases h1 with h1 | h1
    · have ht : ∀ k : Fin 1024, x (ix3 b t k) = (⊤ : EReal) := fun k => by
        have := h3 _ ((hmem _).mpr ⟨k, rfl⟩)
        rw [h1] at this
        rcases this with h | h
        · exact absurd h not_top_lt
        · exact h.1.symm
      refine ⟨0, ⟨fun j => ?_, fun j hj => absurd hj (by simp)⟩, by rw [h1]; rfl⟩
      show x (ix3 b t 0) ≤ x (ix3 b t j)
      rw [ht, ht]
    · obtain ⟨k, hk⟩ := (hmem _).mp h1
      refine ⟨k, ⟨fun j => ?_, fun j hj => ?_⟩, by rw [hk]⟩
      · have := h3 _ ((hmem _).mpr ⟨j, rfl⟩)
        rw [hk] at this
        rcases this with h | h
        · exact le_of_lt h
        · exact le_of_eq h.1
      · have := h3 _ ((hmem _).mpr ⟨j, rfl⟩)
        rw [hk] at this
        rcases this with h | h
        · exact h
        · have h' := h.2
          rw [hI, hI] at h'
          have : j.val < k.val := hj
          omega

/-- The gather of rows reads the row whose number the index array holds. -/
theorem gather_row (x : FVec Ideal S1024x64 .f32) (i : IVec S16x1022x1 32) (b : Fin 16) (t : Fin 1022) (c : Fin 64) (k : Fin 1024)
    (hk : i (ix3 b t 0) = BitVec.ofNat 32 k.val) :
    Host.gather gather_S1024x64_S16x1022x1_S16x1022x64_2_0_n_n_0_2_164 x i (ix3 b t c) = x (ix2 k c) := by
  set d := gather_S1024x64_S16x1022x1_S16x1022x64_2_0_n_n_0_2_164 with hd
  unfold Host.gather
  refine congrArg x (funext fun a => Fin.ext ?_)
  show d.start (ix3 b t c) i a + d.batchCoord (ix3 b t c) a + d.offCoord (ix3 b t c) a = _
  rw [GatherDims.batchCoord_eq_zero _ _ _ List.not_mem_nil, Nat.add_zero]
  match a with
  | ⟨0, _⟩ =>
    have hm : (0 : Fin 2) ∈ d.startIndexMap := List.mem_singleton.mpr rfl
    show d.start (ix3 b t c) i (0 : Fin 2) + d.offCoord (ix3 b t c) (0 : Fin 2) = k.val
    rw [GatherDims.offCoord_eq_zero _ _ _ (fun h => ((GatherDims.mem_sKept _ _).mp h).1 (List.mem_singleton.mpr rfl)), Nat.add_zero]
    unfold GatherDims.start
    rw [dif_pos hm]
    have hsi : d.siIdx (ix3 b t c) ⟨List.idxOf (0 : Fin 2) d.startIndexMap, List.idxOf_lt_length_iff.2 hm⟩ = ix3 b t (0 : Fin 1) := by
      funext q; refine Fin.ext ?_
      match q with
      | ⟨0, _⟩ => rfl
      | ⟨1, _⟩ => rfl
      | ⟨2, _⟩ => rfl
    rw [hsi, hk, WordCmp.toInt_ofNat_of_lt (by have := k.isLt; omega)]
    show min ((k.val : ℤ)).toNat (1024 - 1) = k.val
    have := k.isLt
    omega
  | ⟨1, _⟩ =>
    show d.start (ix3 b t c) i (1 : Fin 2) + d.offCoord (ix3 b t c) (1 : Fin 2) = c.val
    have hm : (1 : Fin 2) ∉ d.startIndexMap := by simp [hd, gather_S1024x64_S16x1022x1_S16x1022x64_2_0_n_n_0_2_164]
    unfold GatherDims.start
    rw [dif_neg hm, Nat.zero_add]
    rfl

/-- A conjunction of set bits is set. -/
theorem reduce_and_one (x : IVec S16x1022x1 1) (v : IVec S_ 1) (j : S16x1022.Idx) (hx : ∀ i, x i = 1#1) (hv : ∀ i, v i = 1#1) :
    Host.reduce IntOp.andi x v reducesTo_S16x1022x1_S16x1022_d2 h_S_ j = 1#1 := by
  unfold Host.reduce
  generalize (List.finRange S16x1022x1.numel).filter _ = l
  rw [hv]
  induction l with
  | nil => rfl
  | cons n l ih => rw [List.foldl_cons, hx]; exact ih

/-- The rows of a table at places that are in range. -/
theorem take_line (a0 : TR S1024x64) (a1 : StableHlo.TRef sig ⟨S16x1022, .i32⟩) (φ : fn_take.Bufs)
    (h0 : num a0 < num φ.c) (h1 : num a1 < num φ.c)
    (h : Asc [num φ.c, num φ.v0, num φ.v1, num φ.c_0, num φ.v2, num φ.v3, num φ.call0.v0, num φ.v5, num φ.c_1, num φ.c_2, num φ.v6,
      num φ.v7, num φ.v8, num φ.v9, num φ.v10, num φ.v11, num φ.c_3, num φ.v12, num φ.v13, num φ.v14, num φ.cst, num φ.v15, num φ.v16]) :
    Line (fn_take.body (F := Ideal) a0 a1 φ) (num φ.c) (num φ.v16 + 1) fun U =>
      ∀ k : Fin 16 → Fin 1022 → Fin 1024, (∀ b t, get U a1 (ix2 b t) = BitVec.ofNat 32 (k b t).val) →
        ∀ (b : Fin 16) (t : Fin 1022) (c : Fin 64), get U φ.v16 (ix3 b t c) = get U a0 (ix2 (k b t) c) := by
  simp only [Asc, List.isChain_cons_cons, List.isChain_singleton] at h
  unfold fn_take.body fn_where.body
  apply Line.mono
  · repeat' (first | apply Line.last | apply Line.bind | apply Line.tnullary | apply Line.tunary | apply Line.tbinary | apply Line.tternary | omega)
  · rintro U ⟨e0, e1, e2, e3, e4, e5, e6, e7, e8, e9, e10, e11, e12, e13, e14, e15, e16, e17, e18, e19, e20, e21, e22⟩ k hk b t c
    have i5 : ∀ (b : Fin 16) (t : Fin 1022) (z : Fin 1), get U φ.v5 (ix3 b t z) = BitVec.ofNat 32 (k b t).val := fun b t z => by
      rw [e7, e6, e5, e4, e3, e2, e1, e0]
      have hlt : (k b t).val < 1024 := (k b t).isLt
      pointwise [hk]
      rw [show (0#32) = BitVec.ofNat 32 0 from rfl, (WordCmp.cmpi_slt_ofNat_eq_zero_iff (by omega) (by omega)).mpr (by omega)]
      rfl
    have i11 : ∀ i, get U φ.v11 i = 1#1 := fun i => by
      idx_vars i
      rw [e15, e14, e13, e12, e11, e10, e9, e8]
      pointwise [i5]
      have hlt : (k i0 i1).val < 1024 := (k i0 i1).isLt
      rw [show (0#32) = BitVec.ofNat 32 0 from rfl, show (1023#32) = BitVec.ofNat 32 1023 from rfl,
        (WordCmp.cmpi_sge_ofNat_eq_one_iff (by omega) (by omega)).mpr (by omega),
        (WordCmp.cmpi_sle_ofNat_eq_one_iff (by omega) (by omega)).mpr (by omega)]
      rfl
    have i12 : get U φ.v12 (ix2 b t) = 1#1 := by
      rw [e17]
      exact reduce_and_one _ _ _ i11 fun i => by rw [e16]; rfl
    rw [e22, e19, e18]
    pointwise [i12]
    exact gather_row _ _ b t c (k b t) (i5 b t 0)

/-- One quantizer: what it adds, its two losses, and what it leaves. -/
theorem quantize_line (a0 : TR S16x1022x64) (a1 : TR S1024x64) (φ : fn_quantize.Bufs)
    (h0 : num a0 < num φ.v0) (h1 : num a1 < num φ.v0)
    (h : Asc [num φ.v0, num φ.cst, num φ.v1, num φ.v2, num φ.v3, num φ.cst_0, num φ.v4, num φ.v5, num φ.v6, num φ.v7, num φ.v8, num φ.cst_1,
      num φ.v9, num φ.v10, num φ.v11, num φ.v12,
      num φ.call0.v0, num φ.call0.cst, num φ.call0.c, num φ.call0.v1_0, num φ.call0.v1_1,
      num φ.call1.c, num φ.call1.v0, num φ.call1.v1, num φ.call1.c_0, num φ.call1.v2, num φ.call1.v3, num φ.call1.call0.v0, num φ.call1.v5,
      num φ.call1.c_1, num φ.call1.c_2, num φ.call1.v6, num φ.call1.v7, num φ.call1.v8, num φ.call1.v9, num φ.call1.v10, num φ.call1.v11,
      num φ.call1.c_3, num φ.call1.v12, num φ.call1.v13, num φ.call1.v14, num φ.call1.cst, num φ.call1.v15, num φ.call1.v16,
      num φ.v15, num φ.v16, num φ.cst_2, num φ.v17, num φ.cst_3, num φ.v18, num φ.v19, num φ.v20, num φ.cst_4, num φ.v21, num φ.cst_5,
      num φ.v22, num φ.v23, num φ.v24, num φ.v25]) :
    Line (fn_quantize.body (F := Ideal) a0 a1 φ) (num φ.v0) (num φ.v25 + 1) fun U =>
      ∀ (B : Book) (r : Fin 16 → Seq 64), (∀ k d, get U a1 (ix2 k d) = B k d) →
        (∀ (b : Fin 16) (t : Fin 1022) (d : Fin 64), get U a0 (ix3 b t d) = r b t d) →
        (∀ (b : Fin 16) (t : Fin 1022) (d : Fin 64), get U φ.v24 (ix3 b t d) = quant B (r b t) d)
          ∧ (∀ (b : Fin 16) (t : Fin 1022) (d : Fin 64), get U φ.v25 (ix3 b t d) = rest B (r b t) d)
          ∧ (∀ i, get U φ.v22 i = mean B r) ∧ ∀ i, get U φ.v18 i = mean B r := by
  simp only [Asc, List.isChain_cons_cons, List.isChain_singleton] at h
  unfold fn_quantize.body
  apply Line.mono
  · repeat' (first | apply argmin_line | apply take_line | apply Line.last | apply Line.bind | apply Line.tnullary | apply Line.tunary | apply Line.tbinary | omega | (simp only [Asc, List.isChain_cons_cons, List.isChain_singleton, h, and_true]))
  · rintro U ⟨e0, e1, e2, e3, e4, e5, e6, e7, e8, e9, e10, e11, e12, e13, e14, e15, e16, e17, e18, e19, e20, e21, e22, e23, e24, e25, e26, e27,
      e28, e29, e30, e31, e32⟩ B r hB hr
    have i12 : ∀ (b : Fin 16) (t : Fin 1022) (k : Fin 1024), get U φ.v12 (ix3 b t k) = dist B (r b t) k := fun b t k => by
      rw [e15, e14, e13, e12, e11, e10, e9, e8, e7, e6, e5, e4, e3, e2, e1, e0]
      pointwise [hr, hB]
      rw [show Ideal.ofBits .f32 0x40000000#32 = (2 : EReal) by simp [Ideal.ofBits, Ideal.ieee, -EReal.coe_mul]; norm_num; rfl]
      rfl
    have i16 : ∀ (b : Fin 16) (t : Fin 1022) (d : Fin 64), get U φ.call1.v16 (ix3 b t d) = near B (r b t) d := fun b t d => by
      rw [e17 (fun b t => pick fun k => get U φ.v12 (ix3 b t k)) e16 b t d, hB]
      simp only [i12]
      rfl
    have i24 : ∀ (b : Fin 16) (t : Fin 1022) (d : Fin 64), get U φ.v24 (ix3 b t d) = quant B (r b t) d := fun b t d => by
      rw [e31, e30]
      pointwise [hr, i16, quant]
    have hN : Ideal.ofBits .f32 0x497F8000#32 = (1046528 : EReal) := by
      simp [Ideal.ofBits, Ideal.ieee, -EReal.coe_mul]; norm_num; rfl
    refine ⟨i24, fun b t d => ?_, fun i => ?_, fun i => ?_⟩
    · rw [e32]
      pointwise [hr, i24, rest]
    · rw [e29, e28, e27, e26, e25, e24]
      pointwise [hr, i16, mean, sqerr]
      rw [hN]
    · rw [e23, e22, e21, e20, e19, e18]
      pointwise [hr, i16, mean, sqerr]
      rw [hN]

end Cert.ReferenceIdeal.Body
-- ==== Proof.RefRun.lean ====
/- The reference's run: its results as functions of its arguments, and its arguments left as they were. -/
module

public import proofs.«01_k».proof.Proof.RefPick
public import proofs.«01_k».proof.Proof.Model
public import Idealize.ShloMosaic.Lib.Quiescent

@[expose] public section

set_option maxRecDepth 16384

noncomputable section

namespace Cert.ReferenceIdeal.Body

open Idealize.ShloMosaic Idealize.ShloMosaic.TcCoe Idealize.SL.Sem Cert.ReferenceIdeal Cert.ReferenceIdeal.Facts₀ Cert.ReferenceIdeal.Facts Cert.Line Cert.Spec

variable [Cert.ReferenceIdeal.Facts]

/-- Contents of the reference's buffers. -/
abbrev Vals : Type := Valuation τ sig (Elt Ideal)

/-- What a buffer holds. -/
abbrev val (U : Vals) (r : Ref sig .tc) : r.ty.Contents (Elt Ideal) := U (Proc.devRef .tc r)

/-- The argument arrays. -/
def params (U : Vals) : Params where
  x := val U main_arg0
  cb := val U main_arg1
  ew1 := val U main_arg2
  eb1 := val U main_arg3
  ew2 := val U main_arg4
  eb2 := val U main_arg5
  ew3 := val U main_arg6
  eb3 := val U main_arg7
  ew4 := val U main_arg8
  eb4 := val U main_arg9
  dw1 := val U main_arg10
  db1 := val U main_arg11
  dw2 := val U main_arg12
  db2 := val U main_arg13
  dw3 := val U main_arg14
  db3 := val U main_arg15
  dw4 := val U main_arg16
  db4 := val U main_arg17

/-- The first `q` quantizers are done: what is left, the sum so far and the loss so far are as the model says, the
    last two before the final addition of the `q`-th (`a` and `l` hold them). -/
structure Done (p : Params) (q : ℕ) (r a : FVec Ideal S16x1022x64 .f32) (l : FVec Ideal S_ .f32) : Prop where
  /-- What is left. -/
  rest : ∀ (b : Fin 16) (t : Fin 1022) (d : Fin 64), r (ix3 b t d) = residue p q b t d
  /-- The sum so far. -/
  sum : ∀ (b : Fin 16) (t : Fin 1022) (d : Fin 64), a (ix3 b t d) = total (books p) (enc p b t) q d
  /-- The loss so far. -/
  loss : ∀ i, l i = lossOf p q

/-- One more quantizer. -/
theorem Done.step {p : Params} {q : ℕ} {r a : FVec Ideal S16x1022x64 .f32} {l : FVec Ideal S_ .f32} (h : Done p q r a l)
    (B : FVec Ideal S1024x64 .f32) {u v a' : FVec Ideal S16x1022x64 .f32} {l1 l2 c m s l' : FVec Ideal S_ .f32}
    (hB : ∀ (k : Fin 1024) (d : Fin 64), B (ix2 k d) = books p q k d)
    (e : ∀ (B' : Book) (r' : Fin 16 → Seq 64), (∀ k d, B (ix2 k d) = B' k d) →
        (∀ (b : Fin 16) (t : Fin 1022) (d : Fin 64), r (ix3 b t d) = r' b t d) →
        (∀ (b : Fin 16) (t : Fin 1022) (d : Fin 64), u (ix3 b t d) = quant B' (r' b t) d)
          ∧ (∀ (b : Fin 16) (t : Fin 1022) (d : Fin 64), v (ix3 b t d) = Spec.rest B' (r' b t) d)
          ∧ (∀ i, l1 i = mean B' r') ∧ ∀ i, l2 i = mean B' r')
    (es : s = addf l l1) (ec : c = constant S_ .f32 0x3E800000#32) (em : m = mulf c l2) (el : l' = addf s m) (ea : a' = addf a u) :
    Done p (q + 1) v a' l' := by
  obtain ⟨e1, e2, e3, e4⟩ := e (books p q) (residue p q) hB h.rest
  refine ⟨e2, fun b t d => ?_, fun i => ?_⟩
  · rw [ea]
    pointwise [h.sum, e1, total, residue]
  · rw [el, es, em, ec]
    pointwise [h.loss, e3, e4, lossOf]
    rw [show Ideal.ofBits .f32 0x3E800000#32 = ((1 / 4 : ℝ) : EReal) by simp [Ideal.ofBits, Ideal.ieee, -EReal.coe_mul]; norm_num]

/-- One book, sliced out of the code books. -/
theorem book_eq (p : Params) (q : ℕ) (hq : q < 8) (hs : S8x1024x64.Slices ![q, 0, 0] S1x1024x64) (k : Fin 1024) (d : Fin 64) :
    shapeCast S1024x64 (extractStridedSlice S1x1024x64 ![q, 0, 0] p.cb hs) shapeCasts_S1x1024x64_S1024x64 (ix2 k d) = books p q k d := by
  have : books p q k d = p.cb (ix3 ⟨q, hq⟩ k d) := by simp [books, hq]
  rw [this]
  pointwise

set_option maxHeartbeats 2000000 in
/-- The first half of the program: the encoder and six quantizers. -/
theorem part0_line (d : Dev nD) : Line (main_part0 (F := Ideal) d) 18 (num (StableHlo.TRef.of main_v51) + 1) fun U =>
    Done (params U) 6 (val U main_v46_3) (val U main_v50) (val U main_v49)
      ∧ val U main_v51 = extractStridedSlice S1x1024x64 ![6, 0, 0] (params U).cb slices_S8x1024x64_S1x1024x64_6_0_0 := by
  unfold main_part0
  apply Line.mono
  · apply Line.at
    · repeat' (first | with_reducible apply conv_transpose1d_line | with_reducible apply conv_transpose1d_6_line | with_reducible apply conv_transpose1d_10_line | with_reducible apply conv_transpose1d_14_line | with_reducible apply conv1d_line | with_reducible apply conv1d_0_line | with_reducible apply conv1d_2_line | with_reducible apply conv1d_4_line | with_reducible apply relu_line | with_reducible apply relu_1_line | with_reducible apply relu_3_line | with_reducible apply relu_9_line | with_reducible apply relu_13_line | with_reducible apply quantize_line | with_reducible apply Line.bind | with_reducible apply Line.nullary | with_reducible apply Line.unary | with_reducible apply Line.binary | with_reducible apply Line.reshape | decide | (simp only [Asc, List.isChain_cons_cons, List.isChain_singleton, and_true]; decide))
    · rfl
    · rfl
  · rintro U ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59⟩
    have i0 := e0 (signal (params U)) fun b c t => by simp [signal]; rfl
    have i6 := e6 _ (e5 _ (e4 _ (e3 _ (e2 _ (e1 _ i0)))))
    have h0 : Done (params U) 0 (val U main_v7) (val U main_v8) (val U main_cst) := by
      refine ⟨fun b t d => ?_, fun b t d => ?_, fun i => ?_⟩
      · exact (congrFun e7 (ix3 b t d)).trans (by pointwise; exact i6 b d t)
      · exact (congrFun e9 (ix3 b t d)).trans (by rw [e8]; pointwise [total])
      · exact (congrFun e8 i).trans (by pointwise [lossOf])
    have b0 : ∀ (k : Fin 1024) (d : Fin 64), val U main_v10 (ix2 k d) = books (params U) 0 k d := fun k d =>
      (congrFun e11 (ix2 k d)).trans (by rw [e10]; exact book_eq (params U) 0 (by norm_num) _ k d)
    have h1 := Done.step (l := val U main_cst_0) ⟨h0.rest, h0.sum, fun i => (congrFun e13 i).trans (by pointwise [lossOf])⟩ _ b0 e12 e14 e15 e16 e17 e18
    have b1 : ∀ (k : Fin 1024) (d : Fin 64), val U main_v17 (ix2 k d) = books (params U) 1 k d := fun k d =>
      (congrFun e20 (ix2 k d)).trans (by rw [e19]; exact book_eq (params U) 1 (by norm_num) _ k d)
    have h2 := h1.step _ b1 e21 e22 e23 e24 e25 e26
    have b2 : ∀ (k : Fin 1024) (d : Fin 64), val U main_v24 (ix2 k d) = books (params U) 2 k d := fun k d =>
      (congrFun e28 (ix2 k d)).trans (by rw [e27]; exact book_eq (params U) 2 (by norm_num) _ k d)
    have h3 := h2.step _ b2 e29 e30 e31 e32 e33 e34
    have b3 : ∀ (k : Fin 1024) (d : Fin 64), val U main_v31 (ix2 k d) = books (params U) 3 k d := fun k d =>
      (congrFun e36 (ix2 k d)).trans (by rw [e35]; exact book_eq (params U) 3 (by norm_num) _ k d)
    have h4 := h3.step _ b3 e37 e38 e39 e40 e41 e42
    have b4 : ∀ (k : Fin 1024) (d : Fin 64), val U main_v38 (ix2 k d) = books (params U) 4 k d := fun k d =>
      (congrFun e44 (ix2 k d)).trans (by rw [e43]; exact book_eq (params U) 4 (by norm_num) _ k d)
    have h5 := h4.step _ b4 e45 e46 e47 e48 e49 e50
    have b5 : ∀ (k : Fin 1024) (d : Fin 64), val U main_v45 (ix2 k d) = books (params U) 5 k d := fun k d =>
      (congrFun e52 (ix2 k d)).trans (by rw [e51]; exact book_eq (params U) 5 (by norm_num) _ k d)
    have h6 := h5.step _ b5 e53 e54 e55 e56 e57 e58
    exact ⟨h6, e59⟩

set_option maxHeartbeats 2000000 in
/-- The second half of the program: two quantizers and the decoder. -/
theorem part1_line (d : Dev nD) : Line (main_part1 (F := Ideal) d) (num (StableHlo.TRef.of main_v52)) (num (StableHlo.TRef.of main_v72) + 1) fun U =>
    Done (params U) 6 (val U main_v46_3) (val U main_v50) (val U main_v49) →
    val U main_v51 = extractStridedSlice S1x1024x64 ![6, 0, 0] (params U).cb slices_S8x1024x64_S1x1024x64_6_0_0 →
      (∀ (b : Fin 16) (o : Fin 64) (n : Fin 4094), val U main_v72 (ix3 b o n) = dec (params U) b n o)
        ∧ ∀ i, val U main_v63 i = lossOf (params U) 8 := by
  unfold main_part1
  apply Line.mono
  · apply Line.at
    · repeat' (first | with_reducible apply conv_transpose1d_line | with_reducible apply conv_transpose1d_6_line | with_reducible apply conv_transpose1d_10_line | with_reducible apply conv_transpose1d_14_line | with_reducible apply conv1d_line | with_reducible apply conv1d_0_line | with_reducible apply conv1d_2_line | with_reducible apply conv1d_4_line | with_reducible apply relu_line | with_reducible apply relu_1_line | with_reducible apply relu_3_line | with_reducible apply relu_9_line | with_reducible apply relu_13_line | with_reducible apply quantize_line | with_reducible apply Line.last | with_reducible apply Line.bind | with_reducible apply Line.nullary | with_reducible apply Line.unary | with_reducible apply Line.binary | with_reducible apply Line.reshape | decide | (simp only [Asc, List.isChain_cons_cons, List.isChain_singleton, and_true]; decide))
    · rfl
    · rfl
  · rintro U ⟨e0, e1, e2, e3, e4, e5, e6, e7, e8, e9, e10, e11, e12, e13, e14, e15, e16, e17, e18, e19, e20, e21, e22⟩ h6 k6
    have b6 : ∀ (k : Fin 1024) (d : Fin 64), val U main_v52 (ix2 k d) = books (params U) 6 k d := fun k d =>
      (congrFun e0 (ix2 k d)).trans (by rw [show U (Proc.tc.devRef main_v51) = _ from k6]; exact book_eq (params U) 6 (by norm_num) _ k d)
    have h7 := h6.step _ b6 e1 e2 e3 e4 e5 e6
    have b7 : ∀ (k : Fin 1024) (d : Fin 64), val U main_v59 (ix2 k d) = books (params U) 7 k d := fun k d =>
      (congrFun e8 (ix2 k d)).trans (by rw [e7]; exact book_eq (params U) 7 (by norm_num) _ k d)
    have h8 := h7.step _ b7 e9 e10 e11 e12 e13 e14
    have i15 : Rep 64 1022 (val U main_v65) (code (params U)) := fun b c t =>
      (congrFun e15 (ix3 b c t)).trans (by pointwise; exact h8.sum b t c)
    exact ⟨e22 _ (e21 _ (e20 _ (e19 _ (e18 _ (e17 _ (e16 _ i15)))))), h8.loss⟩

/-- The whole program. -/
theorem main_line (d : Dev nD) : Line (main (F := Ideal) d) 18 (num (StableHlo.TRef.of main_v72) + 1) fun U =>
    (∀ (b : Fin 16) (o : Fin 64) (n : Fin 4094), val U main_v72 (ix3 b o n) = dec (params U) b n o)
      ∧ ∀ i, val U main_v63 i = lossOf (params U) 8 :=
  ((part0_line d).bind (part1_line d) (by decide)).mono fun U h => h.2 h.1.1 h.1.2

/-- The argument arrays of a device at a launch. -/
abbrev launched (m : (ℓ : Loc nD τ sig) → Buf (Elt Ideal) ℓ) (d : Dev nD) : Params := params (StableHlo.launchContents m d)

/-- The program runs; it leaves the buffers of its arguments as they were, its results are the model's, and every counter
    is zero again. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ d : Dev nD, (∀ b : Ref sig .tc, b.idx.val < 18 → r.2.mem ((d.tc : Thread nD τ).loc b) = m ((d.tc : Thread nD τ).loc b))
        ∧ (∀ (b : Fin 16) (o : Fin 64) (n : Fin 4094),
            (r.2.mem ((d.tc : Thread nD τ).loc main_v72) : FVec Ideal S16x64x4094 .f32) (ix3 b o n) = dec (launched m d) b n o)
        ∧ ∀ i, (r.2.mem ((d.tc : Thread nD τ).loc main_v63) : FVec Ideal S_ .f32) i = lossOf (launched m d) 8)
      ∧ r.2.sem = fun _ => 0 := by
  obtain ⟨-, ops, h1, h2, h3, h4, h5⟩ := main_line (0 : Dev nD)
  have hargs : ∀ (V : Vals) (b : Ref sig .tc), b.idx.val < 18 → StableHlo.after ops V (Proc.devRef .tc b) = V (Proc.devRef .tc b) := fun V b hb =>
    StableHlo.after_of_forall_not_mem ops V fun op hop hw => by have := h4 op hop b hw; omega
  have hpar : ∀ V : Vals, params (StableHlo.after ops V) = params V := fun V => by
    unfold params
    simp only [val]
    congr 1 <;> (refine hargs V _ ?_; decide)
  have hm : ∀ d : Dev nD, StableHlo.IsSeq (main (F := Ideal) d) ops := fun d => by
    have : d = 0 := Subsingleton.elim _ _
    subst this; exact h1
  refine θ_run_mono (StableHlo.run_hlo defs main hm (by decide) (by decide) h2 h3 m ρ) fun r hr => ⟨fun d => ⟨fun b hb => ?_, fun b o n => ?_, fun i => ?_⟩, ?_⟩
  · rw [hr d b, hargs _ b hb]
  · have := (h5 (StableHlo.launchContents m d) (StableHlo.after ops (StableHlo.launchContents m d)) fun _ _ => rfl).1 b o n
    rw [hpar] at this
    rw [hr d main_v72]; exact this
  · have := (h5 (StableHlo.launchContents m d) (StableHlo.after ops (StableHlo.launchContents m d)) fun _ _ => rfl).2 i
    rw [hpar] at this
    rw [hr d main_v63]; exact this
  · exact sem_eq_zero_of_no_sems rfl r.2

end Cert.ReferenceIdeal.Body
-- ==== Proof.Frames.lean ====
/- The claims of the statement that speak of no value: each program ends with its arguments unchanged and
   its counters at zero, and the one named constant lies within a rounding of the one it replaces. -/
module

public import proofs.«01_k».proof.Defs
public import proofs.«01_k».proof.Proof.FrameKernel.Frame
public import proofs.«01_k».proof.Proof.FrameKernelIdeal.Frame
public import proofs.«01_k».proof.Proof.RefRun
public import proofs.«01_k».proof.Proof.Gen.Kernel
public import proofs.«01_k».proof.Proof.Gen.KernelIdeal
public import proofs.«01_k».proof.Proof.Gen.ReferenceIdeal

@[expose] public section

set_option maxRecDepth 16384

noncomputable section

namespace Cert.Proof

open Idealize.ShloMosaic Idealize.SL.Sem

/-- The kernel leaves its arguments as they were and its counters at zero, for floats of any kind. -/
theorem kernel_frame : Cert.quiescent_Kernel (hKernel := Cert.Kernel.Gen.facts) :=
  fun m g _ => Cert.Kernel.Gen.frame m g

/-- So does the kernel over the reals. -/
theorem kernelIdeal_frame : Cert.quiescent_KernelIdeal (hKernelIdeal := Cert.KernelIdeal.Gen.facts) :=
  fun m g _ => Cert.KernelIdeal.Gen.frame m g

/-- So does the reference over the reals. -/
theorem referenceIdeal_frame : Cert.quiescent_ReferenceIdeal (hReferenceIdeal := Cert.ReferenceIdeal.Gen.facts) := by
  intro m g _
  refine (θ_run _ _ _).mono (fun r hr => ?_) (Cert.ReferenceIdeal.Body.run m g)
  refine ⟨fun c => ?_, hr.2⟩
  have k := (hr.1 c).1
  exact ⟨k _ (by decide), k _ (by decide), k _ (by decide), k _ (by decide), k _ (by decide), k _ (by decide),
    k _ (by decide), k _ (by decide), k _ (by decide), k _ (by decide), k _ (by decide), k _ (by decide),
    k _ (by decide), k _ (by decide), k _ (by decide), k _ (by decide), k _ (by decide), k _ (by decide)⟩

/-- The scale of the loss, 5/4186112, rounds to the constant the compiled kernel multiplies by. -/
theorem preserves : Cert.preserves_Kernel_KernelIdeal :=
  IdealRules.named_const.statement Cert.KernelIdeal.κ "loss_scale" .f32 0x35A05028#32 _ rfl

end Cert.Proof

end
-- ==== Proof.KerBlocks.lean ====
/- What the kernel's blocks hold: the parts of the arguments, some of them transposed or reshaped before the launch. -/
module

public import proofs.«01_k».proof.Proof.FrameKernelIdeal.Frame
public import proofs.«01_k».proof.Proof.Model
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Body

open Idealize.ShloMosaic Idealize.ShloMosaic.TcCoe Idealize.SL.Sem Cert.KernelIdeal Cert.KernelIdeal.Gen Cert.Spec

variable (m : (ℓ : Loc nD τ sig) → Buf (Elt Ideal) ℓ)

/-- The argument arrays of a device at a launch. -/
def given (c : Dev nD) : Params where
  x := m ((c : Thread nD τ).loc main_arg0)
  cb := m ((c : Thread nD τ).loc main_arg1)
  ew1 := m ((c : Thread nD τ).loc main_arg2)
  eb1 := m ((c : Thread nD τ).loc main_arg3)
  ew2 := m ((c : Thread nD τ).loc main_arg4)
  eb2 := m ((c : Thread nD τ).loc main_arg5)
  ew3 := m ((c : Thread nD τ).loc main_arg6)
  eb3 := m ((c : Thread nD τ).loc main_arg7)
  ew4 := m ((c : Thread nD τ).loc main_arg8)
  eb4 := m ((c : Thread nD τ).loc main_arg9)
  dw1 := m ((c : Thread nD τ).loc main_arg10)
  db1 := m ((c : Thread nD τ).loc main_arg11)
  dw2 := m ((c : Thread nD τ).loc main_arg12)
  db2 := m ((c : Thread nD τ).loc main_arg13)
  dw3 := m ((c : Thread nD τ).loc main_arg14)
  db3 := m ((c : Thread nD τ).loc main_arg15)
  dw4 := m ((c : Thread nD τ).loc main_arg16)
  db4 := m ((c : Thread nD τ).loc main_arg17)

/-- Where the blocks of the encoder's windows lie: the signal's moves with the point, the others are their arrays. -/
theorem idx_enc : ∀ t : Fin cfg0.N, win0_0.index t = ![t.val, 0, 0] ∧ win0_9.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

/-- The blocks of the decoder's windows are their arrays. -/
theorem idx_dec : ∀ t : Fin cfg0.N, win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] ∧ win0_23.index t = ![0, 0] :=
  (by decide +kernel : ∀ t : Fin grid0.N, _)

/-- The outputs' blocks move with the point, the loss's is its array. -/
theorem idx_out : ∀ t : Fin cfg0.N, win0_24.index t = ![t.val, 0, 0] ∧ win0_25.index t = ![t.val, 0, 0] ∧ win0_26.index t = ![t.val, 0, 0] ∧ win0_27.index t = ![t.val, 0, 0] ∧ win0_28.index t = ![0, 0] :=
  (by decide +kernel : ∀ t : Fin grid0.N, _)

/-- The signal's block is one batch entry. -/
theorem blk0 (c : Dev nD) (t : Fin cfg0.N) (a : Fin 64) (k : Fin 4096) : iblk m c 0 t (ix3 0 a k) = (given m c).x (ix3 ⟨t.val, t.isLt⟩ a k) := by
  unfold given
  blk_ext [iblk, V, idx_enc t]

/-- The code books' block is all of them. -/
theorem blk9 (c : Dev nD) (t : Fin cfg0.N) (q : Fin 8) (k : Fin 1024) (d : Fin 64) : iblk m c 9 t (ix3 q k d) = (given m c).cb (ix3 q k d) := by
  unfold given
  blk_ext [iblk, V, idx_enc t]

/-- The first convolution's weights. -/
theorem blk1 (c : Dev nD) (t : Fin cfg0.N) (a : Fin 64) (o : Fin 128) : iblk m c 1 t (ix2 a o) = (given m c).ew1 (ix3 o a 0) := by
  unfold given
  refine (show iblk m c 1 t (ix2 a o) = V m c main_v2 (ix2 a o) by blk_ext [iblk, idx_enc t]).trans ?_
  show StableHlo.after hostOps0 (StableHlo.launchContents m c) (Proc.devRef .tc main_v2) _ = _
  after_results
  pointwise

/-- Its biases. -/
theorem blk2 (c : Dev nD) (t : Fin cfg0.N) (o : Fin 128) : iblk m c 2 t (ix2 0 o) = (given m c).eb1 (ix1 o) := by
  unfold given
  refine (show iblk m c 2 t (ix2 0 o) = V m c main_v40 (ix2 0 o) by blk_ext [iblk, idx_enc t]).trans ?_
  show StableHlo.after hostOps0 (StableHlo.launchContents m c) (Proc.devRef .tc main_v40) _ = _
  after_results
  pointwise

/-- The second convolution's weights. -/
theorem blk3 (c : Dev nD) (t : Fin cfg0.N) (k : Fin 4) (a : Fin 128) (o : Fin 256) : iblk m c 3 t (ix2 ⟨128 * k.val + a.val, by omega⟩ o) = (given m c).ew2 (ix3 o a k) := by
  unfold given
  refine (show iblk m c 3 t (ix2 ⟨128 * k.val + a.val, by omega⟩ o) = V m c main_v5 (ix2 ⟨128 * k.val + a.val, by omega⟩ o) by blk_ext [iblk, idx_enc t]).trans ?_
  show StableHlo.after hostOps0 (StableHlo.launchContents m c) (Proc.devRef .tc main_v5) _ = _
  after_results
  pointwise
  simp only [show (128 * k.val + a.val) % 128 = a.val by omega, show (128 * k.val + a.val) / 128 = k.val by omega]

/-- Its biases. -/
theorem blk4 (c : Dev nD) (t : Fin cfg0.N) (o : Fin 256) : iblk m c 4 t (ix2 0 o) = (given m c).eb2 (ix1 o) := by
  unfold given
  refine (show iblk m c 4 t (ix2 0 o) = V m c main_v41 (ix2 0 o) by blk_ext [iblk, idx_enc t]).trans ?_
  show StableHlo.after hostOps0 (StableHlo.launchContents m c) (Proc.devRef .tc main_v41) _ = _
  after_results
  pointwise

/-- The third convolution's weights. -/
theorem blk5 (c : Dev nD) (t : Fin cfg0.N) (k : Fin 4) (a : Fin 256) (o : Fin 512) : iblk m c 5 t (ix2 ⟨256 * k.val + a.val, by omega⟩ o) = (given m c).ew3 (ix3 o a k) := by
  unfold given
  refine (show iblk m c 5 t (ix2 ⟨256 * k.val + a.val, by omega⟩ o) = V m c main_v8 (ix2 ⟨256 * k.val + a.val, by omega⟩ o) by blk_ext [iblk, idx_enc t]).trans ?_
  show StableHlo.after hostOps0 (StableHlo.launchContents m c) (Proc.devRef .tc main_v8) _ = _
  after_results
  pointwise
  simp only [show (256 * k.val + a.val) % 256 = a.val by omega, show (256 * k.val + a.val) / 256 = k.val by omega]

/-- Its biases. -/
theorem blk6 (c : Dev nD) (t : Fin cfg0.N) (o : Fin 512) : iblk m c 6 t (ix2 0 o) = (given m c).eb3 (ix1 o) := by
  unfold given
  refine (show iblk m c 6 t (ix2 0 o) = V m c main_v42 (ix2 0 o) by blk_ext [iblk, idx_enc t]).trans ?_
  show StableHlo.after hostOps0 (StableHlo.launchContents m c) (Proc.devRef .tc main_v42) _ = _
  after_results
  pointwise

/-- The fourth convolution's weights. -/
theorem blk7 (c : Dev nD) (t : Fin cfg0.N) (a : Fin 512) (o : Fin 64) : iblk m c 7 t (ix2 a o) = (given m c).ew4 (ix3 o a 0) := by
  unfold given
  refine (show iblk m c 7 t (ix2 a o) = V m c main_v11 (ix2 a o) by blk_ext [iblk, idx_enc t]).trans ?_
  show StableHlo.after hostOps0 (StableHlo.launchContents m c) (Proc.devRef .tc main_v11) _ = _
  after_results
  pointwise

/-- Its biases. -/
theorem blk8 (c : Dev nD) (t : Fin cfg0.N) (o : Fin 64) : iblk m c 8 t (ix2 0 o) = (given m c).eb4 (ix1 o) := by
  unfold given
  refine (show iblk m c 8 t (ix2 0 o) = V m c main_v43 (ix2 0 o) by blk_ext [iblk, idx_enc t]).trans ?_
  show StableHlo.after hostOps0 (StableHlo.launchContents m c) (Proc.devRef .tc main_v43) _ = _
  after_results
  pointwise

/-- The decoder's first weights. -/
theorem blk10 (c : Dev nD) (t : Fin cfg0.N) (a : Fin 64) (o : Fin 512) : iblk m c 10 t (ix2 a o) = (given m c).dw1 (ix3 a o 0) := by
  unfold given
  refine (show iblk m c 10 t (ix2 a o) = V m c main_v13 (ix2 a o) by blk_ext [iblk, idx_dec t]).trans ?_
  show StableHlo.after hostOps0 (StableHlo.launchContents m c) (Proc.devRef .tc main_v13) _ = _
  after_results
  pointwise

/-- Its biases. -/
theorem blk11 (c : Dev nD) (t : Fin cfg0.N) (o : Fin 512) : iblk m c 11 t (ix2 0 o) = (given m c).db1 (ix1 o) := by
  unfold given
  refine (show iblk m c 11 t (ix2 0 o) = V m c main_v44 (ix2 0 o) by blk_ext [iblk, idx_dec t]).trans ?_
  show StableHlo.after hostOps0 (StableHlo.launchContents m c) (Proc.devRef .tc main_v44) _ = _
  after_results
  pointwise

/-- The second layer's first tap. -/
theorem blk12 (c : Dev nD) (t : Fin cfg0.N) (a : Fin 512) (o : Fin 256) : iblk m c 12 t (ix2 a o) = (given m c).dw2 (ix3 a o 0) := by
  unfold given
  refine (show iblk m c 12 t (ix2 a o) = V m c main_v16 (ix2 a o) by blk_ext [iblk, idx_dec t]).trans ?_
  show StableHlo.after hostOps0 (StableHlo.launchContents m c) (Proc.devRef .tc main_v16) _ = _
  after_results
  pointwise

/-- The second layer's second tap. -/
theorem blk13 (c : Dev nD) (t : Fin cfg0.N) (a : Fin 512) (o : Fin 256) : iblk m c 13 t (ix2 a o) = (given m c).dw2 (ix3 a o 1) := by
  unfold given
  refine (show iblk m c 13 t (ix2 a o) = V m c main_v19 (ix2 a o) by blk_ext [iblk, idx_dec t]).trans ?_
  show StableHlo.after hostOps0 (StableHlo.launchContents m c) (Proc.devRef .tc main_v19) _ = _
  after_results
  pointwise

/-- The second layer's third tap. -/
theorem blk14 (c : Dev nD) (t : Fin cfg0.N) (a : Fin 512) (o : Fin 256) : iblk m c 14 t (ix2 a o) = (given m c).dw2 (ix3 a o 2) := by
  unfold given
  refine (show iblk m c 14 t (ix2 a o) = V m c main_v22 (ix2 a o) by blk_ext [iblk, idx_dec t]).trans ?_
  show StableHlo.after hostOps0 (StableHlo.launchContents m c) (Proc.devRef .tc main_v22) _ = _
  after_results
  pointwise

/-- The second layer's fourth tap. -/
theorem blk15 (c : Dev nD) (t : Fin cfg0.N) (a : Fin 512) (o : Fin 256) : iblk m c 15 t (ix2 a o) = (given m c).dw2 (ix3 a o 3) := by
  unfold given
  refine (show iblk m c 15 t (ix2 a o) = V m c main_v25 (ix2 a o) by blk_ext [iblk, idx_dec t]).trans ?_
  show StableHlo.after hostOps0 (StableHlo.launchContents m c) (Proc.devRef .tc main_v25) _ = _
  after_results
  pointwise

/-- Its biases. -/
theorem blk16 (c : Dev nD) (t : Fin cfg0.N) (o : Fin 256) : iblk m c 16 t (ix2 0 o) = (given m c).db2 (ix1 o) := by
  unfold given
  refine (show iblk m c 16 t (ix2 0 o) = V m c main_v45 (ix2 0 o) by blk_ext [iblk, idx_dec t]).trans ?_
  show StableHlo.after hostOps0 (StableHlo.launchContents m c) (Proc.devRef .tc main_v45) _ = _
  after_results
  pointwise

/-- The third layer's first tap. -/
theorem blk17 (c : Dev nD) (t : Fin cfg0.N) (a : Fin 256) (o : Fin 128) : iblk m c 17 t (ix2 a o) = (given m c).dw3 (ix3 a o 0) := by
  unfold given
  refine (show iblk m c 17 t (ix2 a o) = V m c main_v28 (ix2 a o) by blk_ext [iblk, idx_dec t]).trans ?_
  show StableHlo.after hostOps0 (StableHlo.launchContents m c) (Proc.devRef .tc main_v28) _ = _
  after_results
  pointwise

/-- The third layer's second tap. -/
theorem blk18 (c : Dev nD) (t : Fin cfg0.N) (a : Fin 256) (o : Fin 128) : iblk m c 18 t (ix2 a o) = (given m c).dw3 (ix3 a o 1) := by
  unfold given
  refine (show iblk m c 18 t (ix2 a o) = V m c main_v31 (ix2 a o) by blk_ext [iblk, idx_dec t]).trans ?_
  show StableHlo.after hostOps0 (StableHlo.launchContents m c) (Proc.devRef .tc main_v31) _ = _
  after_results
  pointwise

/-- The third layer's third tap. -/
theorem blk19 (c : Dev nD) (t : Fin cfg0.N) (a : Fin 256) (o : Fin 128) : iblk m c 19 t (ix2 a o) = (given m c).dw3 (ix3 a o 2) := by
  unfold given
  refine (show iblk m c 19 t (ix2 a o) = V m c main_v34 (ix2 a o) by blk_ext [iblk, idx_dec t]).trans ?_
  show StableHlo.after hostOps0 (StableHlo.launchContents m c) (Proc.devRef .tc main_v34) _ = _
  after_results
  pointwise

/-- The third layer's fourth tap. -/
theorem blk20 (c : Dev nD) (t : Fin cfg0.N) (a : Fin 256) (o : Fin 128) : iblk m c 20 t (ix2 a o) = (given m c).dw3 (ix3 a o 3) := by
  unfold given
  refine (show iblk m c 20 t (ix2 a o) = V m c main_v37 (ix2 a o) by blk_ext [iblk, idx_dec t]).trans ?_
  show StableHlo.after hostOps0 (StableHlo.launchContents m c) (Proc.devRef .tc main_v37) _ = _
  after_results
  pointwise

/-- Its biases. -/
theorem blk21 (c : Dev nD) (t : Fin cfg0.N) (o : Fin 128) : iblk m c 21 t (ix2 0 o) = (given m c).db3 (ix1 o) := by
  unfold given
  refine (show iblk m c 21 t (ix2 0 o) = V m c main_v46 (ix2 0 o) by blk_ext [iblk, idx_dec t]).trans ?_
  show StableHlo.after hostOps0 (StableHlo.launchContents m c) (Proc.devRef .tc main_v46) _ = _
  after_results
  pointwise

/-- The last weights. -/
theorem blk22 (c : Dev nD) (t : Fin cfg0.N) (a : Fin 128) (o : Fin 64) : iblk m c 22 t (ix2 a o) = (given m c).dw4 (ix3 a o 0) := by
  unfold given
  refine (show iblk m c 22 t (ix2 a o) = V m c main_v39 (ix2 a o) by blk_ext [iblk, idx_dec t]).trans ?_
  show StableHlo.after hostOps0 (StableHlo.launchContents m c) (Proc.devRef .tc main_v39) _ = _
  after_results
  pointwise

/-- The last biases. -/
theorem blk23 (c : Dev nD) (t : Fin cfg0.N) (o : Fin 64) : iblk m c 23 t (ix2 0 o) = (given m c).db4 (ix1 o) := by
  unfold given
  refine (show iblk m c 23 t (ix2 0 o) = V m c main_v47 (ix2 0 o) by blk_ext [iblk, idx_dec t]).trans ?_
  show StableHlo.after hostOps0 (StableHlo.launchContents m c) (Proc.devRef .tc main_v47) _ = _
  after_results
  pointwise

end Cert.KernelIdeal.Body
-- ==== Proof.KerEnc.lean ====
/- The encoder of the kernel: the rows it hands to the quantizers are the encoder's rows of the model. -/
module

public import proofs.«01_k».proof.Proof.Gen.KernelIdeal.Skeleton
public import proofs.«01_k».proof.Proof.Model
public import Idealize.ShloMosaic.Lib.Pointwise

@[expose] public section

set_option maxRecDepth 16384

noncomputable section

namespace Cert.KernelIdeal.Body

open Idealize.ShloMosaic Idealize.ShloMosaic.TcCoe Idealize.SL.Sem Cert.KernelIdeal Cert.KernelIdeal.Gen Cert.Spec

/-- A sum over four groups of `n` terms, group by group. -/
theorem sum_four (n N : ℕ) (hN : N = n + n + (n + n)) (f : Fin N → EReal) :
    ∑ j, f j = (∑ c : Fin n, f ⟨c.val, by omega⟩) + (∑ c : Fin n, f ⟨n + c.val, by omega⟩)
      + (∑ c : Fin n, f ⟨2 * n + c.val, by omega⟩) + ∑ c : Fin n, f ⟨3 * n + c.val, by omega⟩ := by
  subst hN
  rw [Fin.sum_univ_add, Fin.sum_univ_add, Fin.sum_univ_add (a := n) (b := n), ← add_assoc]
  congr 1
  · congr 1
    refine Finset.sum_congr rfl fun c _ => congrArg f (Fin.ext ?_)
    simp; omega
  · refine Finset.sum_congr rfl fun c _ => congrArg f (Fin.ext ?_)
    simp; omega

/-- The first layer of the encoder. -/
def y1 (v0 : Vec Ideal S1x64x4096 .f32) (v4 : Vec Ideal S64x128 .bf16) (v7 : Vec Ideal S1x128 .f32) : FVec Ideal S4096x128 .bf16 :=
  truncf .bf16 (maximumf (addf (matmul (φ₂ := .bf16) dot_S4096x64_S64x128_S4096x128_1_0_0_1_n_n none (transpose S4096x64 [1, 0] (truncf .bf16 (shapeCast S64x4096 v0 shapeCasts_S1x64x4096_S64x4096) bitsLt_bf16_f32) transposes_S64x4096_p1_0_S4096x64) (shapeCast S64x128 v4 shapeCasts_S64x128_S64x128) (constant S4096x128 .f32 0x00000000#32))
    (broadcastTo S4096x128 (shapeCast S1x128 v7 shapeCasts_S1x128_S1x128) broadcasts_S1x128_S4096x128)) (broadcast S4096x128 (Scalar.ofBits .f32 0x00000000#32))) bitsLt_bf16_f32

/-- The second layer, of the first one's rows. -/
def y2 (z : FVec Ideal S4096x128 .bf16) (v16 : Vec Ideal S512x256 .bf16) (v20 : Vec Ideal S1x256 .f32) : FVec Ideal S2048x256 .bf16 :=
  truncf .bf16 (maximumf (addf (matmul (φ₂ := .bf16) dot_S2048x512_S512x256_S2048x256_1_0_0_1_n_n none (concatenate S2048x512 1 [⟨S2048x256, shapeCast S2048x256 z shapeCasts_S4096x128_S2048x256⟩, ⟨S2048x256, dynamicRotate 0 2047#32 none (shapeCast S2048x256 z shapeCasts_S4096x128_S2048x256) rotates_S2048x256_d0⟩] concatenates_S2048x256_S2048x256_S2048x512_d1)
      (shapeCast S512x256 v16 shapeCasts_S512x256_S512x256) (constant S2048x256 .f32 0x00000000#32))
    (broadcastTo S2048x256 (shapeCast S1x256 v20 shapeCasts_S1x256_S1x256) broadcasts_S1x256_S2048x256)) (broadcast S2048x256 (Scalar.ofBits .f32 0x00000000#32))) bitsLt_bf16_f32

/-- The third layer before its positive part, of the second one's rows. -/
def y3 (z : FVec Ideal S2048x256 .bf16) (v29 : Vec Ideal S1024x512 .bf16) (v33 : Vec Ideal S1x512 .f32) : FVec Ideal S1024x512 .f32 :=
  addf (matmul (φ₂ := .bf16) dot_S1024x1024_S1024x512_S1024x512_1_0_0_1_n_n none (concatenate S1024x1024 1 [⟨S1024x512, shapeCast S1024x512 z shapeCasts_S2048x256_S1024x512⟩, ⟨S1024x512, dynamicRotate 0 1023#32 none (shapeCast S1024x512 z shapeCasts_S2048x256_S1024x512) rotates_S1024x512_d0⟩] concatenates_S1024x512_S1024x512_S1024x1024_d1)
      (shapeCast S1024x512 v29 shapeCasts_S1024x512_S1024x512) (constant S1024x512 .f32 0x00000000#32))
    (broadcastTo S1024x512 (shapeCast S1x512 v33 shapeCasts_S1x512_S1x512) broadcasts_S1x512_S1024x512)

/-- The three layers are what the kernel computes. -/
theorem pay2_eq (v0 : Vec Ideal S1x64x4096 .f32) (v4 : Vec Ideal S64x128 .bf16) (v7 : Vec Ideal S1x128 .f32) (v16 : Vec Ideal S512x256 .bf16) (v20 : Vec Ideal S1x256 .f32) (v29 : Vec Ideal S1024x512 .bf16) (v33 : Vec Ideal S1x512 .f32) :
    k0_pay2 v0 v4 v7 v16 v20 v29 v33 = y3 (y2 (y1 v0 v4 v7) v16 v20) v29 v33 := rfl

/-- The first layer at a row. -/
theorem y1_at (v0 : Vec Ideal S1x64x4096 .f32) (v4 : Vec Ideal S64x128 .bf16) (v7 : Vec Ideal S1x128 .f32)
    (x : Seq 64) (w : Fin 128 → Fin 64 → EReal) (β : Fin 128 → EReal)
    (hx : ∀ (c : Fin 64) (t : Fin 4096), v0 (ix3 0 c t) = x t c) (hw : ∀ c o, v4 (ix2 c o) = w o c) (hβ : ∀ o, v7 (ix2 0 o) = β o)
    (t : Fin 4096) (o : Fin 128) : y1 v0 v4 v7 (ix2 t o) = relu (conv1 w β x) t o := by
  unfold y1
  pointwise [relu, conv1, hx, hw, hβ]
  simp only [mul_comm]

/-- The second layer at a row that reads no row past the end. -/
theorem y2_at (z : FVec Ideal S4096x128 .bf16) (wt : Vec Ideal S512x256 .bf16) (bt : Vec Ideal S1x256 .f32)
    (x : Seq 128) (T : ℕ) (hT : T ≤ 4096) (w : Fin 256 → Fin 128 → Fin 4 → EReal) (β : Fin 256 → EReal)
    (hx : ∀ (t : Fin 4096) c, t.val < T → z (ix2 t c) = x t c) (hw : ∀ (k : Fin 4) (c : Fin 128) o, wt (ix2 ⟨128 * k.val + c.val, by omega⟩ o) = w o c k)
    (hβ : ∀ o, bt (ix2 0 o) = β o)
    (t : Fin 2048) (ht : 2 * t.val + 3 < T) (o : Fin 256) : y2 z wt bt (ix2 t o) = relu (conv4 w β x) t o := by
  have hcat : ∀ (k : Fin 4) (c : Fin 128), concatenate S2048x512 1 [⟨S2048x256, shapeCast S2048x256 z shapeCasts_S4096x128_S2048x256⟩, ⟨S2048x256, dynamicRotate 0 2047#32 none (shapeCast S2048x256 z shapeCasts_S4096x128_S2048x256) rotates_S2048x256_d0⟩] concatenates_S2048x256_S2048x256_S2048x512_d1
      (ix2 t ⟨128 * k.val + c.val, by omega⟩) = x (k.val + 2 * t.val) c := by
    intro k c
    have hc := c.isLt
    have hk := k.isLt
    pointwise
    split_ifs with h
    all_goals
      refine (hx _ _ ?_).trans ?_
      · dsimp only; omega
      · congr 1 <;> (try apply Fin.ext) <;> dsimp only <;> omega
  unfold y2
  generalize concatenate S2048x512 1 _ _ = cat at hcat ⊢
  pointwise [relu, conv4, hβ]
  rw [sum_four 128 512 rfl]
  have e := fun (k : Fin 4) (c : Fin 128) => congrArg₂ (· * ·) (hcat k c) (hw k c o)
  have e0 := e 0
  have e1 := e 1
  have e2 := e 2
  have e3 := e 3
  dsimp at e0 e1 e2 e3
  simp only [Nat.mul_zero, Nat.zero_add, Nat.mul_one] at e0 e1
  simp only [e0, e1, e2, e3, mul_comm]

/-- The third layer at a row that reads no row past the end. -/
theorem y3_at (z : FVec Ideal S2048x256 .bf16) (wt : Vec Ideal S1024x512 .bf16) (bt : Vec Ideal S1x512 .f32)
    (x : Seq 256) (T : ℕ) (hT : T ≤ 2048) (w : Fin 512 → Fin 256 → Fin 4 → EReal) (β : Fin 512 → EReal)
    (hx : ∀ (t : Fin 2048) c, t.val < T → z (ix2 t c) = x t c) (hw : ∀ (k : Fin 4) (c : Fin 256) o, wt (ix2 ⟨256 * k.val + c.val, by omega⟩ o) = w o c k)
    (hβ : ∀ o, bt (ix2 0 o) = β o)
    (t : Fin 1024) (ht : 2 * t.val + 3 < T) (o : Fin 512) : y3 z wt bt (ix2 t o) = conv4 w β x t o := by
  have hcat : ∀ (k : Fin 4) (c : Fin 256), concatenate S1024x1024 1 [⟨S1024x512, shapeCast S1024x512 z shapeCasts_S2048x256_S1024x512⟩, ⟨S1024x512, dynamicRotate 0 1023#32 none (shapeCast S1024x512 z shapeCasts_S2048x256_S1024x512) rotates_S1024x512_d0⟩] concatenates_S1024x512_S1024x512_S1024x1024_d1
      (ix2 t ⟨256 * k.val + c.val, by omega⟩) = x (k.val + 2 * t.val) c := by
    intro k c
    have hc := c.isLt
    have hk := k.isLt
    pointwise
    split_ifs with h
    all_goals
      refine (hx _ _ ?_).trans ?_
      · dsimp only; omega
      · congr 1 <;> (try apply Fin.ext) <;> dsimp only <;> omega
  unfold y3
  generalize concatenate S1024x1024 1 _ _ = cat at hcat ⊢
  pointwise [relu, conv4, hβ]
  rw [sum_four 256 1024 rfl]
  have e := fun (k : Fin 4) (c : Fin 256) => congrArg₂ (· * ·) (hcat k c) (hw k c o)
  have e0 := e 0
  have e1 := e 1
  have e2 := e 2
  have e3 := e 3
  dsimp at e0 e1 e2 e3
  simp only [Nat.mul_zero, Nat.zero_add, Nat.mul_one] at e0 e1
  simp only [e0, e1, e2, e3, mul_comm]

/-- The last layer at a row. -/
theorem pay3_at (z : FVec Ideal S1024x512 .f32) (wt : Vec Ideal S512x64 .bf16) (bt : Vec Ideal S1x64 .f32)
    (x : Seq 512) (w : Fin 64 → Fin 512 → EReal) (β : Fin 64 → EReal) (t : Fin 1024)
    (hx : ∀ c, z (ix2 t c) = x t c) (hw : ∀ c o, wt (ix2 c o) = w o c) (hβ : ∀ o, bt (ix2 0 o) = β o)
    (o : Fin 64) : k0_pay3 z wt bt (ix2 t o) = conv1 w β (relu x) t o := by
  unfold k0_pay3
  pointwise [relu, conv1, hx, hw, hβ]
  simp only [mul_comm]

/-- The rows handed to the quantizers are the encoder's, wherever the encoder has a row. -/
theorem enc_at (p : Params) (b : Fin 16) (v0 : Vec Ideal S1x64x4096 .f32) (v4 : Vec Ideal S64x128 .bf16) (v7 : Vec Ideal S1x128 .f32)
    (v16 : Vec Ideal S512x256 .bf16) (v20 : Vec Ideal S1x256 .f32) (v29 : Vec Ideal S1024x512 .bf16) (v33 : Vec Ideal S1x512 .f32)
    (v40 : Vec Ideal S512x64 .bf16) (v43 : Vec Ideal S1x64 .f32)
    (h0 : ∀ c t, v0 (ix3 0 c t) = p.x (ix3 b c t))
    (h4 : ∀ c o, v4 (ix2 c o) = p.ew1 (ix3 o c 0)) (h7 : ∀ o, v7 (ix2 0 o) = p.eb1 (ix1 o))
    (h16 : ∀ (k : Fin 4) (c : Fin 128) o, v16 (ix2 ⟨128 * k.val + c.val, by omega⟩ o) = p.ew2 (ix3 o c k)) (h20 : ∀ o, v20 (ix2 0 o) = p.eb2 (ix1 o))
    (h29 : ∀ (k : Fin 4) (c : Fin 256) o, v29 (ix2 ⟨256 * k.val + c.val, by omega⟩ o) = p.ew3 (ix3 o c k)) (h33 : ∀ o, v33 (ix2 0 o) = p.eb3 (ix1 o))
    (h40 : ∀ c o, v40 (ix2 c o) = p.ew4 (ix3 o c 0)) (h43 : ∀ o, v43 (ix2 0 o) = p.eb4 (ix1 o))
    (t : Fin 1024) (ht : t.val < 1022) (d : Fin 64) :
    k0_pay3 (k0_pay2 v0 v4 v7 v16 v20 v29 v33) v40 v43 (ix2 t d) = enc p b t d := by
  rw [pay2_eq]
  have k1 := y1_at v0 v4 v7 (signal p b) (fun o c => p.ew1 (ix3 o c 0)) (fun o => p.eb1 (ix1 o))
    (fun c t => by rw [h0]; unfold signal; rw [dif_pos t.isLt]) h4 h7
  have k2 := y2_at (y1 v0 v4 v7) v16 v20 _ 4096 le_rfl (fun o c k => p.ew2 (ix3 o c k)) (fun o => p.eb2 (ix1 o)) (fun t c _ => k1 t c) h16 h20
  have k3 := y3_at (y2 (y1 v0 v4 v7) v16 v20) v29 v33 _ 2047 (by decide) (fun o c k => p.ew3 (ix3 o c k)) (fun o => p.eb3 (ix1 o))
    (fun t c h => k2 t (by omega) c) h29 h33
  exact pay3_at _ v40 v43 _ (fun o c => p.ew4 (ix3 o c 0)) (fun o => p.eb4 (ix1 o)) t (fun c => k3 t (by omega) c) h40 h43 d

end Cert.KernelIdeal.Body
-- ==== Proof.KerStep.lean ====
/- One quantizer of the kernel: the distances, the first least one as a row of zeros and a one, the entry it reads
   from the book split in three parts, the rest and the squared error. -/
module

public import proofs.«01_k».proof.Proof.Gen.KernelIdeal.Skeleton
public import proofs.«01_k».proof.Proof.Model
public import Idealize.ShloMosaic.Lib.Pointwise
public import Idealize.ShloMosaic.Lib.WordCmp

@[expose] public section

set_option maxRecDepth 16384

noncomputable section

namespace Cert.KernelIdeal.Body

open Idealize.ShloMosaic Idealize.ShloMosaic.TcCoe Idealize.SL.Sem Cert.KernelIdeal Cert.KernelIdeal.Gen Cert.Spec

/-- The least of a finite family of words is one of them, or the start value, and is at most each. -/
theorem fold_minsi_spec {ι : Type} [DecidableEq ι] (s : Finset ι) (f : ι → BitVec 32) (z : BitVec 32) :
    (s.fold IntOp.minsi z f = z ∨ ∃ k ∈ s, s.fold IntOp.minsi z f = f k)
      ∧ (s.fold IntOp.minsi z f).toInt ≤ z.toInt ∧ ∀ k ∈ s, (s.fold IntOp.minsi z f).toInt ≤ (f k).toInt := by
  have hm : ∀ a b : BitVec 32, (IntOp.minsi a b = a ∨ IntOp.minsi a b = b) ∧ (IntOp.minsi a b).toInt ≤ a.toInt ∧ (IntOp.minsi a b).toInt ≤ b.toInt := by
    intro a b
    unfold IntOp.minsi
    split_ifs with h
    · have := BitVec.slt_iff_toInt_lt.mp h
      exact ⟨Or.inl rfl, le_refl _, by omega⟩
    · have := mt BitVec.slt_iff_toInt_lt.mpr h
      exact ⟨Or.inr rfl, by omega, le_refl _⟩
  induction s using Finset.induction_on with
  | empty => exact ⟨Or.inl rfl, le_refl _, fun k hk => absurd hk (Finset.notMem_empty k)⟩
  | insert a s ha ih =>
    obtain ⟨h1, h2, h3⟩ := ih
    rw [Finset.fold_insert ha]
    obtain ⟨k1, k2, k3⟩ := hm (f a) (s.fold IntOp.minsi z f)
    refine ⟨?_, le_trans k3 h2, ?_⟩
    · rcases k1 with k1 | k1
      · exact Or.inr ⟨a, Finset.mem_insert_self _ _, k1⟩
      · rcases h1 with h1 | ⟨k, hk, h1⟩
        · exact Or.inl (k1.trans h1)
        · exact Or.inr ⟨k, Finset.mem_insert_of_mem hk, k1.trans h1⟩
    · intro k hk
      rcases Finset.mem_insert.mp hk with rfl | hk
      · exact k2
      · exact le_trans k3 (h3 k hk)

/-- The least place among those marked is the first marked one. -/
theorem fold_minsi_first (P : Fin 1024 → Prop) [DecidablePred P] (k : Fin 1024) (hk : P k) (hj : ∀ j, j < k → ¬ P j) :
    Finset.univ.fold IntOp.minsi 2147483647#32 (fun j : Fin 1024 => if P j then BitVec.ofNat 32 j.val else 1024#32) = BitVec.ofNat 32 k.val := by
  have hI : ∀ n : ℕ, n ≤ 1024 → (BitVec.ofNat 32 n).toInt = (n : ℤ) := fun n h => WordCmp.toInt_ofNat_of_lt (by omega)
  obtain ⟨h1, h2, h3⟩ := fold_minsi_spec Finset.univ (fun j : Fin 1024 => if P j then BitVec.ofNat 32 j.val else 1024#32) 2147483647#32
  have h := h3 k (Finset.mem_univ k)
  simp only [if_pos hk] at h
  rw [hI _ (by have := k.isLt; omega)] at h
  rcases h1 with h1 | ⟨j, -, h1⟩
  · rw [h1] at h
    have : (2147483647#32).toInt = 2147483647 := by decide
    have := k.isLt
    omega
  · rw [h1] at h ⊢
    by_cases hp : P j
    · simp only [if_pos hp] at h ⊢
      rw [hI _ (by have := j.isLt; omega)] at h
      have : ¬ j < k := fun hlt => hj j hlt hp
      have : j = k := Fin.ext (by have := Fin.not_lt.mp this; have : k.val ≤ j.val := this; omega)
      rw [this]
    · simp only [if_neg hp] at h
      rw [show (1024#32) = BitVec.ofNat 32 1024 from rfl, hI _ le_rfl] at h
      have := k.isLt
      omega

/-- The least of a family of extended reals is at most each, and is one of them. -/
theorem fold_min_spec (D : Fin 1024 → EReal) : (∀ j, Finset.univ.fold min ⊤ D ≤ D j) ∧ ∃ k, D k = Finset.univ.fold min ⊤ D := by
  have key : ∀ s : Finset (Fin 1024), (∀ j ∈ s, s.fold min ⊤ D ≤ D j) ∧ (s.fold min ⊤ D = ⊤ ∨ ∃ k, D k = s.fold min ⊤ D) := by
    intro s
    induction s using Finset.induction_on with
    | empty => exact ⟨fun k hk => absurd hk (Finset.notMem_empty k), Or.inl rfl⟩
    | insert a s ha ih =>
      obtain ⟨h1, h2⟩ := ih
      rw [Finset.fold_insert ha]
      refine ⟨fun k hk => ?_, ?_⟩
      · rcases Finset.mem_insert.mp hk with rfl | hk
        · exact min_le_left _ _
        · exact le_trans (min_le_right _ _) (h1 k hk)
      · rcases min_choice (D a) (s.fold min ⊤ D) with h | h
        · exact Or.inr ⟨a, h.symm⟩
        · rw [h]; exact h2
  obtain ⟨h1, h2⟩ := key Finset.univ
  refine ⟨fun j => h1 j (Finset.mem_univ j), ?_⟩
  rcases h2 with h2 | h2
  · exact ⟨0, le_antisymm (le_of_le_of_eq le_top h2.symm) (h1 0 (Finset.mem_univ 0))⟩
  · exact h2

/-- The first place that holds the least value is the place picked. -/
theorem pick_first (D : Fin 1024 → EReal) : D (pick D) = Finset.univ.fold min ⊤ D ∧ ∀ j, j < pick D → ¬ D j = Finset.univ.fold min ⊤ D := by
  classical
  obtain ⟨h1, k, hk⟩ := fold_min_spec D
  set m := Finset.univ.fold min ⊤ D
  obtain ⟨i, hi, hi'⟩ : ∃ i, D i = m ∧ ∀ j, j < i → ¬ D j = m := by
    have hne : (Finset.univ.filter fun k => D k = m).Nonempty := ⟨k, by simp [hk]⟩
    refine ⟨(Finset.univ.filter fun k => D k = m).min' hne, ?_, fun j hj h => ?_⟩
    · have := Finset.min'_mem _ hne
      exact (Finset.mem_filter.mp this).2
    · exact absurd (Finset.min'_le _ j (by simp [h])) (not_le.mpr hj)
  have hf : IsFirst D i := ⟨fun j => hi ▸ h1 j, fun j hj => lt_of_le_of_ne (hi ▸ h1 j) fun h => hi' j hj (h.symm.trans hi)⟩
  rw [pick_eq hf]
  exact ⟨hi, hi'⟩

/-- The constant the least distance starts from is infinity. -/
theorem ofBits_inf : Ideal.ofBits .f32 0x7F800000#32 = (⊤ : EReal) := by simp [Ideal.ofBits, Ideal.ieee]

/-- The constant two. -/
theorem ofBits_two : Ideal.ofBits .f32 0x40000000#32 = (2 : EReal) := by
  simp [Ideal.ofBits, Ideal.ieee, -EReal.coe_mul]; norm_num; rfl

/-- The rows of zeros and ones that mark the place of the least distance. -/
def hot (v61 : IVec S1024x1024 32) (d2 : FVec Ideal S1024x1024 .f32) (m : FVec Ideal S1024x1 .f32) : FVec Ideal S1024x1024 .bf16 :=
  truncf .bf16 (sitofp .f32 (extui 32 (cmpi .eq v61 (broadcastTo S1024x1024 (shapeCast S1024x1
    (multiReductionI .minsi [1] S1024 (select (cmpf .oeq d2 (broadcastTo S1024x1024 m broadcasts_S1024x1_S1024x1024)) v61 (broadcast S1024x1024 1024#32))
      2147483647#32 reduces_S1024x1024_S1024 rfl) shapeCasts_S1024_S1024x1) broadcasts_S1024x1_S1024x1024)) natLt_1_32)) bitsLt_bf16_f32

/-- The differences of the entries read, in three parts, to the rows. -/
def diffOf (v61 : IVec S1024x1024 32) (tab : FVec Ideal S1024x192 .bf16) (r : FVec Ideal S1024x64 .f32) (d2 : FVec Ideal S1024x1024 .f32)
    (m : FVec Ideal S1024x1 .f32) : FVec Ideal S1024x64 .f32 :=
  have e : FVec Ideal S1024x192 .f32 := matmul (φ₂ := .bf16) dot_S1024x1024_S1024x192_S1024x192_1_0_0_1_n_n none (hot v61 d2 m) tab (constant S1024x192 .f32 0x00000000#32)
  subf (addf (addf (extractStridedSlice S1024x64 ![0, 0] e slices_S1024x192_o0_0_S1024x64) (extractStridedSlice S1024x64 ![0, 64] e slices_S1024x192_o0_64_S1024x64))
    (extractStridedSlice S1024x64 ![0, 128] e slices_S1024x192_o0_128_S1024x64)) r

/-- The least of each row. -/
def minOf (d2 : FVec Ideal S1024x1024 .f32) : FVec Ideal S1024x1 .f32 :=
  shapeCast S1024x1 (multiReduction .minimumf [1] S1024 d2 0x7F800000#32 reduces_S1024x1024_S1024 (.inl rfl) rfl) shapeCasts_S1024_S1024x1

/-- The distances of the rows to the entries. -/
def distOf (B : FVec Ideal S1024x64 .bf16) (c : FVec Ideal S1024 .f32) (r : FVec Ideal S1024x64 .f32) : FVec Ideal S1024x1024 .f32 :=
  addf (subf (broadcastTo S1024x1024 (shapeCast S1024x1 (multiReduction .add [1] S1024 (mulf r r) 0x00000000#32 reduces_S1024x64_S1024 (.inl rfl) rfl) shapeCasts_S1024_S1024x1) broadcasts_S1024x1_S1024x1024)
      (mulf (broadcast S1024x1024 (Scalar.ofBits .f32 0x40000000#32)) (matmul (φ₂ := .bf16) dot_S1024x64_S1024x64_S1024x1024_1_1_0_0_n_n none (truncf .bf16 r bitsLt_bf16_f32) B (constant S1024x1024 .f32 0x00000000#32))))
    (broadcastTo S1024x1024 (shapeCast S1x1024 c shapeCasts_S1024_S1x1024) broadcasts_S1x1024_S1024x1024)

/-- The sum of the squares of the rows kept by the mask. -/
def errOf (v60 : IVec S1024x1 1) (e : FVec Ideal S1024x64 .f32) : Ideal .f32 :=
  extractAt ![0, 0, 0] (shapeCast S1x1x1 (multiReduction .add [1, 2] S1 (shapeCast S1x1024x64 (select (broadcastTo S1024x64 (shapeCast S1024x1 v60 shapeCasts_S1024x1_S1024x1) broadcasts_S1024x1_S1024x64)
    (mulf e e) (broadcast S1024x64 (Scalar.ofBits .f32 0x00000000#32))) shapeCasts_S1024x64_S1x1024x64) 0x00000000#32 reduces_S1x1024x64_S1 (.inl rfl) rfl) shapeCasts_S1_S1x1x1) inpos_S1x1x1_p0_0_0

/-- The mark stands at the place picked. -/
theorem hot_at (v61 : IVec S1024x1024 32) (h61 : ∀ t k, v61 (ix2 t k) = BitVec.ofNat 32 k.val) (d2 : FVec Ideal S1024x1024 .f32) (t k : Fin 1024) :
    hot v61 d2 (minOf d2) (ix2 t k) = if k = pick (fun j => d2 (ix2 t j)) then 1 else 0 := by
  have hD := pick_first fun j => d2 (ix2 t j)
  have hf := fold_minsi_first (fun j => d2 (ix2 t j) = Finset.univ.fold min ⊤ fun j => d2 (ix2 t j)) (pick fun j => d2 (ix2 t j)) hD.1 hD.2
  unfold hot minOf
  pointwise [h61, ofBits_inf]
  rw [hf, WordCmp.cmpi_eq_eq]
  have hk : k.val < 1024 := k.isLt
  have hq : (pick fun j => d2 (ix2 t j)).val < 1024 := (pick fun j => d2 (ix2 t j)).isLt
  by_cases h : k = pick fun j => d2 (ix2 t j)
  · rw [if_pos h, ← h]; simp [FloatOps.sitofp]
  · rw [if_neg h]
    have : ¬ BitVec.ofNat 32 k.val = BitVec.ofNat 32 (pick fun j => d2 (ix2 t j)).val := fun e => h (Fin.ext (by
      have := congrArg BitVec.toNat e
      simpa [Nat.mod_eq_of_lt (show k.val < 4294967296 by omega), Nat.mod_eq_of_lt (show (pick fun j => d2 (ix2 t j)).val < 4294967296 by omega)] using this))
    simp [this, FloatOps.sitofp]

/-- The distances at a row. -/
theorem distOf_at (B : FVec Ideal S1024x64 .bf16) (c : FVec Ideal S1024 .f32) (r : FVec Ideal S1024x64 .f32) (B' : Book) (r' : Fin 64 → EReal) (t k : Fin 1024)
    (hB : ∀ k d, B (ix2 k d) = B' k d) (hc : ∀ k, c (ix1 k) = ∑ d, B' k d * B' k d) (hr : ∀ d, r (ix2 t d) = r' d) :
    distOf B c r (ix2 t k) = dist B' r' k := by
  unfold distOf
  pointwise [hB, hc, hr, ofBits_two]
  rfl

/-- The differences at a row whose distances are known. -/
theorem diffOf_at (v61 : IVec S1024x1024 32) (h61 : ∀ t k, v61 (ix2 t k) = BitVec.ofNat 32 k.val) (tab : FVec Ideal S1024x192 .bf16)
    (r : FVec Ideal S1024x64 .f32) (d2 : FVec Ideal S1024x1024 .f32) (B : Book) (r' : Fin 64 → EReal) (t : Fin 1024)
    (h0 : ∀ k (d : Fin 64), tab (ix2 k ⟨d.val, by omega⟩) = B k d) (h1 : ∀ k (d : Fin 64), tab (ix2 k ⟨64 + d.val, by omega⟩) = 0)
    (h2 : ∀ k (d : Fin 64), tab (ix2 k ⟨128 + d.val, by omega⟩) = 0) (hr : ∀ d, r (ix2 t d) = r' d) (hd : ∀ k, d2 (ix2 t k) = dist B r' k) (d : Fin 64) :
    diffOf v61 tab r d2 (minOf d2) (ix2 t d) = near B r' d - r' d := by
  have hp : (pick fun j => d2 (ix2 t j)) = pick (dist B r') := congrArg pick (funext hd)
  have hh : ∀ k, hot v61 d2 (minOf d2) (ix2 t k) = if k = pick (dist B r') then (1 : EReal) else 0 := fun k => by rw [← hp]; exact hot_at v61 h61 d2 t k
  unfold diffOf
  generalize hot v61 d2 (minOf d2) = o at hh
  pointwise [hh, hr]
  simp only [ite_mul, one_mul, zero_mul, Finset.sum_ite_eq', Finset.mem_univ, if_true, h0, h1, h2, add_zero]
  rfl

/-- The sum of squares over the rows kept. -/
theorem errOf_eq (v60 : IVec S1024x1 1) (h60 : ∀ t, v60 (ix2 t 0) = if t.val < 1022 then 1#1 else 0#1) (e : FVec Ideal S1024x64 .f32)
    (f : ℕ → Fin 64 → EReal) (he : ∀ (t : Fin 1024) d, t.val < 1022 → e (ix2 t d) * e (ix2 t d) = f t d) :
    errOf v60 e = ∑ t : Fin 1022, ∑ d, f t d := by
  unfold errOf
  pointwise [h60]
  rw [Finset.sum_eq_zero (s := Finset.univ (α := Fin 2)) (fun _ _ => Finset.sum_const_zero), add_zero]
  exact Finset.sum_congr rfl fun t _ => Finset.sum_congr rfl fun d _ => he ⟨t.val, _⟩ d t.isLt

end Cert.KernelIdeal.Body
-- ==== Proof.KerStage.lean ====
/- The eight quantizers of the kernel, one after the other: what each leaves of the rows, what is summed up of them, and the error. -/
module

public import proofs.«01_k».proof.Proof.KerStep
public import proofs.«01_k».proof.Proof.Model

@[expose] public section

set_option maxRecDepth 16384

noncomputable section

namespace Cert.KernelIdeal.Body

open Idealize.ShloMosaic Idealize.ShloMosaic.TcCoe Idealize.SL.Sem Cert.KernelIdeal Cert.KernelIdeal.Gen Cert.Spec

/-- The places in a row. -/
abbrev places : IVec S1024x1024 32 := iota .tc S1024x1024 32 [1] iota_S1024x1024_d1_w32

/-- A place's number as a word. -/
theorem places_at (t k : Fin 1024) : places (ix2 t k) = BitVec.ofNat 32 k.val := by
  pointwise

/-- The rows kept are the first 1022. -/
theorem kept_at (t : Fin 1024) : k0_pay7 (ix2 t 0) = if t.val < 1022 then 1#1 else 0#1 := by
  unfold k0_pay7
  have := t.isLt
  pointwise
  split_ifs with h
  · exact (WordCmp.cmpi_slt_ofNat_eq_one_iff (by omega) (by omega)).mpr h
  · exact (WordCmp.cmpi_slt_ofNat_eq_zero_iff (by omega) (by omega)).mpr (by omega)

section Tables

variable (p : Params) (v47 : Vec Ideal S8x1024x64 .f32) (h47 : ∀ q k d, v47 (ix3 q k d) = p.cb (ix3 q k d))

include h47

/-- One book, read out of all. -/
theorem book_at (q : ℕ) (hq : q < 8) (hs) (k : Fin 1024) (d : Fin 64) :
    shapeCast S1024x64 (extractStridedSlice S1x1024x64 ![q, 0, 0] (k0_pay4 v47) hs) shapeCasts_S1x1024x64_S1024x64 (ix2 k d) = books p q k d := by
  unfold k0_pay4 books
  rw [dif_pos hq]
  pointwise [h47]

/-- The squares of one book's entries. -/
theorem norm_at (q : ℕ) (hq : q < 8) (hs) (k : Fin 1024) :
    shapeCast S1024 (extractStridedSlice S1x1024 ![q, 0] (k0_pay6 v47) hs) shapeCasts_S1x1024_S1024 (ix1 k) = ∑ d, books p q k d * books p q k d := by
  unfold k0_pay6 books
  simp only [dif_pos hq]
  pointwise [h47]

variable (hfin : ∀ i, p.cb i ≠ ⊤ ∧ p.cb i ≠ ⊥)

include hfin

/-- The table's first part is the book, the others are zero. -/
theorem tab_at (q : ℕ) (hq : q < 8) (hs) (k : Fin 1024) (d : Fin 64) :
    shapeCast S1024x192 (extractStridedSlice S1x1024x192 ![q, 0, 0] (k0_pay5 v47) hs) shapeCasts_S1x1024x192_S1024x192 (ix2 k ⟨d.val, by omega⟩) = books p q k d
    ∧ shapeCast S1024x192 (extractStridedSlice S1x1024x192 ![q, 0, 0] (k0_pay5 v47) hs) shapeCasts_S1x1024x192_S1024x192 (ix2 k ⟨64 + d.val, by omega⟩) = (0 : EReal)
    ∧ shapeCast S1024x192 (extractStridedSlice S1x1024x192 ![q, 0, 0] (k0_pay5 v47) hs) shapeCasts_S1x1024x192_S1024x192 (ix2 k ⟨128 + d.val, by omega⟩) = (0 : EReal) := by
  have hd := d.isLt
  have h0 := EReal.sub_self (hfin (ix3 ⟨q, hq⟩ k d)).1 (hfin (ix3 ⟨q, hq⟩ k d)).2
  unfold k0_pay5 k0_pay4 books
  rw [dif_pos hq]
  refine ⟨?_, ?_, ?_⟩
  · pointwise [h47]
  · pointwise [h47]
    exact h0
  · pointwise [h47]
    rw [dif_neg (by omega), dif_neg (by omega), EReal.sub_self (hfin _).1 (hfin _).2]
    exact sub_zero _

end Tables

/-- What holds before the quantizer of number `q`: the rows left, their sum so far, the error so far, the
    distances to the book's entries, and the least of them. -/
structure Stage (p : Params) (b : Fin 16) (q : ℕ) (r acc : FVec Ideal S1024x64 .f32) (loss : Ideal .f32) (d2 : FVec Ideal S1024x1024 .f32)
    (m : FVec Ideal S1024x1 .f32) : Prop where
  /-- The rows left. -/
  left : ∀ (t : Fin 1024) d, t.val < 1022 → r (ix2 t d) = residue p q b t d
  /-- The sum of the rows taken. -/
  sum : ∀ (t : Fin 1024) d, t.val < 1022 → acc (ix2 t d) = total (books p) (enc p b t) q d
  /-- The error so far. -/
  err : loss = ∑ j ∈ Finset.range q, ∑ t : Fin 1022, ∑ d, sqerr (books p j) (residue p j b t) d
  /-- The distances. -/
  far : ∀ (t k : Fin 1024), t.val < 1022 → d2 (ix2 t k) = dist (books p q) (residue p q b t) k
  /-- The least of each row. -/
  least : m = minOf d2

section Step

variable {p : Params} {b : Fin 16} {q : ℕ} {r acc : FVec Ideal S1024x64 .f32} {loss : Ideal .f32} {d2 : FVec Ideal S1024x1024 .f32} {m : FVec Ideal S1024x1 .f32}

/-- The differences are those to the nearest entry. -/
theorem Stage.diff (h : Stage p b q r acc loss d2 m) (tab : FVec Ideal S1024x192 .bf16)
    (ht : ∀ k (d : Fin 64), tab (ix2 k ⟨d.val, by omega⟩) = books p q k d ∧ tab (ix2 k ⟨64 + d.val, by omega⟩) = (0 : EReal) ∧ tab (ix2 k ⟨128 + d.val, by omega⟩) = (0 : EReal))
    (t : Fin 1024) (d : Fin 64) (hl : t.val < 1022) :
    diffOf places tab r d2 m (ix2 t d) = near (books p q) (residue p q b t) d - residue p q b t d := by
  rw [h.least]
  exact diffOf_at places places_at tab r d2 (books p q) _ t (fun k d => (ht k d).1) (fun k d => (ht k d).2.1) (fun k d => (ht k d).2.2)
    (fun d => h.left t d hl) (fun k => h.far t k hl) d

/-- One more quantizer, without the distances of the next. -/
theorem Stage.next (h : Stage p b q r acc loss d2 m) (tab : FVec Ideal S1024x192 .bf16)
    (ht : ∀ k (d : Fin 64), tab (ix2 k ⟨d.val, by omega⟩) = books p q k d ∧ tab (ix2 k ⟨64 + d.val, by omega⟩) = (0 : EReal) ∧ tab (ix2 k ⟨128 + d.val, by omega⟩) = (0 : EReal)) :
    (∀ (t : Fin 1024) d, t.val < 1022 → subf r (addf r (diffOf places tab r d2 m)) (ix2 t d) = residue p (q + 1) b t d)
    ∧ (∀ (t : Fin 1024) d, t.val < 1022 → addf acc (addf r (diffOf places tab r d2 m)) (ix2 t d) = total (books p) (enc p b t) (q + 1) d)
    ∧ Scalar.addf loss (errOf k0_pay7 (diffOf places tab r d2 m)) = ∑ j ∈ Finset.range (q + 1), ∑ t : Fin 1022, ∑ d, sqerr (books p j) (residue p j b t) d := by
  have hd := h.diff tab ht
  have he := errOf_eq k0_pay7 kept_at (diffOf places tab r d2 m) (fun t d => sqerr (books p q) (residue p q b t) d)
    fun t d hl => by rw [hd t d hl]; rfl
  generalize diffOf places tab r d2 m = e at hd he
  refine ⟨fun t d hl => ?_, fun t d hl => ?_, ?_⟩
  · pointwise [h.left t d hl, hd t d hl]
    rfl
  · pointwise [h.left t d hl, hd t d hl, h.sum t d hl]
    rfl
  · rw [Finset.sum_range_succ, he, ← h.err]
    rfl

/-- One more quantizer. -/
theorem Stage.step (h : Stage p b q r acc loss d2 m) (tab : FVec Ideal S1024x192 .bf16)
    (ht : ∀ k (d : Fin 64), tab (ix2 k ⟨d.val, by omega⟩) = books p q k d ∧ tab (ix2 k ⟨64 + d.val, by omega⟩) = (0 : EReal) ∧ tab (ix2 k ⟨128 + d.val, by omega⟩) = (0 : EReal))
    (B : FVec Ideal S1024x64 .bf16) (c : FVec Ideal S1024 .f32) (hB : ∀ k d, B (ix2 k d) = books p (q + 1) k d)
    (hc : ∀ k, c (ix1 k) = ∑ d, books p (q + 1) k d * books p (q + 1) k d) :
    Stage p b (q + 1) (subf r (addf r (diffOf places tab r d2 m))) (addf acc (addf r (diffOf places tab r d2 m)))
      (Scalar.addf loss (errOf k0_pay7 (diffOf places tab r d2 m))) (distOf B c (subf r (addf r (diffOf places tab r d2 m))))
      (minOf (distOf B c (subf r (addf r (diffOf places tab r d2 m))))) where
  left := (h.next tab ht).1
  sum := (h.next tab ht).2.1
  err := (h.next tab ht).2.2
  far := fun t k hl => distOf_at B c _ (books p (q + 1)) _ t k hB hc fun d => (h.next tab ht).1 t d hl
  least := rfl

end Step

section Stages

variable {p : Params} {b : Fin 16} {v47 : Vec Ideal S8x1024x64 .f32} (h47 : ∀ q k d, v47 (ix3 q k d) = p.cb (ix3 q k d)) (hfin : ∀ i, p.cb i ≠ ⊤ ∧ p.cb i ≠ ⊥)
  {r acc : FVec Ideal S1024x64 .f32} {loss : Ideal .f32} {d2 : FVec Ideal S1024x1024 .f32} {n : FVec Ideal S1024x1 .f32} {m : FVec Ideal S1024 .f32}

include h47

/-- What holds at the start, for the encoder's rows. -/
theorem stage0 {v36 : FVec Ideal S1024x512 .f32} {v40 : Vec Ideal S512x64 .bf16} {v43 : Vec Ideal S1x64 .f32}
    (he : ∀ (t : Fin 1024) d, t.val < 1022 → k0_pay3 v36 v40 v43 (ix2 t d) = enc p b t d) :
    Stage p b 0 (k0_pay3 v36 v40 v43) k0_pay8 (Scalar.ofBits .f32 0x00000000#32) (k0_pay9 v36 v40 v43 v47) (k0_pay10 v36 v40 v43 v47) where
  left := he
  sum := fun t d _ => by
    unfold k0_pay8
    pointwise
    rfl
  err := by
    rw [Finset.range_zero, Finset.sum_empty]
    exact Ideal.ofBits_zero ..
  far := fun t k hl => distOf_at _ _ _ (books p 0) _ t k (book_at p v47 h47 0 (by omega) slices_S8x1024x64_o0_0_0_S1x1024x64)
    (norm_at p v47 h47 0 (by omega) slices_S8x1024_o0_0_S1x1024) fun d => he t d hl
  least := rfl

include hfin

/-- The first quantizer. -/
theorem stage1 (h : Stage p b 0 r acc (Scalar.ofBits .f32 0x00000000#32) d2 n) :
    Stage p b 1 (k0_pay15 r (k0_pay5 v47) places d2 n) (k0_pay14 r (k0_pay5 v47) places acc d2 n) (k0_pay12 r (k0_pay5 v47) k0_pay7 places d2 n)
      (k0_pay16 r (k0_pay4 v47) (k0_pay5 v47) (k0_pay6 v47) places d2 n) (shapeCast S1024x1 (k0_pay17 r (k0_pay4 v47) (k0_pay5 v47) (k0_pay6 v47) places d2 n) shapeCasts_S1024_S1024x1) :=
  h.step _ (tab_at p v47 h47 hfin 0 (by omega) slices_S8x1024x192_o0_0_0_S1x1024x192) _ _ (book_at p v47 h47 1 (by omega) slices_S8x1024x64_o1_0_0_S1x1024x64)
    (norm_at p v47 h47 1 (by omega) slices_S8x1024_o1_0_S1x1024)

/-- The second quantizer. -/
theorem stage2 (h : Stage p b 1 r acc loss d2 (shapeCast S1024x1 m shapeCasts_S1024_S1024x1)) :
    Stage p b 2 (k0_pay22 (k0_pay5 v47) places r d2 m) (k0_pay21 (k0_pay5 v47) places acc r d2 m) (k0_pay19 (k0_pay5 v47) k0_pay7 places loss r d2 m)
      (k0_pay23 (k0_pay4 v47) (k0_pay5 v47) (k0_pay6 v47) places r d2 m) (shapeCast S1024x1 (k0_pay24 (k0_pay4 v47) (k0_pay5 v47) (k0_pay6 v47) places r d2 m) shapeCasts_S1024_S1024x1) :=
  h.step _ (tab_at p v47 h47 hfin 1 (by omega) slices_S8x1024x192_o1_0_0_S1x1024x192) _ _ (book_at p v47 h47 2 (by omega) slices_S8x1024x64_o2_0_0_S1x1024x64)
    (norm_at p v47 h47 2 (by omega) slices_S8x1024_o2_0_S1x1024)

/-- The third quantizer. -/
theorem stage3 (h : Stage p b 2 r acc loss d2 (shapeCast S1024x1 m shapeCasts_S1024_S1024x1)) :
    Stage p b 3 (k0_pay29 (k0_pay5 v47) places r d2 m) (k0_pay28 (k0_pay5 v47) places acc r d2 m) (k0_pay26 (k0_pay5 v47) k0_pay7 places loss r d2 m)
      (k0_pay30 (k0_pay4 v47) (k0_pay5 v47) (k0_pay6 v47) places r d2 m) (shapeCast S1024x1 (k0_pay31 (k0_pay4 v47) (k0_pay5 v47) (k0_pay6 v47) places r d2 m) shapeCasts_S1024_S1024x1) :=
  h.step _ (tab_at p v47 h47 hfin 2 (by omega) slices_S8x1024x192_o2_0_0_S1x1024x192) _ _ (book_at p v47 h47 3 (by omega) slices_S8x1024x64_o3_0_0_S1x1024x64)
    (norm_at p v47 h47 3 (by omega) slices_S8x1024_o3_0_S1x1024)

/-- The fourth quantizer. -/
theorem stage4 (h : Stage p b 3 r acc loss d2 (shapeCast S1024x1 m shapeCasts_S1024_S1024x1)) :
    Stage p b 4 (k0_pay36 (k0_pay5 v47) places r d2 m) (k0_pay35 (k0_pay5 v47) places acc r d2 m) (k0_pay33 (k0_pay5 v47) k0_pay7 places loss r d2 m)
      (k0_pay37 (k0_pay4 v47) (k0_pay5 v47) (k0_pay6 v47) places r d2 m) (shapeCast S1024x1 (k0_pay38 (k0_pay4 v47) (k0_pay5 v47) (k0_pay6 v47) places r d2 m) shapeCasts_S1024_S1024x1) :=
  h.step _ (tab_at p v47 h47 hfin 3 (by omega) slices_S8x1024x192_o3_0_0_S1x1024x192) _ _ (book_at p v47 h47 4 (by omega) slices_S8x1024x64_o4_0_0_S1x1024x64)
    (norm_at p v47 h47 4 (by omega) slices_S8x1024_o4_0_S1x1024)

/-- The fifth quantizer. -/
theorem stage5 (h : Stage p b 4 r acc loss d2 (shapeCast S1024x1 m shapeCasts_S1024_S1024x1)) :
    Stage p b 5 (k0_pay43 (k0_pay5 v47) places r d2 m) (k0_pay42 (k0_pay5 v47) places acc r d2 m) (k0_pay40 (k0_pay5 v47) k0_pay7 places loss r d2 m)
      (k0_pay44 (k0_pay4 v47) (k0_pay5 v47) (k0_pay6 v47) places r d2 m) (shapeCast S1024x1 (k0_pay45 (k0_pay4 v47) (k0_pay5 v47) (k0_pay6 v47) places r d2 m) shapeCasts_S1024_S1024x1) :=
  h.step _ (tab_at p v47 h47 hfin 4 (by omega) slices_S8x1024x192_o4_0_0_S1x1024x192) _ _ (book_at p v47 h47 5 (by omega) slices_S8x1024x64_o5_0_0_S1x1024x64)
    (norm_at p v47 h47 5 (by omega) slices_S8x1024_o5_0_S1x1024)

/-- The sixth quantizer. -/
theorem stage6 (h : Stage p b 5 r acc loss d2 (shapeCast S1024x1 m shapeCasts_S1024_S1024x1)) :
    Stage p b 6 (k0_pay50 (k0_pay5 v47) places r d2 m) (k0_pay49 (k0_pay5 v47) places acc r d2 m) (k0_pay47 (k0_pay5 v47) k0_pay7 places loss r d2 m)
      (k0_pay51 (k0_pay4 v47) (k0_pay5 v47) (k0_pay6 v47) places r d2 m) (shapeCast S1024x1 (k0_pay52 (k0_pay4 v47) (k0_pay5 v47) (k0_pay6 v47) places r d2 m) shapeCasts_S1024_S1024x1) :=
  h.step _ (tab_at p v47 h47 hfin 5 (by omega) slices_S8x1024x192_o5_0_0_S1x1024x192) _ _ (book_at p v47 h47 6 (by omega) slices_S8x1024x64_o6_0_0_S1x1024x64)
    (norm_at p v47 h47 6 (by omega) slices_S8x1024_o6_0_S1x1024)

/-- The seventh quantizer. -/
theorem stage7 (h : Stage p b 6 r acc loss d2 (shapeCast S1024x1 m shapeCasts_S1024_S1024x1)) :
    Stage p b 7 (k0_pay57 (k0_pay5 v47) places r d2 m) (k0_pay56 (k0_pay5 v47) places acc r d2 m) (k0_pay54 (k0_pay5 v47) k0_pay7 places loss r d2 m)
      (k0_pay58 (k0_pay4 v47) (k0_pay5 v47) (k0_pay6 v47) places r d2 m) (shapeCast S1024x1 (k0_pay59 (k0_pay4 v47) (k0_pay5 v47) (k0_pay6 v47) places r d2 m) shapeCasts_S1024_S1024x1) :=
  h.step _ (tab_at p v47 h47 hfin 6 (by omega) slices_S8x1024x192_o6_0_0_S1x1024x192) _ _ (book_at p v47 h47 7 (by omega) slices_S8x1024x64_o7_0_0_S1x1024x64)
    (norm_at p v47 h47 7 (by omega) slices_S8x1024_o7_0_S1x1024)

/-- The last quantizer: the rows handed to the decoder. -/
theorem stage8_rows (h : Stage p b 7 r acc loss d2 (shapeCast S1024x1 m shapeCasts_S1024_S1024x1)) (t : Fin 1024) (d : Fin 64) (hl : t.val < 1022) :
    k0_pay62 (k0_pay5 v47) k0_pay7 places acc r d2 m (ix2 t d) = code p b t d := by
  have hn := (h.next _ (tab_at p v47 h47 hfin 7 (by omega) slices_S8x1024x192_o7_0_0_S1x1024x192)).2.1 t d hl
  have hk := kept_at t
  rw [if_pos hl] at hk
  unfold k0_pay62
  change addf acc (addf r (k0_pay60 (k0_pay5 v47) places r d2 m)) (ix2 t d) = _ at hn
  generalize k0_pay60 (k0_pay5 v47) places r d2 m = e at hn
  generalize k0_pay7 = k at hk
  have h1 : (FloatOps.sitofp FTy.f32 (BitVec.setWidth 32 1#1) : Ideal .f32) = (1 : EReal) := by
    show (((BitVec.setWidth 32 1#1).toInt : ℝ) : EReal) = 1
    norm_num
  pointwise [hk]
  rw [h1, mul_one]
  exact hn

/-- The last quantizer: the error, scaled and added. -/
theorem stage8_err (h : Stage p b 7 r acc loss d2 (shapeCast S1024x1 m shapeCasts_S1024_S1024x1)) (z : Ideal .f32) :
    k0_pay61 (k0_pay5 v47) k0_pay7 places loss r d2 m z
      = (z + (∑ j ∈ Finset.range 8, ∑ t : Fin 1022, ∑ d, sqerr (books p j) (residue p j b t) d) * ((5 / 4186112 : ℝ) : EReal) : EReal) := by
  rw [← (h.next _ (tab_at p v47 h47 hfin 7 (by omega) slices_S8x1024x192_o7_0_0_S1x1024x192)).2.2]
  rfl

end Stages

end Cert.KernelIdeal.Body
-- ==== Proof.KerDec.lean ====
/- The decoder of the kernel: what it stores in its four outputs are the decoded signal's rows, every fourth one each. -/
module

public import proofs.«01_k».proof.Proof.Gen.KernelIdeal.Skeleton
public import proofs.«01_k».proof.Proof.Model
public import Idealize.ShloMosaic.Lib.Pointwise
public import Idealize.ShloMosaic.Lib.WordCmp

@[expose] public section

set_option maxRecDepth 16384

noncomputable section

namespace Cert.KernelIdeal.Body

open Idealize.ShloMosaic Idealize.ShloMosaic.TcCoe Idealize.SL.Sem Cert.KernelIdeal Cert.KernelIdeal.Gen Cert.Spec

/-- The numbers of the rows. -/
abbrev rows : IVec S1024x1 32 := iota .tc S1024x1 32 [0] iota_S1024x1_d0_w32

/-- A row's number as a word. -/
theorem rows_at (t : Fin 1024) : rows (ix2 t 0) = BitVec.ofNat 32 t.val := by
  pointwise

/-- A row's number is below a bound as words as it is as numbers. -/
theorem rows_lt (t : Fin 1024) (n : ℕ) (hn : n < 2 ^ 31) : IntOp.cmpi .slt (BitVec.ofNat 32 t.val) (BitVec.ofNat 32 n) = if t.val < n then 1#1 else 0#1 := by
  have := t.isLt
  split_ifs with h
  · exact (WordCmp.cmpi_slt_ofNat_eq_one_iff (by omega) (by omega)).mpr h
  · exact (WordCmp.cmpi_slt_ofNat_eq_zero_iff (by omega) (by omega)).mpr (by omega)

/-- The first layer of the decoder, zero past the last row. -/
theorem pay63_at (z : FVec Ideal S1024x64 .bf16) (wt : Vec Ideal S64x512 .bf16) (bt : Vec Ideal S1x512 .f32) (x : Seq 64)
    (w : Fin 512 → Fin 64 → EReal) (β : Fin 512 → EReal) (hx : ∀ (t : Fin 1024) d, t.val < 1022 → z (ix2 t d) = x t d)
    (hw : ∀ c o, wt (ix2 c o) = w o c) (hβ : ∀ o, bt (ix2 0 o) = β o) (t : Fin 1024) (o : Fin 512) :
    k0_pay63 rows z wt bt (ix2 t o) = here 1022 (relu (conv1 w β x)) t o := by
  unfold k0_pay63
  generalize hr : rows = r
  have hr' : ∀ t, r (ix2 t 0) = BitVec.ofNat 32 t.val := hr ▸ rows_at
  unfold here
  by_cases h : t.val < 1022
  · pointwise [hr', rows_lt t 1022 (by decide), h, relu, conv1, hw, hβ]
    simp only [hx t _ h, mul_comm]
  · pointwise [hr', rows_lt t 1022 (by decide), h]

/-- The row before, with nothing before the first, when the last row is zero or left out. -/
theorem shift_at (x : ℕ → EReal) (t : Fin 1024) :
    Scalar.select (IntOp.cmpi .eq (BitVec.ofNat 32 t.val) 0#32) (((0#32 : BitVec 32).toInt : ℝ) : EReal) (x ((t.val + 1024 - 1) % 1024)) = if t.val = 0 then 0 else x (t.val - 1) := by
  have := t.isLt
  split_ifs with h
  · rw [h]
    simp [Scalar.select, IntOp.cmpi]
  · rw [show (t.val + 1024 - 1) % 1024 = t.val - 1 by omega, show IntOp.cmpi .eq (BitVec.ofNat 32 t.val) 0#32 = 0#1 from
      (WordCmp.cmpi_eq_ofNat_eq_zero_iff (a := t.val) (b := 0) (by omega) (by omega)).mpr h]
    simp [Scalar.select]

/-- The rows of the first layer before. -/
theorem pay64_at (z : FVec Ideal S1024x64 .bf16) (wt : Vec Ideal S64x512 .bf16) (bt : Vec Ideal S1x512 .f32) (x : Seq 512)
    (hx : ∀ t o, k0_pay63 rows z wt bt (ix2 t o) = here 1022 x t o) (t : Fin 1024) (o : Fin 512) :
    k0_pay64 rows z wt bt (ix2 t o) = prev 1022 x t o := by
  unfold k0_pay64
  generalize k0_pay63 rows z wt bt = y at hx
  generalize hr : rows = r
  have hr' : ∀ t, r (ix2 t 0) = BitVec.ofNat 32 t.val := hr ▸ rows_at
  pointwise [hr', hx]
  refine (shift_at (fun s => here 1022 x s o) t).trans ?_
  unfold here prev
  split_ifs <;> first | rfl | omega

/-- The second layer at an even place. -/
theorem pay65_at (z : FVec Ideal S1024x64 .bf16) (wt : Vec Ideal S64x512 .bf16) (bt : Vec Ideal S1x512 .f32) (w0 w2 : Vec Ideal S512x256 .bf16)
    (b2 : Vec Ideal S1x256 .f32) (x : Seq 512) (w : Fin 512 → Fin 256 → Fin 4 → EReal) (β : Fin 256 → EReal)
    (hx : ∀ t o, k0_pay63 rows z wt bt (ix2 t o) = here 1022 x t o) (h0 : ∀ c o, w0 (ix2 c o) = w c o 0)
    (h2 : ∀ c o, w2 (ix2 c o) = w c o 2) (hβ : ∀ o, b2 (ix2 0 o) = β o) (t : Fin 1024) (o : Fin 256) :
    k0_pay65 rows z wt bt w0 w2 b2 (ix2 t o) = relu (tconv 1022 w β x) (2 * t.val) o := by
  have hy := pay64_at z wt bt x hx
  unfold k0_pay65
  generalize k0_pay63 rows z wt bt = y at hx
  generalize k0_pay64 rows z wt bt = y' at hy
  pointwise [hx, hy, h0, h2, hβ]
  simp only [relu, tconv, Nat.mul_mod_right, Nat.mul_div_right _ (show 0 < 2 by decide), if_true, mul_comm (w _ _ _)]
  rw [add_comm (∑ c, here 1022 x t c * w c o 0)]

/-- The second layer at an odd place, zero past the last row. -/
theorem pay67_at (y y' : FVec Ideal S1024x512 .bf16) (w1 w3 : Vec Ideal S512x256 .bf16)
    (b2 : Vec Ideal S1x256 .f32) (x : Seq 512) (w : Fin 512 → Fin 256 → Fin 4 → EReal) (β : Fin 256 → EReal)
    (hx : ∀ t o, y (ix2 t o) = here 1022 x (t : Fin 1024).val o) (hy : ∀ t o, y' (ix2 t o) = prev 1022 x (t : Fin 1024).val o)
    (h1 : ∀ c o, w1 (ix2 c o) = w c o 1)
    (h3 : ∀ c o, w3 (ix2 c o) = w c o 3) (hβ : ∀ o, b2 (ix2 0 o) = β o) (t : Fin 1024) (o : Fin 256) :
    k0_pay67 rows y y' w1 w3 b2 (ix2 t o) = here 2046 (relu (tconv 1022 w β x)) (2 * t.val + 1) o := by
  unfold k0_pay67
  generalize hr : rows = r
  have hr' : ∀ t, r (ix2 t 0) = BitVec.ofNat 32 t.val := hr ▸ rows_at
  unfold here
  by_cases h : t.val < 1023
  · have e1 : (2 * t.val + 1) % 2 ≠ 0 := by omega
    have e2 : (2 * t.val + 1) / 2 = t.val := by omega
    rw [if_pos (by omega)]
    pointwise [hr', rows_lt t 1023 (by decide), h, hx, hy, h1, h3, hβ]
    simp only [relu, tconv, if_neg e1, e2, mul_comm (w _ _ _)]
    rw [add_comm (∑ c, here 1022 x t c * w c o 1)]
  · rw [if_neg (by omega)]
    pointwise [hr', rows_lt t 1023 (by decide), h]

/-- The second layer's odd rows, one before. -/
theorem pay68_at (y y' : FVec Ideal S1024x512 .bf16) (w1 w3 : Vec Ideal S512x256 .bf16) (b2 : Vec Ideal S1x256 .f32) (e : Seq 256)
    (hx : ∀ t o, k0_pay67 rows y y' w1 w3 b2 (ix2 t o) = here 2046 e (2 * t.val + 1) o) (t : Fin 1024) (o : Fin 256) :
    k0_pay68 rows y y' w1 w3 b2 (ix2 t o) = prev 2046 e (2 * t.val) o := by
  unfold k0_pay68
  generalize k0_pay67 rows y y' w1 w3 b2 = z at hx
  generalize hr : rows = r
  have hr' : ∀ t, r (ix2 t 0) = BitVec.ofNat 32 t.val := hr ▸ rows_at
  pointwise [hr', hx]
  refine (shift_at (fun s => here 2046 e (2 * s + 1) o) t).trans ?_
  unfold here prev
  split_ifs <;> first | rfl | omega | exact congrFun (congrArg e (by omega)) o

/-- The second layer's even rows, zero past the last. -/
theorem pay66_at (z : FVec Ideal S1024x256 .f32) (e : Seq 256) (hz : ∀ t o, z (ix2 t o) = e (2 * (t : Fin 1024).val) o) (t : Fin 1024) (o : Fin 256) :
    k0_pay66 rows z (ix2 t o) = here 2046 e (2 * t.val) o := by
  unfold k0_pay66
  generalize hr : rows = r
  have hr' : ∀ t, r (ix2 t 0) = BitVec.ofNat 32 t.val := hr ▸ rows_at
  unfold here
  by_cases h : t.val < 1023
  · rw [if_pos (by omega)]
    pointwise [hr', rows_lt t 1023 (by decide), h, hz]
  · rw [if_neg (by omega)]
    pointwise [hr', rows_lt t 1023 (by decide), h]

/-- What is here at an even row is what was before the odd row after it. -/
theorem prev_succ (e : Seq 256) (t : ℕ) (o : Fin 256) : prev 2046 e (2 * t + 1) o = here 2046 e (2 * t) o := by
  unfold here prev
  split_ifs <;> first | rfl | omega

/-- The third layer at an even place, from the two sums the kernel adds. -/
theorem tconv_even (e : Seq 256) (w : Fin 256 → Fin 128 → Fin 4 → EReal) (β : Fin 128 → EReal) (m : ℕ) (o : Fin 128) :
    max ((∑ c, here 2046 e m c * w c o 0) + (∑ c, prev 2046 e m c * w c o 2) + β o) 0 = relu (tconv 2046 w β e) (2 * m) o := by
  simp only [relu, tconv, Nat.mul_mod_right, Nat.mul_div_right _ (show 0 < 2 by decide), if_true, mul_comm (w _ _ _)]
  rw [add_comm (∑ c, here 2046 e m c * w c o 0)]

/-- The third layer at an odd place, from the two sums the kernel adds. -/
theorem tconv_odd (e : Seq 256) (w : Fin 256 → Fin 128 → Fin 4 → EReal) (β : Fin 128 → EReal) (m : ℕ) (o : Fin 128) :
    max ((∑ c, here 2046 e m c * w c o 1) + (∑ c, prev 2046 e m c * w c o 3) + β o) 0 = relu (tconv 2046 w β e) (2 * m + 1) o := by
  have e1 : (2 * m + 1) % 2 ≠ 0 := by omega
  have e2 : (2 * m + 1) / 2 = m := by omega
  simp only [relu, tconv, if_neg e1, e2, mul_comm (w _ _ _)]
  rw [add_comm (∑ c, here 2046 e m c * w c o 1)]

section Third

variable (z : FVec Ideal S1024x256 .f32) (y y' : FVec Ideal S1024x256 .bf16) (bt : Vec Ideal S1x128 .f32) (e : Seq 256)
  (w : Fin 256 → Fin 128 → Fin 4 → EReal) (β : Fin 128 → EReal) (wa wb : Vec Ideal S256x128 .bf16)
  (w4 : Vec Ideal S128x64 .bf16) (b4 : Vec Ideal S1x64 .f32) (u : Fin 64 → Fin 128 → EReal) (γ : Fin 64 → EReal)

/-- The last layer at a row, from the row of the third. -/
theorem conv_row (x : Seq 128) (n : ℕ) (f : Fin 128 → EReal) (hf : ∀ c, f c = x n c) (o : Fin 64) :
    (∑ c, f c * u o c) + γ o = conv1 u γ x n o := by
  simp only [conv1, hf, mul_comm (u _ _)]

/-- The first output: the rows 0, 4, 8, … -/
theorem out0_at (he : ∀ t o, k0_pay66 rows z (ix2 t o) = here 2046 e (2 * t.val) o) (hp : ∀ t o, y (ix2 t o) = prev 2046 e (2 * (t : Fin 1024).val) o)
    (ha : ∀ c o, wa (ix2 c o) = w c o 0) (hb : ∀ c o, wb (ix2 c o) = w c o 2) (hβ : ∀ o, bt (ix2 0 o) = β o)
    (hu : ∀ c o, w4 (ix2 c o) = u o c) (hγ : ∀ o, b4 (ix2 0 o) = γ o) (o : Fin 64) (t : Fin 1024) :
    k0_pay78 (k0_pay71 y (k0_pay69 bt) (k0_pay70 rows z wa) wb) w4 b4 (ix3 0 o t) = conv1 u γ (relu (tconv 2046 w β e)) (4 * t.val) o := by
  unfold k0_pay78 k0_pay76 k0_pay77
  have h : ∀ c, k0_pay71 y (k0_pay69 bt) (k0_pay70 rows z wa) wb (ix2 t c) = relu (tconv 2046 w β e) (4 * t.val) c := by
    intro c
    unfold k0_pay71 k0_pay69 k0_pay70
    generalize k0_pay66 rows z = y0 at he
    pointwise [he, hp, ha, hb, hβ]
    exact (tconv_even e w β (2 * t.val) c).trans (by rw [show 2 * (2 * t.val) = 4 * t.val by omega])
  generalize k0_pay71 y (k0_pay69 bt) (k0_pay70 rows z wa) wb = q at h
  pointwise [hu, hγ]
  exact conv_row u γ _ _ _ h o

/-- The second output: the rows 1, 5, 9, … -/
theorem out1_at (he : ∀ t o, k0_pay66 rows z (ix2 t o) = here 2046 e (2 * t.val) o) (hp : ∀ t o, y (ix2 t o) = prev 2046 e (2 * (t : Fin 1024).val) o)
    (ha : ∀ c o, wa (ix2 c o) = w c o 1) (hb : ∀ c o, wb (ix2 c o) = w c o 3) (hβ : ∀ o, bt (ix2 0 o) = β o)
    (hu : ∀ c o, w4 (ix2 c o) = u o c) (hγ : ∀ o, b4 (ix2 0 o) = γ o) (o : Fin 64) (t : Fin 1024) :
    k0_pay79 (k0_pay72 (k0_pay66 rows z) y (k0_pay69 bt) wa wb) w4 b4 (ix3 0 o t) = conv1 u γ (relu (tconv 2046 w β e)) (4 * t.val + 1) o := by
  unfold k0_pay79 k0_pay76 k0_pay77
  have h : ∀ c, k0_pay72 (k0_pay66 rows z) y (k0_pay69 bt) wa wb (ix2 t c) = relu (tconv 2046 w β e) (4 * t.val + 1) c := by
    intro c
    unfold k0_pay72 k0_pay69
    generalize k0_pay66 rows z = y0 at he
    pointwise [he, hp, ha, hb, hβ]
    exact (tconv_odd e w β (2 * t.val) c).trans (by rw [show 2 * (2 * t.val) = 4 * t.val by omega])
  generalize k0_pay72 (k0_pay66 rows z) y (k0_pay69 bt) wa wb = q at h
  pointwise [hu, hγ]
  exact conv_row u γ _ _ _ h o

/-- The third output: the rows 2, 6, 10, … -/
theorem out2_at (he : ∀ t o, k0_pay66 rows z (ix2 t o) = here 2046 e (2 * t.val) o) (ho : ∀ t o, y' (ix2 t o) = here 2046 e (2 * (t : Fin 1024).val + 1) o)
    (ha : ∀ c o, wa (ix2 c o) = w c o 0) (hb : ∀ c o, wb (ix2 c o) = w c o 2) (hβ : ∀ o, bt (ix2 0 o) = β o)
    (hu : ∀ c o, w4 (ix2 c o) = u o c) (hγ : ∀ o, b4 (ix2 0 o) = γ o) (o : Fin 64) (t : Fin 1024) :
    k0_pay80 (k0_pay73 (k0_pay66 rows z) y' (k0_pay69 bt) wa wb) w4 b4 (ix3 0 o t) = conv1 u γ (relu (tconv 2046 w β e)) (4 * t.val + 2) o := by
  unfold k0_pay80 k0_pay76 k0_pay77
  have h : ∀ c, k0_pay73 (k0_pay66 rows z) y' (k0_pay69 bt) wa wb (ix2 t c) = relu (tconv 2046 w β e) (4 * t.val + 2) c := by
    intro c
    unfold k0_pay73 k0_pay69
    generalize k0_pay66 rows z = y0 at he
    pointwise [he, ho, ha, hb, hβ]
    simp only [← prev_succ]
    exact (tconv_even e w β (2 * t.val + 1) c).trans (by rw [show 2 * (2 * t.val + 1) = 4 * t.val + 2 by omega])
  generalize k0_pay73 (k0_pay66 rows z) y' (k0_pay69 bt) wa wb = q at h
  pointwise [hu, hγ]
  exact conv_row u γ _ _ _ h o

/-- The fourth output: the rows 3, 7, 11, … -/
theorem out3_at (he : ∀ t o, k0_pay66 rows z (ix2 t o) = here 2046 e (2 * t.val) o) (ho : ∀ t o, y' (ix2 t o) = here 2046 e (2 * (t : Fin 1024).val + 1) o)
    (ha : ∀ c o, wa (ix2 c o) = w c o 1) (hb : ∀ c o, wb (ix2 c o) = w c o 3) (hβ : ∀ o, bt (ix2 0 o) = β o)
    (hu : ∀ c o, w4 (ix2 c o) = u o c) (hγ : ∀ o, b4 (ix2 0 o) = γ o) (o : Fin 64) (t : Fin 1024) :
    k0_pay1 (k0_pay81 (k0_pay74 (k0_pay66 rows z) y' wa wb) (k0_pay75 (k0_pay69 bt)) w4 b4) (ix3 0 o t) = conv1 u γ (relu (tconv 2046 w β e)) (4 * t.val + 3) o := by
  unfold k0_pay1 k0_pay81 k0_pay76 k0_pay77
  have h : ∀ c, max (k0_pay74 (k0_pay66 rows z) y' wa wb (ix2 t c) + k0_pay75 (k0_pay69 bt) (ix2 t c)) 0 = relu (tconv 2046 w β e) (4 * t.val + 3) c := by
    intro c
    unfold k0_pay74 k0_pay75 k0_pay69
    generalize k0_pay66 rows z = y0 at he
    pointwise [he, ho, ha, hb, hβ]
    simp only [← prev_succ]
    exact (tconv_odd e w β (2 * t.val + 1) c).trans (by rw [show 2 * (2 * t.val + 1) + 1 = 4 * t.val + 3 by omega])
  generalize k0_pay74 (k0_pay66 rows z) y' wa wb = q at h
  generalize k0_pay75 (k0_pay69 bt) = q' at h
  pointwise [hu, hγ]
  exact conv_row u γ _ _ _ h o

end Third

end Cert.KernelIdeal.Body
-- ==== Proof.KerPoint.lean ====
/- What the kernel stores at a point of its grid: a batch entry's decoded rows, and the loss so far. -/
module

public import proofs.«01_k».proof.Proof.KerBlocks
public import proofs.«01_k».proof.Proof.KerEnc
public import proofs.«01_k».proof.Proof.KerStage
public import proofs.«01_k».proof.Proof.KerDec

@[expose] public section

set_option maxRecDepth 16384

noncomputable section

namespace Cert.KernelIdeal.Body

open Idealize.ShloMosaic Idealize.ShloMosaic.TcCoe Idealize.SL.Sem Cert.KernelIdeal Cert.KernelIdeal.Gen Cert.Spec

variable (m : (ℓ : Loc nD τ sig) → Buf (Elt Ideal) ℓ) (c : Dev nD) (hfin : ∀ i, (given m c).cb i ≠ ⊤ ∧ (given m c).cb i ≠ ⊥)

/-- The encoder's rows at a point. -/
theorem enc_point (t : Fin cfg0.N) (s : Fin 1024) (d : Fin 64) (hs : s.val < 1022) :
    k0_pay3 (k0_pay2 (iblk m c 0 t) (iblk m c 1 t) (iblk m c 2 t) (iblk m c 3 t) (iblk m c 4 t) (iblk m c 5 t) (iblk m c 6 t)) (iblk m c 7 t) (iblk m c 8 t) (ix2 s d)
      = enc (given m c) ⟨t.val, t.isLt⟩ s d :=
  enc_at (given m c) ⟨t.val, t.isLt⟩ _ _ _ _ _ _ _ _ _ (blk0 m c t) (blk1 m c t) (blk2 m c t) (blk3 m c t) (blk4 m c t) (blk5 m c t) (blk6 m c t)
    (blk7 m c t) (blk8 m c t) s hs d

include hfin

set_option maxHeartbeats 0 in
/-- What holds before the last quantizer at a point, and what the kernel then stores in its four outputs: the last
    layer of the decoder, over the quantized rows. -/
theorem outs_point (t : Fin cfg0.N) : ∃ z : FVec Ideal S1024x64 .bf16, (∀ (s : Fin 1024) (d : Fin 64), s.val < 1022 → z (ix2 s d) = code (given m c) ⟨t.val, t.isLt⟩ s d)
    ∧ ∃ y y' e, y = k0_pay63 rows z (iblk m c 10 t) (iblk m c 11 t) ∧ y' = k0_pay64 rows z (iblk m c 10 t) (iblk m c 11 t)
      ∧ e = k0_pay65 rows z (iblk m c 10 t) (iblk m c 11 t) (iblk m c 12 t) (iblk m c 14 t) (iblk m c 16 t)
      ∧ (∀ i, (outsAt0 m c t.val t.isLt).1 i = k0_pay78 (k0_pay71 (k0_pay68 rows y y' (iblk m c 13 t) (iblk m c 15 t) (iblk m c 16 t)) (k0_pay69 (iblk m c 21 t)) (k0_pay70 rows e (iblk m c 17 t)) (iblk m c 19 t)) (iblk m c 22 t) (iblk m c 23 t) i)
      ∧ (∀ i, (outsAt0 m c t.val t.isLt).2.1 i = k0_pay79 (k0_pay72 (k0_pay66 rows e) (k0_pay68 rows y y' (iblk m c 13 t) (iblk m c 15 t) (iblk m c 16 t)) (k0_pay69 (iblk m c 21 t)) (iblk m c 18 t) (iblk m c 20 t)) (iblk m c 22 t) (iblk m c 23 t) i)
      ∧ (∀ i, (outsAt0 m c t.val t.isLt).2.2.1 i = k0_pay80 (k0_pay73 (k0_pay66 rows e) (k0_pay67 rows y y' (iblk m c 13 t) (iblk m c 15 t) (iblk m c 16 t)) (k0_pay69 (iblk m c 21 t)) (iblk m c 17 t) (iblk m c 19 t)) (iblk m c 22 t) (iblk m c 23 t) i)
      ∧ (∀ i, (outsAt0 m c t.val t.isLt).2.2.2.1 i = k0_pay1 (k0_pay81 (k0_pay74 (k0_pay66 rows e) (k0_pay67 rows y y' (iblk m c 13 t) (iblk m c 15 t) (iblk m c 16 t)) (iblk m c 18 t) (iblk m c 20 t)) (k0_pay75 (k0_pay69 (iblk m c 21 t))) (iblk m c 22 t) (iblk m c 23 t)) i) := by
  have h47 := blk9 m c t
  have h7 := stage7 h47 hfin (stage6 h47 hfin (stage5 h47 hfin (stage4 h47 hfin (stage3 h47 hfin (stage2 h47 hfin (stage1 h47 hfin (stage0 h47 (enc_point m c t))))))))
  refine ⟨_, stage8_rows h47 hfin h7, _, _, _, rfl, rfl, rfl, fun i => ?_, fun i => ?_, fun i => ?_, fun i => ?_⟩
  all_goals
    by_cases h : t.val % 16 = 0
    · rw [outsAt0_A m c t h]; frame_out
    · rw [outsAt0_B m c t h]; frame_out

/-- The four outputs at a point are the decoded rows of a batch entry, every fourth one each. -/
theorem rows_point (t : Fin cfg0.N) (o : Fin 64) (s : Fin 1024) :
    (outsAt0 m c t.val t.isLt).1 (ix3 0 o s) = dec (given m c) ⟨t.val, t.isLt⟩ (4 * s.val) o
    ∧ (outsAt0 m c t.val t.isLt).2.1 (ix3 0 o s) = dec (given m c) ⟨t.val, t.isLt⟩ (4 * s.val + 1) o
    ∧ (outsAt0 m c t.val t.isLt).2.2.1 (ix3 0 o s) = dec (given m c) ⟨t.val, t.isLt⟩ (4 * s.val + 2) o
    ∧ (outsAt0 m c t.val t.isLt).2.2.2.1 (ix3 0 o s) = dec (given m c) ⟨t.val, t.isLt⟩ (4 * s.val + 3) o := by
  obtain ⟨z, hz, y, y', e, hy, hy', he, h0, h1, h2, h3⟩ := outs_point m c hfin t
  have d1 : ∀ t' o, y (ix2 t' o) = here 1022 (dec1 (given m c) ⟨t.val, t.isLt⟩) (t' : Fin 1024).val o := fun t' o => by
    rw [hy]; exact pay63_at z _ _ _ _ _ hz (blk10 m c t) (blk11 m c t) t' o
  have d1' : ∀ t' o, y' (ix2 t' o) = prev 1022 (dec1 (given m c) ⟨t.val, t.isLt⟩) (t' : Fin 1024).val o := fun t' o => by
    rw [hy']; exact pay64_at z _ _ _ (fun t' o => by rw [← hy]; exact d1 t' o) t' o
  have d2 : ∀ t' o, k0_pay66 rows e (ix2 t' o) = here 2046 (dec2 (given m c) ⟨t.val, t.isLt⟩) (2 * (t' : Fin 1024).val) o :=
    pay66_at e _ fun t' o => by
      rw [he]; exact pay65_at z _ _ _ _ _ _ _ _ (fun t' o => by rw [← hy]; exact d1 t' o) (blk12 m c t) (blk14 m c t) (blk16 m c t) t' o
  have d2o := pay67_at y y' _ _ _ _ (fun a b k => (given m c).dw2 (ix3 a b k)) _ d1 d1' (blk13 m c t) (blk15 m c t) (blk16 m c t)
  have d2p := pay68_at y y' _ _ _ _ d2o
  refine ⟨(h0 _).trans ?_, (h1 _).trans ?_, (h2 _).trans ?_, (h3 _).trans ?_⟩
  · exact out0_at e _ _ _ (fun a b k => (given m c).dw3 (ix3 a b k)) _ _ _ _ _ _ _ d2 d2p (blk17 m c t) (blk19 m c t) (blk21 m c t) (blk22 m c t) (blk23 m c t) o s
  · exact out1_at e _ _ _ (fun a b k => (given m c).dw3 (ix3 a b k)) _ _ _ _ _ _ _ d2 d2p (blk18 m c t) (blk20 m c t) (blk21 m c t) (blk22 m c t) (blk23 m c t) o s
  · exact out2_at e _ _ _ (fun a b k => (given m c).dw3 (ix3 a b k)) _ _ _ _ _ _ _ d2 d2o (blk17 m c t) (blk19 m c t) (blk21 m c t) (blk22 m c t) (blk23 m c t) o s
  · exact out3_at e _ _ _ (fun a b k => (given m c).dw3 (ix3 a b k)) _ _ _ _ _ _ _ d2 d2o (blk18 m c t) (blk20 m c t) (blk21 m c t) (blk22 m c t) (blk23 m c t) o s

/-- The error of a batch entry, over all quantizers. -/
def errAt (p : Params) (b : Fin 16) : EReal := ∑ j ∈ Finset.range 8, ∑ t : Fin 1022, ∑ d, sqerr (books p j) (residue p j b t) d

/-- The loss after the first point. -/
theorem loss_first (t : Fin cfg0.N) (h : t.val % 16 = 0) (i) :
    (outsAt0 m c t.val t.isLt).2.2.2.2 i = (0 + errAt (given m c) ⟨t.val, t.isLt⟩ * ((5 / 4186112 : ℝ) : EReal) : EReal) := by
  have h47 := blk9 m c t
  have h7 := stage7 h47 hfin (stage6 h47 hfin (stage5 h47 hfin (stage4 h47 hfin (stage3 h47 hfin (stage2 h47 hfin (stage1 h47 hfin (stage0 h47 (enc_point m c t))))))))
  have h8 := stage8_err h47 hfin h7
  rw [outsAt0_A m c t h]; frame_out
  refine (h8 _).trans ?_
  rw [show FloatOps.ofBits (F := Ideal) FTy.f32 0#32 = (0 : EReal) from Ideal.ofBits_zero ..]
  rfl

/-- The loss after a later point. -/
theorem loss_next (t : Fin cfg0.N) (h : ¬ t.val % 16 = 0) (i) :
    (outsAt0 m c t.val t.isLt).2.2.2.2 i
      = ((outsAt0 m c (t.val - 1) (Nat.lt_of_le_of_lt (Nat.sub_le _ _) t.isLt)).2.2.2.2 i + errAt (given m c) ⟨t.val, t.isLt⟩ * ((5 / 4186112 : ℝ) : EReal) : EReal) := by
  have h47 := blk9 m c t
  have h7 := stage7 h47 hfin (stage6 h47 hfin (stage5 h47 hfin (stage4 h47 hfin (stage3 h47 hfin (stage2 h47 hfin (stage1 h47 hfin (stage0 h47 (enc_point m c t))))))))
  have h8 := stage8_err h47 hfin h7
  rw [outsAt0_B m c t h]; frame_out
  refine (h8 _).trans ?_
  clear h8 h7
  generalize (outsAt0 m c (t.val - 1) _).2.2.2.2 = X
  refine congrArg (fun a : EReal => a + errAt (given m c) ⟨t.val, t.isLt⟩ * ((5 / 4186112 : ℝ) : EReal)) ?_
  show X _ = X i
  congr 1
  funext a
  have := (i a).isLt
  fin_cases a <;> exact Subsingleton.elim (α := Fin 1) _ _

end Cert.KernelIdeal.Body
-- ==== Proof.KerOut.lean ====
/- What the kernel's output arrays hold at the end: the decoded rows, every fourth one each, and the loss. -/
module

public import proofs.«01_k».proof.Proof.KerPoint

@[expose] public section

set_option maxRecDepth 16384

noncomputable section

namespace Cert.KernelIdeal.Body

open Idealize.ShloMosaic Idealize.ShloMosaic.TcCoe Idealize.SL.Sem Cert.KernelIdeal Cert.KernelIdeal.Gen Cert.Spec

variable (m : (ℓ : Loc nD τ sig) → Buf (Elt Ideal) ℓ) (c : Dev nD) (hfin : ∀ i, (given m c).cb i ≠ ⊤ ∧ (given m c).cb i ≠ ⊥)

/-- The decoded rows of number `4 s + k`, batch by batch, as an output array holds them. -/
def quarter (p : Params) (k : ℕ) : FVec Ideal S16x64x1024 .f32 := fun j => dec p (j 0) (4 * (j 2).val + k) (j 1)

/-- A decoded row, found in the array by the batch entry it was written for. -/
theorem quarter_emb (p : Params) (k : ℕ) (t : Fin cfg0.N) (o : Fin 64) (s : Fin 1024) (j : S16x64x1024.Idx)
    (hj : j = ix3 ⟨t.val, t.isLt⟩ o s) : quarter p k j = dec p ⟨t.val, t.isLt⟩ (4 * s.val + k) o := by
  subst hj; rfl

include hfin

/-- The first output array. -/
theorem arr24 : (dats m 0 c).arrAt 24 (cfgs 0).N = quarter (given m c) 0 := by
  refine (dats m 0 c).arrAt_eq_of_covers 24 _ (by decide +kernel) fun t hf y => ?_
  blk_simp
  rw [after0_24]
  change S1x64x1024.Idx at y
  idx_vars y
  obtain rfl : y0 = 0 := Subsingleton.elim _ _
  refine ((rows_point m c hfin t y1 y2).1).trans (Eq.symm ?_)
  refine quarter_emb (given m c) 0 t y1 y2 ((win0_24.blk t).view.emb (ix3 0 y1 y2)) ?_
  blk_ext [idx_out t]

/-- The second output array. -/
theorem arr25 : (dats m 0 c).arrAt 25 (cfgs 0).N = quarter (given m c) 1 := by
  refine (dats m 0 c).arrAt_eq_of_covers 25 _ (by decide +kernel) fun t hf y => ?_
  blk_simp
  rw [after0_25]
  change S1x64x1024.Idx at y
  idx_vars y
  obtain rfl : y0 = 0 := Subsingleton.elim _ _
  refine ((rows_point m c hfin t y1 y2).2.1).trans (Eq.symm ?_)
  refine quarter_emb (given m c) 1 t y1 y2 ((win0_25.blk t).view.emb (ix3 0 y1 y2)) ?_
  blk_ext [idx_out t]

/-- The third output array. -/
theorem arr26 : (dats m 0 c).arrAt 26 (cfgs 0).N = quarter (given m c) 2 := by
  refine (dats m 0 c).arrAt_eq_of_covers 26 _ (by decide +kernel) fun t hf y => ?_
  blk_simp
  rw [after0_26]
  change S1x64x1024.Idx at y
  idx_vars y
  obtain rfl : y0 = 0 := Subsingleton.elim _ _
  refine ((rows_point m c hfin t y1 y2).2.2.1).trans (Eq.symm ?_)
  refine quarter_emb (given m c) 2 t y1 y2 ((win0_26.blk t).view.emb (ix3 0 y1 y2)) ?_
  blk_ext [idx_out t]

/-- The fourth output array. -/
theorem arr27 : (dats m 0 c).arrAt 27 (cfgs 0).N = quarter (given m c) 3 := by
  refine (dats m 0 c).arrAt_eq_of_covers 27 _ (by decide +kernel) fun t hf y => ?_
  blk_simp
  rw [after0_27]
  change S1x64x1024.Idx at y
  idx_vars y
  obtain rfl : y0 = 0 := Subsingleton.elim _ _
  refine ((rows_point m c hfin t y1 y2).2.2.2).trans (Eq.symm ?_)
  refine quarter_emb (given m c) 3 t y1 y2 ((win0_27.blk t).view.emb (ix3 0 y1 y2)) ?_
  blk_ext [idx_out t]

/-- The loss's array. -/
theorem arr28 : (dats m 0 c).arrAt 28 (cfgs 0).N = fun _ => ∑ b : Fin 16, errAt (given m c) b * ((5 / 4186112 : ℝ) : EReal) := by
  refine (dats m 0 c).arrAt_eq_of_after_last 28 t0_15 (by decide +kernel) _ fun j => ?_
  blk_simp
  rw [after0_28, Pipeline.eq_sum_fin_of_reset_step_apply_last (fun n h => (outsAt0 m c n h).2.2.2.2) 16 (fun _ => (0 : EReal))
    (fun t _ => errAt (given m c) ⟨t.val, t.isLt⟩ * ((5 / 4186112 : ℝ) : EReal)) (loss_first m c hfin) (loss_next m c hfin) (le_of_eq N_0) t0_15 rfl j, zero_add]
  rfl

end Cert.KernelIdeal.Body
-- ==== Proof.KerTail.lean ====
/- What the lines after the kernel's call make of its output arrays. -/
module

public import proofs.«01_k».proof.Proof.KerPoint

@[expose] public section

set_option maxRecDepth 16384

noncomputable section

namespace Cert.KernelIdeal.Body

open Idealize.ShloMosaic Idealize.ShloMosaic.TcCoe Idealize.SL.Sem Cert.KernelIdeal Cert.KernelIdeal.Gen Cert.Spec

set_option maxHeartbeats 0 in
/-- The kernel's first result, row by row, from the four arrays of every fourth row. -/
theorem host55 (U : Valuation τ sig (Elt Ideal)) (f : Fin 16 → Seq 64)
    (h0 : ∀ b o s, U (Proc.devRef .tc main_v48_0) (ix3 b o s) = f b (4 * (s : Fin 1024).val) o)
    (h1 : ∀ b o s, U (Proc.devRef .tc main_v48_1) (ix3 b o s) = f b (4 * (s : Fin 1024).val + 1) o)
    (h2 : ∀ b o s, U (Proc.devRef .tc main_v48_2) (ix3 b o s) = f b (4 * (s : Fin 1024).val + 2) o)
    (h3 : ∀ b o s, U (Proc.devRef .tc main_v48_3) (ix3 b o s) = f b (4 * (s : Fin 1024).val + 3) o)
    (b : Fin 16) (o : Fin 64) (n : Fin 4094) :
    StableHlo.after hostOps1 U (Proc.devRef .tc main_v55) (ix3 b o n) = f b n.val o := by
  have at_row : ∀ k, k = n.val → f b k o = f b n.val o := fun k h => by rw [h]
  after_results
  pointwise
  rcases (by omega : n.val % 4 = 0 ∨ n.val % 4 = 1 ∨ n.val % 4 = 2 ∨ n.val % 4 = 3) with e | e | e | e
  · rw [dif_pos (show n.val % 4 < 1 by omega), StableHlo.unary_result_ne (h := show main_v49 ≠ main_v52 by decide), StableHlo.unary_result_ne (h := show main_v49 ≠ main_v51 by decide), StableHlo.unary_result_ne (h := show main_v49 ≠ main_v50 by decide), StableHlo.unary_result]
    pointwise
    exact (h0 b o ⟨n.val / 4, by omega⟩).trans (at_row _ (by dsimp only; omega))
  · rw [dif_neg (show ¬ n.val % 4 < 1 by omega), dif_pos (show n.val % 4 - 1 < 1 by omega), StableHlo.unary_result_ne (h := show main_v50 ≠ main_v52 by decide), StableHlo.unary_result_ne (h := show main_v50 ≠ main_v51 by decide), StableHlo.unary_result]
    pointwise
    exact (h1 b o ⟨n.val / 4, by omega⟩).trans (at_row _ (by dsimp only; omega))
  · rw [dif_neg (show ¬ n.val % 4 < 1 by omega), dif_neg (show ¬ n.val % 4 - 1 < 1 by omega), dif_pos (show n.val % 4 - 1 - 1 < 1 by omega), StableHlo.unary_result_ne (h := show main_v51 ≠ main_v52 by decide), StableHlo.unary_result]
    pointwise
    exact (h2 b o ⟨n.val / 4, by omega⟩).trans (at_row _ (by dsimp only; omega))
  · rw [dif_neg (show ¬ n.val % 4 < 1 by omega), dif_neg (show ¬ n.val % 4 - 1 < 1 by omega), dif_neg (show ¬ n.val % 4 - 1 - 1 < 1 by omega), StableHlo.unary_result]
    pointwise
    exact (h3 b o ⟨n.val / 4, by omega⟩).trans (at_row _ (by dsimp only; omega))

/-- The kernel's second result. -/
theorem host56 (U : Valuation τ sig (Elt Ideal)) (i) :
    StableHlo.after hostOps1 U (Proc.devRef .tc main_v56) i = U (Proc.devRef .tc main_v48_4) (ix2 0 0) := by
  after_results
  pointwise

end Cert.KernelIdeal.Body
-- ==== Proof.KerLoss.lean ====
/- The loss, summed batch entry by batch entry as the kernel does, is the loss summed quantizer by quantizer. -/
module

public import proofs.«01_k».proof.Proof.KerPoint

@[expose] public section

set_option maxRecDepth 16384

noncomputable section

namespace Cert.KernelIdeal.Body

open Idealize.ShloMosaic Idealize.ShloMosaic.TcCoe Idealize.SL.Sem Cert.KernelIdeal Cert.KernelIdeal.Gen Cert.Spec

/-- A square is at least zero. -/
theorem square_nonneg (x : EReal) : 0 ≤ x * x := by
  rcases le_total 0 x with h | h
  · exact mul_nonneg h h
  · rw [← neg_mul_neg]; exact mul_nonneg (EReal.neg_nonneg.mpr h) (EReal.neg_nonneg.mpr h)

/-- A factor goes into a sum of terms at least zero. -/
theorem sum_mul_of_nonneg {ι : Type} (s : Finset ι) (f : ι → EReal) (hf : ∀ i, 0 ≤ f i) (k : EReal) : (∑ i ∈ s, f i) * k = ∑ i ∈ s, f i * k := by
  classical
  induction s using Finset.induction_on with
  | empty => simp
  | insert a s ha ih => rw [Finset.sum_insert ha, Finset.sum_insert ha, EReal.right_distrib_of_nonneg (hf a) (Finset.sum_nonneg fun i _ => hf i), ih]

/-- The squared differences of quantizer `q` over all rows. -/
def errSum (p : Params) (q : ℕ) : EReal := ∑ b : Fin 16, ∑ t : Fin 1022, ∑ d : Fin 64, sqerr (books p q) (residue p q b t) d

/-- They are at least zero. -/
theorem errSum_nonneg (p : Params) (q : ℕ) : 0 ≤ errSum p q :=
  Finset.sum_nonneg fun _ _ => Finset.sum_nonneg fun _ _ => Finset.sum_nonneg fun _ _ => square_nonneg _

/-- The loss of the first quantizers. -/
theorem lossOf_eq (p : Params) (q : ℕ) : lossOf p q = (∑ j ∈ Finset.range q, errSum p j) * ((5 / 4186112 : ℝ) : EReal) := by
  induction q with
  | zero => simp [lossOf]
  | succ q ih =>
    rw [lossOf, ih, Finset.sum_range_succ, EReal.right_distrib_of_nonneg (Finset.sum_nonneg fun j _ => errSum_nonneg p j) (errSum_nonneg p q), add_assoc]
    congr 1
    have hm : mean (books p q) (residue p q) = errSum p q * ((1 / 1046528 : ℝ) : EReal) := by
      exact Ideal.div_coe (by norm_num : (1046528 : ℝ) ≠ 0) (errSum p q)
    rw [hm, mul_left_comm, ← EReal.left_distrib_of_nonneg (EReal.coe_nonneg.mpr (by norm_num))
      (mul_nonneg (EReal.coe_nonneg.mpr (by norm_num)) (EReal.coe_nonneg.mpr (by norm_num))), ← EReal.coe_mul, ← EReal.coe_add]
    norm_num

/-- The kernel's sum. -/
theorem sum_errAt (p : Params) : ∑ b : Fin 16, errAt p b * ((5 / 4186112 : ℝ) : EReal) = lossOf p 8 := by
  rw [lossOf_eq, ← sum_mul_of_nonneg _ (errAt p) fun b => Finset.sum_nonneg fun _ _ => Finset.sum_nonneg fun _ _ => Finset.sum_nonneg fun _ _ => square_nonneg _]
  unfold errAt errSum
  rw [Finset.sum_comm]

end Cert.KernelIdeal.Body
-- ==== Proof.KerRun.lean ====
/- What the kernel's program leaves in its two results. -/
module

public import proofs.«01_k».proof.Proof.KerOut
public import proofs.«01_k».proof.Proof.KerTail
public import proofs.«01_k».proof.Proof.KerLoss

@[expose] public section

set_option maxRecDepth 16384

noncomputable section

namespace Cert.KernelIdeal.Body

open Idealize.ShloMosaic Idealize.ShloMosaic.TcCoe Idealize.SL.Sem Cert.KernelIdeal Cert.KernelIdeal.Gen Cert.Spec

variable (m : (ℓ : Loc nD τ sig) → Buf (Elt Ideal) ℓ) (ρ : Dev nD → PrngReg) (c : Dev nD)

/-- What the lines after the call find in an output array. -/
theorem found (w : Fin (cfgs 0).W) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  Pipeline.withArrays_arr _ launch0.win.arr_inj c _ _ w

variable (hfin : ∀ i, (given m c).cb i ≠ ⊤ ∧ (given m c).cb i ≠ ⊥)

include hfin

/-- The first result is the decoder's output. -/
theorem result55 (b : Fin 16) (o : Fin 64) (n : Fin 4094) :
    Pipeline.afterTail₀ cfgs (dats m) 0 (V0 m) [hostOps1] c main_v55 (ix3 b o n) = dec (given m c) b n.val o :=
  host55 _ (dec (given m c)) (fun b o s => congrFun ((found m c 24).trans (arr24 m c hfin)) (ix3 b o s))
    (fun b o s => congrFun ((found m c 25).trans (arr25 m c hfin)) (ix3 b o s))
    (fun b o s => congrFun ((found m c 26).trans (arr26 m c hfin)) (ix3 b o s))
    (fun b o s => congrFun ((found m c 27).trans (arr27 m c hfin)) (ix3 b o s)) b o n

/-- The second result is the loss. -/
theorem result56 (i) : Pipeline.afterTail₀ cfgs (dats m) 0 (V0 m) [hostOps1] c main_v56 i = lossOf (given m c) 8 :=
  (host56 _ i).trans ((congrFun ((found m c 28).trans (arr28 m c hfin)) (ix2 0 0)).trans (sum_errAt (given m c)))

omit hfin

/-- THE KERNEL'S RUN: with finite code books the results are the decoder's output and the loss, and the arguments keep their contents. -/
theorem run (hfin : ∀ c i, (given m c).cb i ≠ ⊤ ∧ (given m c).cb i ≠ ⊥) :
    θ_run defs (onTc (τ := τ) (main (F := Ideal))) ⟨m, fun _ => 0, ρ⟩ fun r => ∀ c : Dev nD,
      (∀ b o n, (r.2.mem ((c.tc : Thread nD τ).loc main_v55)) (ix3 b o n) = dec (given m c) b (n : Fin 4094).val o)
      ∧ ∀ i, (r.2.mem ((c.tc : Thread nD τ).loc main_v56)) i = lossOf (given m c) 8 :=
  (θ_run defs _ _).mono (fun r h c =>
    ⟨fun b o n => (congrFun (h.rest_eq c main_v55 (by decide)) (ix3 b o n)).trans (result55 m c (hfin c) b o n),
      fun i => (congrFun (h.rest_eq c main_v56 (by decide)) i).trans (result56 m c (hfin c) i)⟩) (run_main m ρ)

end Cert.KernelIdeal.Body
-- ==== Proof.Value.lean ====
/- The value claim: the kernel and the reference, started on the same arguments with finite code books, end with the same results. -/
module

public import proofs.«01_k».proof.Defs
public import proofs.«01_k».proof.Proof.Frames
public import proofs.«01_k».proof.Proof.KerRun

@[expose] public section

set_option maxRecDepth 16384

noncomputable section

namespace Cert.Proof

open Idealize.ShloMosaic Idealize.SL.Sem

/-- The side condition of the precondition's one broadcast. -/
theorem preFacts : Cert.Pre_finite_codebooks.Facts := ⟨by decide⟩

/-- A number whose absolute value compares below infinity is finite. -/
theorem finite_of_abs_lt (x : EReal) (h : max x (-x) < ⊤) : x ≠ ⊤ ∧ x ≠ ⊥ := by
  refine ⟨fun e => ?_, fun e => ?_⟩ <;> simp [e] at h

/-- A comparison whose bit is one holds. -/
theorem of_bit {P : Prop} [Decidable P] (h : BitVec.ofBool (decide P) = 1#1) : P := by
  by_contra hn
  rw [decide_eq_false hn] at h
  exact absurd h (by decide)

/-- The precondition says that every entry of every code book is finite. -/
theorem finite_of_pre (m : (ℓ : Loc Cert.KernelIdeal.nD Cert.KernelIdeal.τ Cert.KernelIdeal.sig) → Buf (Elt Ideal) ℓ)
    (h : Cert.Pre_KernelIdeal_finite_codebooks (hPre_finite_codebooks := preFacts) m) (c : Dev Cert.KernelIdeal.nD) (i) :
    (Cert.KernelIdeal.Body.given m c).cb i ≠ ⊤ ∧ (Cert.KernelIdeal.Body.given m c).cb i ≠ ⊥ := by
  have e := congrFun (h c) i
  refine finite_of_abs_lt _ ?_
  unfold Cert.Pre_finite_codebooks.fn at e
  idx_vars i
  pointwise at e
  rw [Cert.KernelIdeal.Body.ofBits_inf] at e
  exact of_bit e

/-- THE VALUE CLAIM: both results of the kernel are those of the reference. -/
theorem value : Cert.algebraic_KernelIdeal_ReferenceIdeal_pre_finite_codebooks (hKernelIdeal := Cert.KernelIdeal.Gen.facts)
    (hReferenceIdeal := Cert.ReferenceIdeal.Gen.facts) (hPre_finite_codebooks := preFacts) := by
  intro m g m' g' hpre harg
  have hp : ∀ c : Dev 1, Cert.ReferenceIdeal.Body.launched m' c = Cert.KernelIdeal.Body.given m c := fun c => by
    obtain ⟨a0, a1, a2, a3, a4, a5, a6, a7, a8, a9, a10, a11, a12, a13, a14, a15, a16, a17⟩ := harg c
    unfold Cert.KernelIdeal.Body.given
    rw [← a0, ← a1, ← a2, ← a3, ← a4, ← a5, ← a6, ← a7, ← a8, ← a9, ← a10, ← a11, ← a12, ← a13, ← a14, ← a15, ← a16, ← a17]
    rfl
  refine ⟨fun c j => Cert.Spec.dec (Cert.KernelIdeal.Body.given m c) (j 0) (j 2).val (j 1), fun c _ => Cert.Spec.lossOf (Cert.KernelIdeal.Body.given m c) 8, ?_, ?_⟩
  · refine (θ_run _ _ _).mono (fun r hr c => ⟨funext fun j => ?_, funext fun i => (hr.1 c).2 i, hr.2 c⟩)
      (θ_run_and (Cert.KernelIdeal.Body.run m g (finite_of_pre m hpre)) (Cert.KernelIdeal.Gen.unchanged m g))
    change Cert.KernelIdeal.S16x64x4094.Idx at j
    idx_vars j
    exact (hr.1 c).1 _ _ _
  · refine (θ_run _ _ _).mono (fun r hr c => ?_) (Cert.ReferenceIdeal.Body.run m' g')
    obtain ⟨k, e, l⟩ := hr.1 c
    refine ⟨funext fun j => ?_, funext fun i => (l i).trans (congrArg (fun p => Cert.Spec.lossOf p 8) (hp c)), ?_⟩
    · change Cert.ReferenceIdeal.S16x64x4094.Idx at j
      idx_vars j
      exact (e _ _ _).trans (congrFun (congrFun (congrFun (congrArg Cert.Spec.dec (hp c)) _) _) _)
    · exact ⟨k _ (by decide), k _ (by decide), k _ (by decide), k _ (by decide), k _ (by decide), k _ (by decide),
        k _ (by decide), k _ (by decide), k _ (by decide), k _ (by decide), k _ (by decide), k _ (by decide),
        k _ (by decide), k _ (by decide), k _ (by decide), k _ (by decide), k _ (by decide), k _ (by decide)⟩

end Cert.Proof

end
-- ==== Proof.lean ====
/- The proof of the statement: every claim of it, from the module that proves it. -/
module

public import proofs.«01_k».proof.Defs
public import proofs.«01_k».proof.Proof.Frames
public import proofs.«01_k».proof.Proof.Value

@[expose] public section

noncomputable section

namespace Cert.Proof

/-- Everything the statement claims. -/
theorem claim : Cert.Claim :=
  ⟨Cert.Kernel.Gen.facts, Cert.KernelIdeal.Gen.facts, Cert.ReferenceIdeal.Gen.facts, preFacts,
    kernel_frame, kernelIdeal_frame, fun m g _ => Cert.KernelIdeal.Gen.frame m g,
    referenceIdeal_frame, fun m g _ => referenceIdeal_frame m g trivial, preserves, value⟩

end Cert.Proof

end
